-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16)
      ∧ r.2.mem ((c.tc : Thread Cert.Kernel5.nD Cert.Kernel5.τ).loc Cert.Kernel5.main_arg17) = m ((c.tc : Thread Cert.Kernel5.nD Cert.Kernel5.τ).loc Cert.Kernel5.main_arg17)
      ∧ r.2.mem ((c.tc : Thread Cert.Kernel5.nD Cert.Kernel5.τ).loc Cert.Kernel5.main_arg18) = m ((c.tc : Thread Cert.Kernel5.nD Cert.Kernel5.τ).loc Cert.Kernel5.main_arg18))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
      ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17)
      ∧ r.2.mem ((c.tc : Thread Cert.Reference5Ideal.nD Cert.Reference5Ideal.τ).loc Cert.Reference5Ideal.main_arg18) = m ((c.tc : Thread Cert.Reference5Ideal.nD Cert.Reference5Ideal.τ).loc Cert.Reference5Ideal.main_arg18))
      ∧ r.2.sem = fun _ => 0)

def preserves_Kernel_KernelIdeal : Prop :=
  True

def preserves_Kernel2_Kernel2Ideal : Prop :=
  True

def preserves_Kernel3_Kernel3Ideal : Prop :=
  True

def preserves_Kernel4_Kernel4Ideal : Prop :=
  True

def preserves_Kernel5_Kernel5Ideal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v0) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_v5) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v19)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v92) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)
      ∧ m' ((c.tc : Thread Cert.Reference5Ideal.nD Cert.Reference5Ideal.τ).loc Cert.Reference5Ideal.main_arg17) = m ((c.tc : Thread Cert.Kernel5Ideal.nD Cert.Kernel5Ideal.τ).loc Cert.Kernel5Ideal.main_arg17)
      ∧ m' ((c.tc : Thread Cert.Reference5Ideal.nD Cert.Reference5Ideal.τ).loc Cert.Reference5Ideal.main_arg18) = m ((c.tc : Thread Cert.Kernel5Ideal.nD Cert.Kernel5Ideal.τ).loc Cert.Kernel5Ideal.main_arg18)) →
    ∃ (v0 : (c : Dev Cert.Kernel5Ideal.nD) → Buf (Elt Ideal) ((c.tc : Thread Cert.Kernel5Ideal.nD Cert.Kernel5Ideal.τ).loc Cert.Kernel5Ideal.main_v31)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v31) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
          ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
          ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v133) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16)
          ∧ r.2.mem ((c.tc : Thread Cert.Reference5Ideal.nD Cert.Reference5Ideal.τ).loc Cert.Reference5Ideal.main_arg17) = m' ((c.tc : Thread Cert.Reference5Ideal.nD Cert.Reference5Ideal.τ).loc Cert.Reference5Ideal.main_arg17)
          ∧ r.2.mem ((c.tc : Thread Cert.Reference5Ideal.nD Cert.Reference5Ideal.τ).loc Cert.Reference5Ideal.main_arg18) = m' ((c.tc : Thread Cert.Reference5Ideal.nD Cert.Reference5Ideal.τ).loc Cert.Reference5Ideal.main_arg18))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ preserves_Kernel2_Kernel2Ideal
    ∧ preserves_Kernel3_Kernel3Ideal
    ∧ preserves_Kernel4_Kernel4Ideal
    ∧ preserves_Kernel5_Kernel5Ideal
    ∧ algebraic_KernelIdeal_ReferenceIdeal_pre_finite (hKernelIdeal := hKernelIdeal) (hReferenceIdeal := hReferenceIdeal) (hPre_finite := hPre_finite)
    ∧ algebraic_Kernel2Ideal_Reference2Ideal (hKernel2Ideal := hKernel2Ideal) (hReference2Ideal := hReference2Ideal)
    ∧ algebraic_Kernel3Ideal_Reference3Ideal (hKernel3Ideal := hKernel3Ideal) (hReference3Ideal := hReference3Ideal)
    ∧ algebraic_Kernel4Ideal_Reference4Ideal (hKernel4Ideal := hKernel4Ideal) (hReference4Ideal := hReference4Ideal)
    ∧ algebraic_Kernel5Ideal_Reference5Ideal (hKernel5Ideal := hKernel5Ideal) (hReference5Ideal := hReference5Ideal)
-- ==== Pre_finite.lean ====
abbrev S4x4096x512 : Shape := ⟨3, ![4, 4096, 512]⟩
abbrev S4x4096x128 : Shape := ⟨3, ![4, 4096, 128]⟩
abbrev S_ : Shape := ⟨0, ![]⟩
abbrev S4x4096x12 : Shape := ⟨3, ![4, 4096, 12]⟩

class Facts : Prop where
  bitsLt_bf16_f32 : FTy.bits .bf16 < FTy.bits .f32
  bcast_S_S4x4096x512 : S_.BroadcastsInDim S4x4096x512 (![] : Fin 0 → Fin S4x4096x512.rank)
  slices_S4x4096x128_S4x4096x12_0_0_0 : S4x4096x128.Slices ![0, 0, 0] S4x4096x12
  bcast_S_S4x4096x12 : S_.BroadcastsInDim S4x4096x12 (![] : Fin 0 → Fin S4x4096x12.rank)

variable [Facts]

def fn {F : FTy → Type} [FloatOps F] (main_arg0 : FVec F S4x4096x512 .bf16) (main_arg1 : FVec F S4x4096x512 .bf16) (main_arg2 : FVec F S4x4096x512 .bf16) (main_arg3 : FVec F S4x4096x128 .f32) : IVec S4x4096x512 1 × IVec S4x4096x512 1 × IVec S4x4096x512 1 × IVec S4x4096x12 1 :=
  let main_v0 : FVec F S4x4096x512 .f32 := (extf .f32 · bitsLt_bf16_f32) main_arg0
  let main_v1 : FVec F S4x4096x512 .f32 := Host.absf main_v0
  let main_cst : FVec F S_ .f32 := constant S_ .f32 0x7F800000#32
  let main_v2 : FVec F S4x4096x512 .f32 := broadcastInDim S4x4096x512 ![] bcast_S_S4x4096x512 main_cst
  let main_v3 : IVec S4x4096x512 1 := cmpf .olt main_v1 main_v2
  let main_v4 : FVec F S4x4096x512 .f32 := (extf .f32 · bitsLt_bf16_f32) main_arg1
  let main_v5 : FVec F S4x4096x512 .f32 := Host.absf main_v4
  let main_cst_0 : FVec F S_ .f32 := constant S_ .f32 0x7F800000#32
  let main_v6 : FVec F S4x4096x512 .f32 := broadcastInDim S4x4096x512 ![] bcast_S_S4x4096x512 main_cst_0
  let main_v7 : IVec S4x4096x512 1 := cmpf .olt main_v5 main_v6
  let main_v8 : FVec F S4x4096x512 .f32 := (extf .f32 · bitsLt_bf16_f32) main_arg2
  let main_v9 : FVec F S4x4096x512 .f32 := Host.absf main_v8
  let main_cst_1 : FVec F S_ .f32 := constant S_ .f32 0x7F800000#32
  let main_v10 : FVec F S4x4096x512 .f32 := broadcastInDim S4x4096x512 ![] bcast_S_S4x4096x512 main_cst_1
  let main_v11 : IVec S4x4096x512 1 := cmpf .olt main_v9 main_v10
  let main_v12 : FVec F S4x4096x12 .f32 := (extractStridedSlice S4x4096x12 ![0, 0, 0] · slices_S4x4096x128_S4x4096x12_0_0_0) main_arg3
  let main_v13 : FVec F S4x4096x12 .f32 := Host.absf main_v12
  let main_cst_2 : FVec F S_ .f32 := constant S_ .f32 0x7F800000#32
  let main_v14 : FVec F S4x4096x12 .f32 := broadcastInDim S4x4096x12 ![] bcast_S_S4x4096x12 main_cst_2
  let main_v15 : IVec S4x4096x12 1 := cmpf .olt main_v13 main_v14
  (main_v3, main_v7, main_v11, main_v15)
-- ==== Kernel.lean ====
abbrev S4x4096x512 : Shape := ⟨3, ![4, 4096, 512]⟩
abbrev S4x4096x128 : Shape := ⟨3, ![4, 4096, 128]⟩
abbrev S4x128x512 : Shape := ⟨3, ![4, 128, 512]⟩
abbrev S4x128x128 : Shape := ⟨3, ![4, 128, 128]⟩
abbrev S4x2x512x128 : Shape := ⟨4, ![4, 2, 512, 128]⟩
abbrev S64x64 : Shape := ⟨2, ![64, 64]⟩
abbrev S64x128 : Shape := ⟨2, ![64, 128]⟩
abbrev S256x256 : Shape := ⟨2, ![256, 256]⟩
abbrev S256x512 : Shape := ⟨2, ![256, 512]⟩
abbrev S1x256 : Shape := ⟨2, ![1, 256]⟩
abbrev S64x256 : Shape := ⟨2, ![64, 256]⟩
abbrev S1x64x128 : Shape := ⟨3, ![1, 64, 128]⟩
abbrev S256x64 : Shape := ⟨2, ![256, 64]⟩
abbrev S128x64 : Shape := ⟨2, ![128, 64]⟩
abbrev S8x64 : Shape := ⟨2, ![8, 64]⟩
abbrev S8x256 : Shape := ⟨2, ![8, 256]⟩
abbrev S64 : Shape := ⟨1, ![64]⟩
abbrev S64x1 : Shape := ⟨2, ![64, 1]⟩
abbrev S256x1 : Shape := ⟨2, ![256, 1]⟩
abbrev S1x1 : Shape := ⟨2, ![1, 1]⟩
abbrev S128x1 : Shape := ⟨2, ![128, 1]⟩
abbrev S512x1 : Shape := ⟨2, ![512, 1]⟩
abbrev S1x64x512 : Shape := ⟨3, ![1, 64, 512]⟩
abbrev S64x512 : Shape := ⟨2, ![64, 512]⟩
abbrev S128x512 : Shape := ⟨2, ![128, 512]⟩
abbrev S128x256 : Shape := ⟨2, ![128, 256]⟩
abbrev S256x128 : Shape := ⟨2, ![256, 128]⟩
abbrev S1x1x512x128 : Shape := ⟨4, ![1, 1, 512, 128]⟩
abbrev S512x128 : Shape := ⟨2, ![512, 128]⟩
abbrev S512x512 : Shape := ⟨2, ![512, 512]⟩

abbrev nBuf : Space → Nat
  | .hbm => 6
  | .vmem => 21
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x512, .bf16⟩
  | .hbm, ⟨3, _⟩ => ⟨S4x4096x128, .f32⟩
  | .hbm, ⟨4, _⟩ => ⟨S4x4096x512, .f32⟩
  | .hbm, ⟨5, _⟩ => ⟨S4x4096x512, .f32⟩
  | .local _ .vmem, ⟨0, _⟩ => ⟨S4x128x512, .bf16⟩
  | .local _ .vmem, ⟨1, _⟩ => ⟨S4x128x512, .bf16⟩
  | .local _ .vmem, ⟨2, _⟩ => ⟨S4x128x512, .bf16⟩
  | .local _ .vmem, ⟨3, _⟩ => ⟨S4x128x512, .bf16⟩
  | .local _ .vmem, ⟨4, _⟩ => ⟨S4x128x512, .bf16⟩
  | .local _ .vmem, ⟨5, _⟩ => ⟨S4x128x512, .bf16⟩
  | .local _ .vmem, ⟨6, _⟩ => ⟨S4x128x128, .f32⟩
  | .local _ .vmem, ⟨7, _⟩ => ⟨S4x128x128, .f32⟩
  | .local _ .vmem, ⟨8, _⟩ => ⟨S4x128x512, .bf16⟩
  | .local _ .vmem, ⟨9, _⟩ => ⟨S4x128x512, .bf16⟩
  | .local _ .vmem, ⟨10, _⟩ => ⟨S4x128x512, .bf16⟩
  | .local _ .vmem, ⟨11, _⟩ => ⟨S4x128x512, .bf16⟩
  | .local _ .vmem, ⟨12, _⟩ => ⟨S4x128x512, .bf16⟩
  | .local _ .vmem, ⟨13, _⟩ => ⟨S4x128x512, .bf16⟩
  | .local _ .vmem, ⟨14, _⟩ => ⟨S4x128x128, .f32⟩
  | .local _ .vmem, ⟨15, _⟩ => ⟨S4x128x128, .f32⟩
  | .local _ .vmem, ⟨16, _⟩ => ⟨S4x128x512, .f32⟩
  | .local _ .vmem, ⟨17, _⟩ => ⟨S4x128x512, .f32⟩
  | .local _ .vmem, ⟨18, _⟩ => ⟨S4x128x512, .f32⟩
  | .local _ .vmem, ⟨19, _⟩ => ⟨S4x128x512, .f32⟩
  | .local _ .vmem, ⟨20, _⟩ => ⟨S4x2x512x128, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![1, 32], ![false, false]⟩

@[reducible] def k0_t1_loop : Scf.Loop 32 :=
  let c0_i32_46 : BitVec 32 := 0#32
  let c2_i32 : BitVec 32 := 2#32
  let v178 : BitVec 32 := Scalar.addi c0_i32_46 c2_i32
  let c1_i32_47 : BitVec 32 := 1#32
  ⟨c0_i32_46, v178, c1_i32_47⟩
def k0_mult1 (k0_t1 : Fin k0_t1_loop.trips) : BitVec 32 :=
  let c0_i32_46 : BitVec 32 := 0#32
  let c1_i32_47 : BitVec 32 := 1#32
  let arg13 : BitVec 32 := Scf.iv c0_i32_46 c1_i32_47 k0_t1
  let c64_i32_49 : BitVec 32 := 64#32
  let v179 : BitVec 32 := Scalar.muli arg13 c64_i32_49
  v179
def k0_mult2 (k0_t1 : Fin k0_t1_loop.trips) : BitVec 32 :=
  let c1_i32_50 : BitVec 32 := 1#32
  let c0_i32_46 : BitVec 32 := 0#32
  let c1_i32_47 : BitVec 32 := 1#32
  let arg13 : BitVec 32 := Scf.iv c0_i32_46 c1_i32_47 k0_t1
  let v181 : BitVec 32 := Scalar.subi c1_i32_50 arg13
  let c64_i32_51 : BitVec 32 := 64#32
  let v182 : BitVec 32 := Scalar.muli v181 c64_i32_51
  v182
def k0_mult3 (k0_t1 : Fin k0_t1_loop.trips) : BitVec 32 :=
  let c0_i32_46 : BitVec 32 := 0#32
  let c1_i32_47 : BitVec 32 := 1#32
  let arg13 : BitVec 32 := Scf.iv c0_i32_46 c1_i32_47 k0_t1
  let c64_i32_52 : BitVec 32 := 64#32
  let v184 : BitVec 32 := Scalar.muli arg13 c64_i32_52
  v184
def k0_mult4 (k0_t1 : Fin k0_t1_loop.trips) : BitVec 32 :=
  let c1_i32_53 : BitVec 32 := 1#32
  let c0_i32_46 : BitVec 32 := 0#32
  let c1_i32_47 : BitVec 32 := 1#32
  let arg13 : BitVec 32 := Scf.iv c0_i32_46 c1_i32_47 k0_t1
  let v186 : BitVec 32 := Scalar.subi c1_i32_53 arg13
  let c64_i32_54 : BitVec 32 := 64#32
  let v187 : BitVec 32 := Scalar.muli v186 c64_i32_54
  v187
def k0_mult5 (k0_t1 : Fin k0_t1_loop.trips) : BitVec 32 :=
  let c0_i32_46 : BitVec 32 := 0#32
  let c1_i32_47 : BitVec 32 := 1#32
  let arg13 : BitVec 32 := Scf.iv c0_i32_46 c1_i32_47 k0_t1
  let c64_i32_55 : BitVec 32 := 64#32
  let v189 : BitVec 32 := Scalar.muli arg13 c64_i32_55
  v189
def k0_mult6 (k0_t1 : Fin k0_t1_loop.trips) : BitVec 32 :=
  let c1_i32_56 : BitVec 32 := 1#32
  let c0_i32_46 : BitVec 32 := 0#32
  let c1_i32_47 : BitVec 32 := 1#32
  let arg13 : BitVec 32 := Scf.iv c0_i32_46 c1_i32_47 k0_t1
  let v191 : BitVec 32 := Scalar.subi c1_i32_56 arg13
  let c64_i32_57 : BitVec 32 := 64#32
  let v192 : BitVec 32 := Scalar.muli v191 c64_i32_57
  v192
def k0_mult7 (k0_t1 : Fin k0_t1_loop.trips) : BitVec 32 :=
  let c0_i32_46 : BitVec 32 := 0#32
  let c1_i32_47 : BitVec 32 := 1#32
  let arg13 : BitVec 32 := Scf.iv c0_i32_46 c1_i32_47 k0_t1
  let c64_i32_58 : BitVec 32 := 64#32
  let v194 : BitVec 32 := Scalar.muli arg13 c64_i32_58
  v194
def k0_mult8 (k0_t1 : Fin k0_t1_loop.trips) : BitVec 32 :=
  let c1_i32_59 : BitVec 32 := 1#32
  let c0_i32_46 : BitVec 32 := 0#32
  let c1_i32_47 : BitVec 32 := 1#32
  let arg13 : BitVec 32 := Scf.iv c0_i32_46 c1_i32_47 k0_t1
  let v196 : BitVec 32 := Scalar.subi c1_i32_59 arg13
  let c64_i32_60 : BitVec 32 := 64#32
  let v197 : BitVec 32 := Scalar.muli v196 c64_i32_60
  v197
def k0_off1 (k0_t1 : Fin k0_t1_loop.trips) : Fin 3 → Nat :=
  let c0 : Index := 0#32
  let c0_i32_46 : BitVec 32 := 0#32
  let c1_i32_47 : BitVec 32 := 1#32
  let arg13 : BitVec 32 := Scf.iv c0_i32_46 c1_i32_47 k0_t1
  let c64_i32_49 : BitVec 32 := 64#32
  let v179 : BitVec 32 := Scalar.muli arg13 c64_i32_49
  let v180 : BitVec 32 := v179
  let v202 : Index := Scalar.indexCast v180
  let c0_61 : Index := 0#32
  ![0, v202.toNat, 0]
def k0_off2 (k0_t1 : Fin k0_t1_loop.trips) : Fin 3 → Nat :=
  let c0_67 : Index := 0#32
  let c1_i32_50 : BitVec 32 := 1#32
  let c0_i32_46 : BitVec 32 := 0#32
  let c1_i32_47 : BitVec 32 := 1#32
  let arg13 : BitVec 32 := Scf.iv c0_i32_46 c1_i32_47 k0_t1
  let v181 : BitVec 32 := Scalar.subi c1_i32_50 arg13
  let c64_i32_51 : BitVec 32 := 64#32
  let v182 : BitVec 32 := Scalar.muli v181 c64_i32_51
  let v183 : BitVec 32 := v182
  let v238 : Index := Scalar.indexCast v183
  let c0_68 : Index := 0#32
  ![0, v238.toNat, 0]
def k0_off3 (k0_t1 : Fin k0_t1_loop.trips) : Fin 3 → Nat :=
  let c1 : Index := 1#32
  let c0_i32_46 : BitVec 32 := 0#32
  let c1_i32_47 : BitVec 32 := 1#32
  let arg13 : BitVec 32 := Scf.iv c0_i32_46 c1_i32_47 k0_t1
  let c64_i32_52 : BitVec 32 := 64#32
  let v184 : BitVec 32 := Scalar.muli arg13 c64_i32_52
  let v185 : BitVec 32 := v184
  let v274 : Index := Scalar.indexCast v185
  let c0_75 : Index := 0#32
  ![1, v274.toNat, 0]
def k0_off4 (k0_t1 : Fin k0_t1_loop.trips) : Fin 3 → Nat :=
  let c1_82 : Index := 1#32
  let c1_i32_53 : BitVec 32 := 1#32
  let c0_i32_46 : BitVec 32 := 0#32
  let c1_i32_47 : BitVec 32 := 1#32
  let arg13 : BitVec 32 := Scf.iv c0_i32_46 c1_i32_47 k0_t1
  let v186 : BitVec 32 := Scalar.subi c1_i32_53 arg13
  let c64_i32_54 : BitVec 32 := 64#32
  let v187 : BitVec 32 := Scalar.muli v186 c64_i32_54
  let v188 : BitVec 32 := v187
  let v310 : Index := Scalar.indexCast v188
  let c0_83 : Index := 0#32
  ![1, v310.toNat, 0]
def k0_off5 (k0_t1 : Fin k0_t1_loop.trips) : Fin 3 → Nat :=
  let c2 : Index := 2#32
  let c0_i32_46 : BitVec 32 := 0#32
  let c1_i32_47 : BitVec 32 := 1#32
  let arg13 : BitVec 32 := Scf.iv c0_i32_46 c1_i32_47 k0_t1
  let c64_i32_55 : BitVec 32 := 64#32
  let v189 : BitVec 32 := Scalar.muli arg13 c64_i32_55
  let v190 : BitVec 32 := v189
  let v346 : Index := Scalar.indexCast v190
  let c0_90 : Index := 0#32
  ![2, v346.toNat, 0]
def k0_off6 (k0_t1 : Fin k0_t1_loop.trips) : Fin 3 → Nat :=
  let c2_97 : Index := 2#32
  let c1_i32_56 : BitVec 32 := 1#32
  let c0_i32_46 : BitVec 32 := 0#32
  let c1_i32_47 : BitVec 32 := 1#32
  let arg13 : BitVec 32 := Scf.iv c0_i32_46 c1_i32_47 k0_t1
  let v191 : BitVec 32 := Scalar.subi c1_i32_56 arg13
  let c64_i32_57 : BitVec 32 := 64#32
  let v192 : BitVec 32 := Scalar.muli v191 c64_i32_57
  let v193 : BitVec 32 := v192
  let v382 : Index := Scalar.indexCast v193
  let c0_98 : Index := 0#32
  ![2, v382.toNat, 0]
def k0_off7 (k0_t1 : Fin k0_t1_loop.trips) : Fin 3 → Nat :=
  let c3 : Index := 3#32
  let c0_i32_46 : BitVec 32 := 0#32
  let c1_i32_47 : BitVec 32 := 1#32
  let arg13 : BitVec 32 := Scf.iv c0_i32_46 c1_i32_47 k0_t1
  let c64_i32_58 : BitVec 32 := 64#32
  let v194 : BitVec 32 := Scalar.muli arg13 c64_i32_58
  let v195 : BitVec 32 := v194
  let v418 : Index := Scalar.indexCast v195
  let c0_105 : Index := 0#32
  ![3, v418.toNat, 0]
def k0_off8 (k0_t1 : Fin k0_t1_loop.trips) : Fin 3 → Nat :=
  let c3_112 : Index := 3#32
  let c1_i32_59 : BitVec 32 := 1#32
  let c0_i32_46 : BitVec 32 := 0#32
  let c1_i32_47 : BitVec 32 := 1#32
  let arg13 : BitVec 32 := Scf.iv c0_i32_46 c1_i32_47 k0_t1
  let v196 : BitVec 32 := Scalar.subi c1_i32_59 arg13
  let c64_i32_60 : BitVec 32 := 64#32
  let v197 : BitVec 32 := Scalar.muli v196 c64_i32_60
  let v198 : BitVec 32 := v197
  let v454 : Index := Scalar.indexCast v198
  let c0_113 : Index := 0#32
  ![3, v454.toNat, 0]
def k0_off9 (k0_t1 : Fin k0_t1_loop.trips) : Fin 3 → Nat :=
  let c0_163 : Index := 0#32
  let c0_i32_46 : BitVec 32 := 0#32
  let c1_i32_47 : BitVec 32 := 1#32
  let arg13 : BitVec 32 := Scf.iv c0_i32_46 c1_i32_47 k0_t1
  let c64_i32_49 : BitVec 32 := 64#32
  let v179 : BitVec 32 := Scalar.muli arg13 c64_i32_49
  let v180 : BitVec 32 := v179
  let v633 : Index := Scalar.indexCast v180
  let c0_164 : Index := 0#32
  ![0, v633.toNat, 0]
def k0_off10 (k0_t1 : Fin k0_t1_loop.trips) : Fin 3 → Nat :=
  let c0_213 : Index := 0#32
  let c1_i32_50 : BitVec 32 := 1#32
  let c0_i32_46 : BitVec 32 := 0#32
  let c1_i32_47 : BitVec 32 := 1#32
  let arg13 : BitVec 32 := Scf.iv c0_i32_46 c1_i32_47 k0_t1
  let v181 : BitVec 32 := Scalar.subi c1_i32_50 arg13
  let c64_i32_51 : BitVec 32 := 64#32
  let v182 : BitVec 32 := Scalar.muli v181 c64_i32_51
  let v183 : BitVec 32 := v182
  let v791 : Index := Scalar.indexCast v183
  let c0_214 : Index := 0#32
  ![0, v791.toNat, 0]
def k0_off11 (k0_t1 : Fin k0_t1_loop.trips) : Fin 3 → Nat :=
  let c1_267 : Index := 1#32
  let c0_i32_46 : BitVec 32 := 0#32
  let c1_i32_47 : BitVec 32 := 1#32
  let arg13 : BitVec 32 := Scf.iv c0_i32_46 c1_i32_47 k0_t1
  let c64_i32_52 : BitVec 32 := 64#32
  let v184 : BitVec 32 := Scalar.muli arg13 c64_i32_52
  let v185 : BitVec 32 := v184
  let v949 : Index := Scalar.indexCast v185
  let c0_268 : Index := 0#32
  ![1, v949.toNat, 0]
def k0_off12 (k0_t1 : Fin k0_t1_loop.trips) : Fin 3 → Nat :=
  let c1_321 : Index := 1#32
  let c1_i32_53 : BitVec 32 := 1#32
  let c0_i32_46 : BitVec 32 := 0#32
  let c1_i32_47 : BitVec 32 := 1#32
  let arg13 : BitVec 32 := Scf.iv c0_i32_46 c1_i32_47 k0_t1
  let v186 : BitVec 32 := Scalar.subi c1_i32_53 arg13
  let c64_i32_54 : BitVec 32 := 64#32
  let v187 : BitVec 32 := Scalar.muli v186 c64_i32_54
  let v188 : BitVec 32 := v187
  let v1107 : Index := Scalar.indexCast v188
  let c0_322 : Index := 0#32
  ![1, v1107.toNat, 0]
def k0_off13 (k0_t1 : Fin k0_t1_loop.trips) : Fin 3 → Nat :=
  let c2_375 : Index := 2#32
  let c0_i32_46 : BitVec 32 := 0#32
  let c1_i32_47 : BitVec 32 := 1#32
  let arg13 : BitVec 32 := Scf.iv c0_i32_46 c1_i32_47 k0_t1
  let c64_i32_55 : BitVec 32 := 64#32
  let v189 : BitVec 32 := Scalar.muli arg13 c64_i32_55
  let v190 : BitVec 32 := v189
  let v1265 : Index := Scalar.indexCast v190
  let c0_376 : Index := 0#32
  ![2, v1265.toNat, 0]
def k0_off14 (k0_t1 : Fin k0_t1_loop.trips) : Fin 3 → Nat :=
  let c2_429 : Index := 2#32
  let c1_i32_56 : BitVec 32 := 1#32
  let c0_i32_46 : BitVec 32 := 0#32
  let c1_i32_47 : BitVec 32 := 1#32
  let arg13 : BitVec 32 := Scf.iv c0_i32_46 c1_i32_47 k0_t1
  let v191 : BitVec 32 := Scalar.subi c1_i32_56 arg13
  let c64_i32_57 : BitVec 32 := 64#32
  let v192 : BitVec 32 := Scalar.muli v191 c64_i32_57
  let v193 : BitVec 32 := v192
  let v1423 : Index := Scalar.indexCast v193
  let c0_430 : Index := 0#32
  ![2, v1423.toNat, 0]
def k0_off15 (k0_t1 : Fin k0_t1_loop.trips) : Fin 3 → Nat :=
  let c3_483 : Index := 3#32
  let c0_i32_46 : BitVec 32 := 0#32
  let c1_i32_47 : BitVec 32 := 1#32
  let arg13 : BitVec 32 := Scf.iv c0_i32_46 c1_i32_47 k0_t1
  let c64_i32_58 : BitVec 32 := 64#32
  let v194 : BitVec 32 := Scalar.muli arg13 c64_i32_58
  let v195 : BitVec 32 := v194
  let v1581 : Index := Scalar.indexCast v195
  let c0_484 : Index := 0#32
  ![3, v1581.toNat, 0]
def k0_off16 (k0_t1 : Fin k0_t1_loop.trips) : Fin 3 → Nat :=
  let c3_537 : Index := 3#32
  let c1_i32_59 : BitVec 32 := 1#32
  let c0_i32_46 : BitVec 32 := 0#32
  let c1_i32_47 : BitVec 32 := 1#32
  let arg13 : BitVec 32 := Scf.iv c0_i32_46 c1_i32_47 k0_t1
  let v196 : BitVec 32 := Scalar.subi c1_i32_59 arg13
  let c64_i32_60 : BitVec 32 := 64#32
  let v197 : BitVec 32 := Scalar.muli v196 c64_i32_60
  let v198 : BitVec 32 := v197
  let v1739 : Index := Scalar.indexCast v198
  let c0_538 : Index := 0#32
  ![3, v1739.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

abbrev stage0_0 : Fin 2 → Memref sig .tc .vmem S4x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4x4096x512 : Shape := ⟨3, ![4, 4096, 512]⟩
abbrev S4x4096x128 : Shape := ⟨3, ![4, 4096, 128]⟩
abbrev S4x4096x4x128 : Shape := ⟨4, ![4, 4096, 4, 128]⟩
abbrev S4x4096x8 : Shape := ⟨3, ![4, 4096, 8]⟩
abbrev S4x4096x2x4 : Shape := ⟨4, ![4, 4096, 2, 4]⟩
abbrev S4x4096x4 : Shape := ⟨3, ![4, 4096, 4]⟩
abbrev S4x4096x1x4 : Shape := ⟨4, ![4, 4096, 1, 4]⟩
abbrev S1x4x4096x4 : Shape := ⟨4, ![1, 4, 4096, 4]⟩
abbrev S2x4x4096x4 : Shape := ⟨4, ![2, 4, 4096, 4]⟩
abbrev S1x4x4096x4x128 : Shape := ⟨5, ![1, 4, 4096, 4, 128]⟩
abbrev S2x4x4096x4x128 : Shape := ⟨5, ![2, 4, 4096, 4, 128]⟩
abbrev S4096x2x4x4x128 : Shape := ⟨5, ![4096, 2, 4, 4, 128]⟩
abbrev S4096x2x4x4 : Shape := ⟨4, ![4096, 2, 4, 4]⟩
abbrev S_ : Shape := ⟨0, ![]⟩
abbrev S2x4x4x128x128 : Shape := ⟨5, ![2, 4, 4, 128, 128]⟩
abbrev S1x2x4x4x128 : Shape := ⟨5, ![1, 2, 4, 4, 128]⟩
abbrev S2x4x4x128 : Shape := ⟨4, ![2, 4, 4, 128]⟩
abbrev S1x2x4x4 : Shape := ⟨4, ![1, 2, 4, 4]⟩
abbrev S2x4x4 : Shape := ⟨3, ![2, 4, 4]⟩
abbrev S2x4x4x1x1 : Shape := ⟨5, ![2, 4, 4, 1, 1]⟩
abbrev S2x4x4x128x1 : Shape := ⟨5, ![2, 4, 4, 128, 1]⟩
abbrev S2x4x4x1x128 : Shape := ⟨5, ![2, 4, 4, 1, 128]⟩
abbrev S2x4x4096x512 : Shape := ⟨4, ![2, 4, 4096, 512]⟩
abbrev S1x4x4096x512 : Shape := ⟨4, ![1, 4, 4096, 512]⟩

abbrev nBuf : Space → Nat
  | .hbm => 124
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x512, .bf16⟩
  | .hbm, ⟨3, _⟩ => ⟨S4x4096x128, .f32⟩
  | .hbm, ⟨4, _⟩ => ⟨S4x4096x512, .f32⟩
  | .hbm, ⟨5, _⟩ => ⟨S4x4096x4x128, .f32⟩
  | .hbm, ⟨6, _⟩ => ⟨S4x4096x512, .f32⟩
  | .hbm, ⟨7, _⟩ => ⟨S4x4096x4x128, .f32⟩
  | .hbm, ⟨8, _⟩ => ⟨S4x4096x512, .f32⟩
  | .hbm, ⟨9, _⟩ => ⟨S4x4096x4x128, .f32⟩
  | .hbm, ⟨10, _⟩ => ⟨S4x4096x8, .f32⟩
  | .hbm, ⟨11, _⟩ => ⟨S4x4096x2x4, .f32⟩
  | .hbm, ⟨12, _⟩ => ⟨S4x4096x4, .f32⟩
  | .hbm, ⟨13, _⟩ => ⟨S4x4096x1x4, .f32⟩
  | .hbm, ⟨14, _⟩ => ⟨S4x4096x4, .f32⟩
  | .hbm, ⟨15, _⟩ => ⟨S4x4096x1x4, .f32⟩
  | .hbm, ⟨16, _⟩ => ⟨S4x4096x4, .f32⟩
  | .hbm, ⟨17, _⟩ => ⟨S4x4096x4, .f32⟩
  | .hbm, ⟨18, _⟩ => ⟨S1x4x4096x4, .f32⟩
  | .hbm, ⟨19, _⟩ => ⟨S1x4x4096x4, .f32⟩
  | .hbm, ⟨20, _⟩ => ⟨S2x4x4096x4, .f32⟩
  | .hbm, ⟨21, _⟩ => ⟨S4x4096x4x128, .f32⟩
  | .hbm, ⟨22, _⟩ => ⟨S1x4x4096x4x128, .f32⟩
  | .hbm, ⟨23, _⟩ => ⟨S1x4x4096x4x128, .f32⟩
  | .hbm, ⟨24, _⟩ => ⟨S2x4x4096x4x128, .f32⟩
  | .hbm, ⟨25, _⟩ => ⟨S4x4096x4x128, .f32⟩
  | .hbm, ⟨26, _⟩ => ⟨S1x4x4096x4x128, .f32⟩
  | .hbm, ⟨27, _⟩ => ⟨S1x4x4096x4x128, .f32⟩
  | .hbm, ⟨28, _⟩ => ⟨S2x4x4096x4x128, .f32⟩
  | .hbm, ⟨29, _⟩ => ⟨S4x4096x4x128, .f32⟩
  | .hbm, ⟨30, _⟩ => ⟨S1x4x4096x4x128, .f32⟩
  | .hbm, ⟨31, _⟩ => ⟨S1x4x4096x4x128, .f32⟩
  | .hbm, ⟨32, _⟩ => ⟨S2x4x4096x4x128, .f32⟩
  | .hbm, ⟨33, _⟩ => ⟨S4x4096x4, .f32⟩
  | .hbm, ⟨34, _⟩ => ⟨S1x4x4096x4, .f32⟩
  | .hbm, ⟨35, _⟩ => ⟨S1x4x4096x4, .f32⟩
  | .hbm, ⟨36, _⟩ => ⟨S2x4x4096x4, .f32⟩
  | .hbm, ⟨37, _⟩ => ⟨S4096x2x4x4x128, .f32⟩
  | .hbm, ⟨38, _⟩ => ⟨S4096x2x4x4x128, .f32⟩
  | .hbm, ⟨39, _⟩ => ⟨S4096x2x4x4x128, .f32⟩
  | .hbm, ⟨40, _⟩ => ⟨S4096x2x4x4, .f32⟩
  | .hbm, ⟨41, _⟩ => ⟨S4096x2x4x4, .f32⟩
  | .hbm, ⟨42, _⟩ => ⟨S_, .f32⟩
  | .hbm, ⟨43, _⟩ => ⟨S2x4x4x128x128, .f32⟩
  | .hbm, ⟨44, _⟩ => ⟨S_, .f32⟩
  | .hbm, ⟨45, _⟩ => ⟨S4096x2x4x4x128, .f32⟩
  | .hbm, ⟨46, _⟩ => ⟨S_, .i32⟩
  | .hbm, ⟨47, _⟩ => ⟨S4096x2x4x4x128, .f32⟩
  | .hbm, ⟨48, _⟩ => ⟨S4096x2x4x4x128, .f32⟩
  | .hbm, ⟨49, _⟩ => ⟨S4096x2x4x4x128, .f32⟩
  | .hbm, ⟨50, _⟩ => ⟨S4096x2x4x4, .f32⟩
  | .hbm, ⟨51, _⟩ => ⟨S4096x2x4x4, .f32⟩
  | .hbm, ⟨52, _⟩ => ⟨S_, .i32⟩
  | .hbm, ⟨53, _⟩ => ⟨S2x4x4x128x128, .f32⟩
  | .hbm, ⟨54, _⟩ => ⟨S4096x2x4x4x128, .f32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x2x4x4x128, .f32⟩
  | .hbm, ⟨62, _⟩ => ⟨S2x4x4x128, .f32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1x2x4x4x128, .f32⟩
  | .hbm, ⟨68, _⟩ => ⟨S2x4x4x128, .f32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S1x2x4x4x128, .f32⟩
  | .hbm, ⟨74, _⟩ => ⟨S2x4x4x128, .f32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S1x2x4x4, .f32⟩
  | .hbm, ⟨79, _⟩ => ⟨S2x4x4, .f32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S1x2x4x4, .f32⟩
  | .hbm, ⟨84, _⟩ => ⟨S2x4x4, .f32⟩
  | .hbm, ⟨85, _⟩ => ⟨S2x4x4x128, .f32⟩
  | .hbm, ⟨86, _⟩ => ⟨S2x4x4, .f32⟩
  | .hbm, ⟨87, _⟩ => ⟨S2x4x4x1x1, .f32⟩
  | .hbm, ⟨88, _⟩ => ⟨S2x4x4x1x1, .f32⟩
  | .hbm, ⟨89, _⟩ => ⟨S2x4x4x128x1, .f32⟩
  | .hbm, ⟨90, _⟩ => ⟨S2x4x4x128x1, .f32⟩
  | .hbm, ⟨91, _⟩ => ⟨S2x4x4x128x1, .f32⟩
  | .hbm, ⟨92, _⟩ => ⟨S2x4x4x1x128, .f32⟩
  | .hbm, ⟨93, _⟩ => ⟨S2x4x4x128x128, .f32⟩
  | .hbm, ⟨94, _⟩ => ⟨S2x4x4x128x128, .f32⟩
  | .hbm, ⟨95, _⟩ => ⟨S2x4x4x128x128, .f32⟩
  | .hbm, ⟨96, _⟩ => ⟨S2x4x4x128x128, .f32⟩
  | .hbm, ⟨97, _⟩ => ⟨S2x4x4x128x128, .f32⟩
  | .hbm, ⟨98, _⟩ => ⟨S2x4x4x128x128, .f32⟩
  | .hbm, ⟨99, _⟩ => ⟨S2x4x4x1x1, .f32⟩
  | .hbm, ⟨100, _⟩ => ⟨S2x4x4x128x1, .f32⟩
  | .hbm, ⟨101, _⟩ => ⟨S2x4x4x128x1, .f32⟩
  | .hbm, ⟨102, _⟩ => ⟨S2x4x4x128x1, .f32⟩
  | .hbm, ⟨103, _⟩ => ⟨S2x4x4x1x128, .f32⟩
  | .hbm, ⟨104, _⟩ => ⟨S2x4x4x128x128, .f32⟩
  | .hbm, ⟨105, _⟩ => ⟨S2x4x4x128x128, .f32⟩
  | .hbm, ⟨106, _⟩ => ⟨S2x4x4x128x128, .f32⟩
  | .hbm, ⟨107, _⟩ => ⟨S2x4x4x128x128, .f32⟩
  | .hbm, ⟨108, _⟩ => ⟨S2x4x4x128, .f32⟩
  | .hbm, ⟨109, _⟩ => ⟨S1x2x4x4x128, .f32⟩
  | .hbm, ⟨110, _⟩ => ⟨S_, .i32⟩
  | .hbm, ⟨111, _⟩ => ⟨S_, .i32⟩
  | .hbm, ⟨112, _⟩ => ⟨S_, .i32⟩
  | .hbm, ⟨113, _⟩ => ⟨S_, .i32⟩
  | .hbm, ⟨114, _⟩ => ⟨S4096x2x4x4x128, .f32⟩
  | .hbm, ⟨115, _⟩ => ⟨S_, .i32⟩
  | .hbm, ⟨116, _⟩ => ⟨S_, .i32⟩
  | .hbm, ⟨117, _⟩ => ⟨S2x4x4096x4x128, .f32⟩
  | .hbm, ⟨118, _⟩ => ⟨S2x4x4096x512, .f32⟩
  | .hbm, ⟨119, _⟩ => ⟨S1x4x4096x512, .f32⟩
  | .hbm, ⟨120, _⟩ => ⟨S4x4096x512, .f32⟩
  | .hbm, ⟨121, _⟩ => ⟨S1x4x4096x512, .f32⟩
  | .hbm, ⟨122, _⟩ => ⟨S4x4096x512, .f32⟩
  | .hbm, ⟨123, _⟩ => ⟨S4x4096x512, .f32⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_cst : Ref sig .tc := ⟨.hbm, 42, rfl⟩
abbrev main_v38 : Ref sig .tc := ⟨.hbm, 43, rfl⟩
abbrev main_cst_0 : Ref sig .tc := ⟨.hbm, 44, rfl⟩
abbrev main_v39 : Ref sig .tc := ⟨.hbm, 45, rfl⟩
abbrev main_c : Ref sig .tc := ⟨.hbm, 46, rfl⟩
abbrev main_v40_0 : Ref sig .tc := ⟨.hbm, 47, rfl⟩
abbrev main_v40_1 : Ref sig .tc := ⟨.hbm, 48, rfl⟩
abbrev main_v40_2 : Ref sig .tc := ⟨.hbm, 49, rfl⟩
abbrev main_v40_3 : Ref sig .tc := ⟨.hbm, 50, rfl⟩
abbrev main_v40_4 : Ref sig .tc := ⟨.hbm, 51, rfl⟩
abbrev main_v40_5 : Ref sig .tc := ⟨.hbm, 52, rfl⟩
abbrev main_v40_6 : Ref sig .tc := ⟨.hbm, 53, rfl⟩
abbrev main_v40_7 : Ref sig .tc := ⟨.hbm, 54, rfl⟩
abbrev main_while0c_c_8 : Ref sig .tc := ⟨.hbm, 55, rfl⟩
abbrev main_while0c_v48 : Ref sig .tc := ⟨.hbm, 56, rfl⟩
abbrev main_while0b_call5_c : Ref sig .tc := ⟨.hbm, 57, rfl⟩
abbrev main_while0b_call5_c_0 : Ref sig .tc := ⟨.hbm, 58, rfl⟩
abbrev main_while0b_call5_c_1 : Ref sig .tc := ⟨.hbm, 59, rfl⟩
abbrev main_while0b_call5_c_2 : Ref sig .tc := ⟨.hbm, 60, rfl⟩
abbrev main_while0b_call5_v0 : Ref sig .tc := ⟨.hbm, 61, rfl⟩
abbrev main_while0b_v48 : Ref sig .tc := ⟨.hbm, 62, rfl⟩
abbrev main_while0b_call6_c : Ref sig .tc := ⟨.hbm, 63, rfl⟩
abbrev main_while0b_call6_c_0 : Ref sig .tc := ⟨.hbm, 64, rfl⟩
abbrev main_while0b_call6_c_1 : Ref sig .tc := ⟨.hbm, 65, rfl⟩
abbrev main_while0b_call6_c_2 : Ref sig .tc := ⟨.hbm, 66, rfl⟩
abbrev main_while0b_call6_v0 : Ref sig .tc := ⟨.hbm, 67, rfl⟩
abbrev main_while0b_v49 : Ref sig .tc := ⟨.hbm, 68, rfl⟩
abbrev main_while0b_call7_c : Ref sig .tc := ⟨.hbm, 69, rfl⟩
abbrev main_while0b_call7_c_0 : Ref sig .tc := ⟨.hbm, 70, rfl⟩
abbrev main_while0b_call7_c_1 : Ref sig .tc := ⟨.hbm, 71, rfl⟩
abbrev main_while0b_call7_c_2 : Ref sig .tc := ⟨.hbm, 72, rfl⟩
abbrev main_while0b_call7_v0 : Ref sig .tc := ⟨.hbm, 73, rfl⟩
abbrev main_while0b_v50 : Ref sig .tc := ⟨.hbm, 74, rfl⟩
abbrev main_while0b_call8_c : Ref sig .tc := ⟨.hbm, 75, rfl⟩
abbrev main_while0b_call8_c_0 : Ref sig .tc := ⟨.hbm, 76, rfl⟩
abbrev main_while0b_call8_c_1 : Ref sig .tc := ⟨.hbm, 77, rfl⟩
abbrev main_while0b_call8_v0 : Ref sig .tc := ⟨.hbm, 78, rfl⟩
abbrev main_while0b_v51 : Ref sig .tc := ⟨.hbm, 79, rfl⟩
abbrev main_while0b_call9_c : Ref sig .tc := ⟨.hbm, 80, rfl⟩
abbrev main_while0b_call9_c_0 : Ref sig .tc := ⟨.hbm, 81, rfl⟩
abbrev main_while0b_call9_c_1 : Ref sig .tc := ⟨.hbm, 82, rfl⟩
abbrev main_while0b_call9_v0 : Ref sig .tc := ⟨.hbm, 83, rfl⟩
abbrev main_while0b_v52 : Ref sig .tc := ⟨.hbm, 84, rfl⟩
abbrev main_while0b_v53 : Ref sig .tc := ⟨.hbm, 85, rfl⟩
abbrev main_while0b_v54 : Ref sig .tc := ⟨.hbm, 86, rfl⟩
abbrev main_while0b_v55 : Ref sig .tc := ⟨.hbm, 87, rfl⟩
abbrev main_while0b_v56 : Ref sig .tc := ⟨.hbm, 88, rfl⟩
abbrev main_while0b_v57 : Ref sig .tc := ⟨.hbm, 89, rfl⟩
abbrev main_while0b_v58 : Ref sig .tc := ⟨.hbm, 90, rfl⟩
abbrev main_while0b_v59 : Ref sig .tc := ⟨.hbm, 91, rfl⟩
abbrev main_while0b_v60 : Ref sig .tc := ⟨.hbm, 92, rfl⟩
abbrev main_while0b_v61 : Ref sig .tc := ⟨.hbm, 93, rfl⟩
abbrev main_while0b_v62 : Ref sig .tc := ⟨.hbm, 94, rfl⟩
abbrev main_while0b_v63 : Ref sig .tc := ⟨.hbm, 95, rfl⟩
abbrev main_while0b_v64 : Ref sig .tc := ⟨.hbm, 96, rfl⟩
abbrev main_while0b_v65 : Ref sig .tc := ⟨.hbm, 97, rfl⟩
abbrev main_while0b_v66 : Ref sig .tc := ⟨.hbm, 98, rfl⟩
abbrev main_while0b_v67 : Ref sig .tc := ⟨.hbm, 99, rfl⟩
abbrev main_while0b_v68 : Ref sig .tc := ⟨.hbm, 100, rfl⟩
abbrev main_while0b_v69 : Ref sig .tc := ⟨.hbm, 101, rfl⟩
abbrev main_while0b_v70 : Ref sig .tc := ⟨.hbm, 102, rfl⟩
abbrev main_while0b_v71 : Ref sig .tc := ⟨.hbm, 103, rfl⟩
abbrev main_while0b_v72 : Ref sig .tc := ⟨.hbm, 104, rfl⟩
abbrev main_while0b_v73 : Ref sig .tc := ⟨.hbm, 105, rfl⟩
abbrev main_while0b_v74 : Ref sig .tc := ⟨.hbm, 106, rfl⟩
abbrev main_while0b_v75 : Ref sig .tc := ⟨.hbm, 107, rfl⟩
abbrev main_while0b_v76 : Ref sig .tc := ⟨.hbm, 108, rfl⟩
abbrev main_while0b_call10_v0 : Ref sig .tc := ⟨.hbm, 109, rfl⟩
abbrev main_while0b_call10_c : Ref sig .tc := ⟨.hbm, 110, rfl⟩
abbrev main_while0b_call10_c_0 : Ref sig .tc := ⟨.hbm, 111, rfl⟩
abbrev main_while0b_call10_c_1 : Ref sig .tc := ⟨.hbm, 112, rfl⟩
abbrev main_while0b_call10_c_2 : Ref sig .tc := ⟨.hbm, 113, rfl⟩
abbrev main_while0b_v77 : Ref sig .tc := ⟨.hbm, 114, rfl⟩
abbrev main_while0b_c_8 : Ref sig .tc := ⟨.hbm, 115, rfl⟩
abbrev main_while0b_v78 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S16384x1024 : Shape := ⟨2, ![16384, 1024]⟩
abbrev S1024x4352 : Shape := ⟨2, ![1024, 4352]⟩
abbrev S16384x4352 : Shape := ⟨2, ![16384, 4352]⟩
abbrev S512x1024 : Shape := ⟨2, ![512, 1024]⟩
abbrev S512x4352 : Shape := ⟨2, ![512, 4352]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x4352, .f32⟩
  | .hbm, ⟨2, _⟩ => ⟨S1024x4352, .bf16⟩
  | .hbm, ⟨3, _⟩ => ⟨S16384x4352, .f32⟩
  | .local _ .vmem, ⟨0, _⟩ => ⟨S512x1024, .f32⟩
  | .local _ .vmem, ⟨1, _⟩ => ⟨S512x1024, .f32⟩
  | .local _ .vmem, ⟨2, _⟩ => ⟨S1024x4352, .bf16⟩
  | .local _ .vmem, ⟨3, _⟩ => ⟨S512x4352, .f32⟩
  | .local _ .vmem, ⟨4, _⟩ => ⟨S512x4352, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4352 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S16384x1024 : Shape := ⟨2, ![16384, 1024]⟩
abbrev S1024x4352 : Shape := ⟨2, ![1024, 4352]⟩
abbrev S16384x4352 : Shape := ⟨2, ![16384, 4352]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4352, .f32⟩
  | .hbm, ⟨2, _⟩ => ⟨S16384x4352, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel3.lean ====
abbrev S16384x1024 : Shape := ⟨2, ![16384, 1024]⟩
abbrev S1024x3596 : Shape := ⟨2, ![1024, 3596]⟩
abbrev S1024x2060 : Shape := ⟨2, ![1024, 2060]⟩
abbrev S_ : Shape := ⟨0, ![]⟩
abbrev S1024x116 : Shape := ⟨2, ![1024, 116]⟩
abbrev S1024x2176 : Shape := ⟨2, ![1024, 2176]⟩
abbrev S1024x1536 : Shape := ⟨2, ![1024, 1536]⟩
abbrev S1536x1024 : Shape := ⟨2, ![1536, 1024]⟩
abbrev S16384x2176 : Shape := ⟨2, ![16384, 2176]⟩
abbrev S1536x16384 : Shape := ⟨2, ![1536, 16384]⟩
abbrev S512x1024 : Shape := ⟨2, ![512, 1024]⟩
abbrev S512x2176 : Shape := ⟨2, ![512, 2176]⟩
abbrev S1536x512 : Shape := ⟨2, ![1536, 512]⟩

abbrev nBuf : Space → Nat
  | .hbm => 12
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x3596, .f32⟩
  | .hbm, ⟨2, _⟩ => ⟨S1024x2060, .f32⟩
  | .hbm, ⟨3, _⟩ => ⟨S_, .f32⟩
  | .hbm, ⟨4, _⟩ => ⟨S1024x116, .f32⟩
  | .hbm, ⟨5, _⟩ => ⟨S1024x2176, .f32⟩
  | .hbm, ⟨6, _⟩ => ⟨S1024x2176, .bf16⟩
  | .hbm, ⟨7, _⟩ => ⟨S1024x1536, .f32⟩
  | .hbm, ⟨8, _⟩ => ⟨S1536x1024, .f32⟩
  | .hbm, ⟨9, _⟩ => ⟨S1536x1024, .bf16⟩
  | .hbm, ⟨10, _⟩ => ⟨S16384x2176, .f32⟩
  | .hbm, ⟨11, _⟩ => ⟨S1536x16384, .bf16⟩
  | .local _ .vmem, ⟨0, _⟩ => ⟨S512x1024, .f32⟩
  | .local _ .vmem, ⟨1, _⟩ => ⟨S512x1024, .f32⟩
  | .local _ .vmem, ⟨2, _⟩ => ⟨S1024x2176, .bf16⟩
  | .local _ .vmem, ⟨3, _⟩ => ⟨S1536x1024, .bf16⟩
  | .local _ .vmem, ⟨4, _⟩ => ⟨S512x2176, .f32⟩
  | .local _ .vmem, ⟨5, _⟩ => ⟨S512x2176, .f32⟩
  | .local _ .vmem, ⟨6, _⟩ => ⟨S1536x512, .bf16⟩
  | .local _ .vmem, ⟨7, _⟩ => ⟨S1536x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16384x1024 : Shape := ⟨2, ![16384, 1024]⟩
abbrev S1024x3596 : Shape := ⟨2, ![1024, 3596]⟩
abbrev S16384x3596 : Shape := ⟨2, ![16384, 3596]⟩
abbrev S16384x2060 : Shape := ⟨2, ![16384, 2060]⟩
abbrev S_ : Shape := ⟨0, ![]⟩
abbrev S16384x2176 : Shape := ⟨2, ![16384, 2176]⟩
abbrev S16384x1536 : Shape := ⟨2, ![16384, 1536]⟩
abbrev S1536x16384 : Shape := ⟨2, ![1536, 16384]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3596, .f32⟩
  | .hbm, ⟨2, _⟩ => ⟨S16384x3596, .f32⟩
  | .hbm, ⟨3, _⟩ => ⟨S16384x2060, .f32⟩
  | .hbm, ⟨4, _⟩ => ⟨S_, .i32⟩
  | .hbm, ⟨5, _⟩ => ⟨S_, .f32⟩
  | .hbm, ⟨6, _⟩ => ⟨S16384x2176, .f32⟩
  | .hbm, ⟨7, _⟩ => ⟨S16384x1536, .f32⟩
  | .hbm, ⟨8, _⟩ => ⟨S1536x16384, .f32⟩
  | .hbm, ⟨9, _⟩ => ⟨S1536x16384, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel4.lean ====
abbrev S16384x1024 : Shape := ⟨2, ![16384, 1024]⟩
abbrev S512x16384 : Shape := ⟨2, ![512, 16384]⟩
abbrev S16384x512 : Shape := ⟨2, ![16384, 512]⟩
abbrev S16384x2176 : Shape := ⟨2, ![16384, 2176]⟩
abbrev S128 : Shape := ⟨1, ![128]⟩
abbrev S1024x1024 : Shape := ⟨2, ![1024, 1024]⟩
abbrev S2x1024 : Shape := ⟨2, ![2, 1024]⟩
abbrev S1024x4096 : Shape := ⟨2, ![1024, 4096]⟩
abbrev S4096x1024 : Shape := ⟨2, ![4096, 1024]⟩
abbrev S1x1024 : Shape := ⟨2, ![1, 1024]⟩
abbrev S1024 : Shape := ⟨1, ![1024]⟩
abbrev S1x128 : Shape := ⟨2, ![1, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S128x1024 : Shape := ⟨2, ![128, 1024]⟩
abbrev S512x4096 : Shape := ⟨2, ![512, 4096]⟩

abbrev nBuf : Space → Nat
  | .hbm => 31
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S512x16384, .bf16⟩
  | .hbm, ⟨2, _⟩ => ⟨S16384x512, .f32⟩
  | .hbm, ⟨3, _⟩ => ⟨S16384x512, .f32⟩
  | .hbm, ⟨4, _⟩ => ⟨S16384x2176, .f32⟩
  | .hbm, ⟨5, _⟩ => ⟨S128, .f32⟩
  | .hbm, ⟨6, _⟩ => ⟨S1024x1024, .f32⟩
  | .hbm, ⟨7, _⟩ => ⟨S2x1024, .f32⟩
  | .hbm, ⟨8, _⟩ => ⟨S2x1024, .f32⟩
  | .hbm, ⟨9, _⟩ => ⟨S1024x4096, .f32⟩
  | .hbm, ⟨10, _⟩ => ⟨S4096x1024, .f32⟩
  | .hbm, ⟨11, _⟩ => ⟨S1024x4096, .bf16⟩
  | .hbm, ⟨12, _⟩ => ⟨S4096x1024, .bf16⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x128, .f32⟩
  | .hbm, ⟨20, _⟩ => ⟨S512x1024, .f32⟩
  | .hbm, ⟨21, _⟩ => ⟨S512x1024, .bf16⟩
  | .hbm, ⟨22, _⟩ => ⟨S512x1024, .f32⟩
  | .hbm, ⟨23, _⟩ => ⟨S512x1024, .bf16⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x128, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | .local _ .vmem, ⟨15, _⟩ => ⟨S1024x4096, .bf16⟩
  | .local _ .vmem, ⟨16, _⟩ => ⟨S4096x1024, .bf16⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S16384x1024 : Shape := ⟨2, ![16384, 1024]⟩
abbrev S512x16384 : Shape := ⟨2, ![512, 16384]⟩
abbrev S16384x512 : Shape := ⟨2, ![16384, 512]⟩
abbrev S16384x2176 : Shape := ⟨2, ![16384, 2176]⟩
abbrev S128 : Shape := ⟨1, ![128]⟩
abbrev S1024x1024 : Shape := ⟨2, ![1024, 1024]⟩
abbrev S2x1024 : Shape := ⟨2, ![2, 1024]⟩
abbrev S1024x4096 : Shape := ⟨2, ![1024, 4096]⟩
abbrev S4096x1024 : Shape := ⟨2, ![4096, 1024]⟩
abbrev S16384x4x128 : Shape := ⟨3, ![16384, 4, 128]⟩
abbrev S_ : Shape := ⟨0, ![]⟩
abbrev S16384x4 : Shape := ⟨2, ![16384, 4]⟩
abbrev S16384x4x1 : Shape := ⟨3, ![16384, 4, 1]⟩
abbrev S1x1x128 : Shape := ⟨3, ![1, 1, 128]⟩
abbrev S1x1024 : Shape := ⟨2, ![1, 1024]⟩
abbrev S1024 : Shape := ⟨1, ![1024]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 122
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x16384, .bf16⟩
  | .hbm, ⟨2, _⟩ => ⟨S16384x512, .f32⟩
  | .hbm, ⟨3, _⟩ => ⟨S16384x512, .f32⟩
  | .hbm, ⟨4, _⟩ => ⟨S16384x2176, .f32⟩
  | .hbm, ⟨5, _⟩ => ⟨S128, .f32⟩
  | .hbm, ⟨6, _⟩ => ⟨S1024x1024, .f32⟩
  | .hbm, ⟨7, _⟩ => ⟨S2x1024, .f32⟩
  | .hbm, ⟨8, _⟩ => ⟨S2x1024, .f32⟩
  | .hbm, ⟨9, _⟩ => ⟨S1024x4096, .f32⟩
  | .hbm, ⟨10, _⟩ => ⟨S4096x1024, .f32⟩
  | .hbm, ⟨11, _⟩ => ⟨S16384x512, .f32⟩
  | .hbm, ⟨12, _⟩ => ⟨S16384x4x128, .f32⟩
  | .hbm, ⟨13, _⟩ => ⟨S16384x4x128, .f32⟩
  | .hbm, ⟨14, _⟩ => ⟨S_, .f32⟩
  | .hbm, ⟨15, _⟩ => ⟨S16384x4, .f32⟩
  | .hbm, ⟨16, _⟩ => ⟨S16384x4x1, .f32⟩
  | .hbm, ⟨17, _⟩ => ⟨S_, .f32⟩
  | .hbm, ⟨18, _⟩ => ⟨S16384x4x1, .f32⟩
  | .hbm, ⟨19, _⟩ => ⟨S16384x4x1, .f32⟩
  | .hbm, ⟨20, _⟩ => ⟨S_, .f32⟩
  | .hbm, ⟨21, _⟩ => ⟨S16384x4x1, .f32⟩
  | .hbm, ⟨22, _⟩ => ⟨S16384x4x1, .f32⟩
  | .hbm, ⟨23, _⟩ => ⟨S16384x4x1, .f32⟩
  | .hbm, ⟨24, _⟩ => ⟨S16384x4x128, .f32⟩
  | .hbm, ⟨25, _⟩ => ⟨S16384x4x128, .f32⟩
  | .hbm, ⟨26, _⟩ => ⟨S1x1x128, .f32⟩
  | .hbm, ⟨27, _⟩ => ⟨S16384x4x128, .f32⟩
  | .hbm, ⟨28, _⟩ => ⟨S16384x4x128, .f32⟩
  | .hbm, ⟨29, _⟩ => ⟨S16384x512, .f32⟩
  | .hbm, ⟨30, _⟩ => ⟨S16384x4x128, .f32⟩
  | .hbm, ⟨31, _⟩ => ⟨S16384x4x128, .f32⟩
  | .hbm, ⟨32, _⟩ => ⟨S16384x4x128, .f32⟩
  | .hbm, ⟨33, _⟩ => ⟨S_, .f32⟩
  | .hbm, ⟨34, _⟩ => ⟨S16384x4x128, .f32⟩
  | .hbm, ⟨35, _⟩ => ⟨S16384x4x128, .f32⟩
  | .hbm, ⟨36, _⟩ => ⟨S_, .f32⟩
  | .hbm, ⟨37, _⟩ => ⟨S16384x4x128, .f32⟩
  | .hbm, ⟨38, _⟩ => ⟨S16384x4x128, .f32⟩
  | .hbm, ⟨39, _⟩ => ⟨S16384x4x128, .f32⟩
  | .hbm, ⟨40, _⟩ => ⟨S16384x4x128, .f32⟩
  | .hbm, ⟨41, _⟩ => ⟨S16384x512, .bf16⟩
  | .hbm, ⟨42, _⟩ => ⟨S16384x512, .f32⟩
  | .hbm, ⟨43, _⟩ => ⟨S16384x512, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S1x1024, .f32⟩
  | .hbm, ⟨51, _⟩ => ⟨S1024, .f32⟩
  | .hbm, ⟨52, _⟩ => ⟨S1x1024, .f32⟩
  | .hbm, ⟨53, _⟩ => ⟨S1024, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x1, .f32⟩
  | .hbm, ⟨73, _⟩ => ⟨S16384x1024, .f32⟩
  | .hbm, ⟨74, _⟩ => ⟨S16384x1024, .f32⟩
  | .hbm, ⟨75, _⟩ => ⟨S1x1024, .f32⟩
  | .hbm, ⟨76, _⟩ => ⟨S16384x1024, .f32⟩
  | .hbm, ⟨77, _⟩ => ⟨S16384x1024, .f32⟩
  | .hbm, ⟨78, _⟩ => ⟨S1x1024, .f32⟩
  | .hbm, ⟨79, _⟩ => ⟨S16384x1024, .f32⟩
  | .hbm, ⟨80, _⟩ => ⟨S16384x1024, .f32⟩
  | .hbm, ⟨81, _⟩ => ⟨S_, .f32⟩
  | .hbm, ⟨82, _⟩ => ⟨S16384x1024, .f32⟩
  | .hbm, ⟨83, _⟩ => ⟨S16384x1024, .f32⟩
  | .hbm, ⟨84, _⟩ => ⟨S16384x4096, .f32⟩
  | .hbm, ⟨85, _⟩ => ⟨S_, .f32⟩
  | .hbm, ⟨86, _⟩ => ⟨S16384x4096, .f32⟩
  | .hbm, ⟨87, _⟩ => ⟨S16384x4096, .f32⟩
  | .hbm, ⟨88, _⟩ => ⟨S16384x4096, .f32⟩
  | .hbm, ⟨89, _⟩ => ⟨S16384x1024, .f32⟩
  | .hbm, ⟨90, _⟩ => ⟨S16384x1024, .f32⟩
  | .hbm, ⟨91, _⟩ => ⟨S1x1024, .f32⟩
  | .hbm, ⟨92, _⟩ => ⟨S1024, .f32⟩
  | .hbm, ⟨93, _⟩ => ⟨S1x1024, .f32⟩
  | .hbm, ⟨94, _⟩ => ⟨S1024, .f32⟩
  | .hbm, ⟨95, _⟩ => ⟨S_, .f32⟩
  | .hbm, ⟨96, _⟩ => ⟨S16384, .f32⟩
  | .hbm, ⟨97, _⟩ => ⟨S16384x1, .f32⟩
  | .hbm, ⟨98, _⟩ => ⟨S_, .f32⟩
  | .hbm, ⟨99, _⟩ => ⟨S16384x1, .f32⟩
  | .hbm, ⟨100, _⟩ => ⟨S16384x1, .f32⟩
  | .hbm, ⟨101, _⟩ => ⟨S16384x1024, .f32⟩
  | .hbm, ⟨102, _⟩ => ⟨S16384x1024, .f32⟩
  | .hbm, ⟨103, _⟩ => ⟨S16384x1024, .f32⟩
  | .hbm, ⟨104, _⟩ => ⟨S_, .f32⟩
  | .hbm, ⟨105, _⟩ => ⟨S16384, .f32⟩
  | .hbm, ⟨106, _⟩ => ⟨S16384x1, .f32⟩
  | .hbm, ⟨107, _⟩ => ⟨S_, .f32⟩
  | .hbm, ⟨108, _⟩ => ⟨S16384x1, .f32⟩
  | .hbm, ⟨109, _⟩ => ⟨S16384x1, .f32⟩
  | .hbm, ⟨110, _⟩ => ⟨S_, .f32⟩
  | .hbm, ⟨111, _⟩ => ⟨S16384x1, .f32⟩
  | .hbm, ⟨112, _⟩ => ⟨S16384x1, .f32⟩
  | .hbm, ⟨113, _⟩ => ⟨S16384x1, .f32⟩
  | .hbm, ⟨114, _⟩ => ⟨S16384x1024, .f32⟩
  | .hbm, ⟨115, _⟩ => ⟨S16384x1024, .f32⟩
  | .hbm, ⟨116, _⟩ => ⟨S1x1024, .f32⟩
  | .hbm, ⟨117, _⟩ => ⟨S16384x1024, .f32⟩
  | .hbm, ⟨118, _⟩ => ⟨S16384x1024, .f32⟩
  | .hbm, ⟨119, _⟩ => ⟨S1x1024, .f32⟩
  | .hbm, ⟨120, _⟩ => ⟨S16384x1024, .f32⟩
  | .hbm, ⟨121, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_12 : Ref sig .tc := ⟨.hbm, 95, rfl⟩
abbrev main_v71 : Ref sig .tc := ⟨.hbm, 96, rfl⟩
abbrev main_v72 : Ref sig .tc := ⟨.hbm, 97, rfl⟩
abbrev main_cst_13 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_14 : Ref sig .tc := ⟨.hbm, 104, rfl⟩
abbrev main_v78 : Ref sig .tc := ⟨.hbm, 105, rfl⟩
abbrev main_v79 : Ref sig .tc := ⟨.hbm, 106, rfl⟩
abbrev main_cst_15 : Ref sig .tc := ⟨.hbm, 107, rfl⟩
abbrev main_v80 : Ref sig .tc := ⟨.hbm, 108, rfl⟩
abbrev main_v81 : Ref sig .tc := ⟨.hbm, 109, rfl⟩
abbrev main_cst_16 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]
-- ==== Kernel5.lean ====
abbrev S16384x1024 : Shape := ⟨2, ![16384, 1024]⟩
abbrev S16384x512 : Shape := ⟨2, ![16384, 512]⟩
abbrev S16384x4352 : Shape := ⟨2, ![16384, 4352]⟩
abbrev S128 : Shape := ⟨1, ![128]⟩
abbrev S8x64 : Shape := ⟨2, ![8, 64]⟩
abbrev S512 : Shape := ⟨1, ![512]⟩
abbrev S1024x1024 : Shape := ⟨2, ![1024, 1024]⟩
abbrev S2x1024 : Shape := ⟨2, ![2, 1024]⟩
abbrev S1024x4096 : Shape := ⟨2, ![1024, 4096]⟩
abbrev S4096x1024 : Shape := ⟨2, ![4096, 1024]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S1024 : Shape := ⟨1, ![1024]⟩
abbrev S1x128 : Shape := ⟨2, ![1, 128]⟩
abbrev S512x1024 : Shape := ⟨2, ![512, 1024]⟩
abbrev S512x128 : Shape := ⟨2, ![512, 128]⟩
abbrev S128x1024 : Shape := ⟨2, ![128, 1024]⟩
abbrev S512x4096 : Shape := ⟨2, ![512, 4096]⟩

abbrev nBuf : Space → Nat
  | .hbm => 52
  | .vmem => 35
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x4352, .f32⟩
  | .hbm, ⟨4, _⟩ => ⟨S128, .f32⟩
  | .hbm, ⟨5, _⟩ => ⟨S16384x512, .f32⟩
  | .hbm, ⟨6, _⟩ => ⟨S16384x512, .f32⟩
  | .hbm, ⟨7, _⟩ => ⟨S16384x512, .bf16⟩
  | .hbm, ⟨8, _⟩ => ⟨S16384x512, .bf16⟩
  | .hbm, ⟨9, _⟩ => ⟨S16384x512, .bf16⟩
  | .hbm, ⟨10, _⟩ => ⟨S16384x512, .bf16⟩
  | .hbm, ⟨11, _⟩ => ⟨S8x64, .f32⟩
  | .hbm, ⟨12, _⟩ => ⟨S512, .f32⟩
  | .hbm, ⟨13, _⟩ => ⟨S512, .f32⟩
  | .hbm, ⟨14, _⟩ => ⟨S1024x1024, .f32⟩
  | .hbm, ⟨15, _⟩ => ⟨S2x1024, .f32⟩
  | .hbm, ⟨16, _⟩ => ⟨S2x1024, .f32⟩
  | .hbm, ⟨17, _⟩ => ⟨S1024x4096, .f32⟩
  | .hbm, ⟨18, _⟩ => ⟨S4096x1024, .f32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512x1, .i32⟩
  | .hbm, ⟨24, _⟩ => ⟨S1x512, .i32⟩
  | .hbm, ⟨25, _⟩ => ⟨S512x512, .i32⟩
  | .hbm, ⟨26, _⟩ => ⟨S512x512, .i32⟩
  | .hbm, ⟨27, _⟩ => ⟨S512x512, .i1⟩
  | .hbm, ⟨28, _⟩ => ⟨S512x512, .bf16⟩
  | .hbm, ⟨29, _⟩ => ⟨S1024x4096, .bf16⟩
  | .hbm, ⟨30, _⟩ => ⟨S4096x1024, .bf16⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S1x128, .f32⟩
  | .hbm, ⟨38, _⟩ => ⟨S1x512, .f32⟩
  | .hbm, ⟨39, _⟩ => ⟨S1x512, .f32⟩
  | .hbm, ⟨40, _⟩ => ⟨S1x512, .f32⟩
  | .hbm, ⟨41, _⟩ => ⟨S512x1024, .f32⟩
  | .hbm, ⟨42, _⟩ => ⟨S512x1024, .bf16⟩
  | .hbm, ⟨43, _⟩ => ⟨S512x1024, .f32⟩
  | .hbm, ⟨44, _⟩ => ⟨S512x1024, .bf16⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S1x1024, .f32⟩
  | .hbm, ⟨49, _⟩ => ⟨S1024, .f32⟩
  | .hbm, ⟨50, _⟩ => ⟨S1x1024, .f32⟩
  | .hbm, ⟨51, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x128, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S512x512, .bf16⟩
  | .local _ .vmem, ⟨25, _⟩ => ⟨S512x1024, .bf16⟩
  | .local _ .vmem, ⟨26, _⟩ => ⟨S512x1024, .bf16⟩
  | .local _ .vmem, ⟨27, _⟩ => ⟨S1x1024, .f32⟩
  | .local _ .vmem, ⟨28, _⟩ => ⟨S1x1024, .f32⟩
  | .local _ .vmem, ⟨29, _⟩ => ⟨S1024x4096, .bf16⟩
  | .local _ .vmem, ⟨30, _⟩ => ⟨S4096x1024, .bf16⟩
  | .local _ .vmem, ⟨31, _⟩ => ⟨S1x1024, .f32⟩
  | .local _ .vmem, ⟨32, _⟩ => ⟨S1x1024, .f32⟩
  | .local _ .vmem, ⟨33, _⟩ => ⟨S512x1024, .f32⟩
  | .local _ .vmem, ⟨34, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_stg22_0 : Ref sig .tc := ⟨.vmem, 32, rfl⟩
abbrev cc0_stg23_0 : Ref sig .tc := ⟨.vmem, 33, rfl⟩
abbrev cc0_stg23_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem21_0 : DmaSem sig := 31
abbrev cc0_sem22_0 : DmaSem sig := 32
abbrev cc0_sem23_0 : DmaSem sig := 33
abbrev cc0_sem23_1 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x4096 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S4096x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S512x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference5Ideal.lean ====
abbrev S16384x1024 : Shape := ⟨2, ![16384, 1024]⟩
abbrev S16384x512 : Shape := ⟨2, ![16384, 512]⟩
abbrev S16384x4352 : Shape := ⟨2, ![16384, 4352]⟩
abbrev S128 : Shape := ⟨1, ![128]⟩
abbrev S8x64 : Shape := ⟨2, ![8, 64]⟩
abbrev S512 : Shape := ⟨1, ![512]⟩
abbrev S1024x1024 : Shape := ⟨2, ![1024, 1024]⟩
abbrev S2x1024 : Shape := ⟨2, ![2, 1024]⟩
abbrev S1024x4096 : Shape := ⟨2, ![1024, 4096]⟩
abbrev S4096x1024 : Shape := ⟨2, ![4096, 1024]⟩
abbrev S16384x4x128 : Shape := ⟨3, ![16384, 4, 128]⟩
abbrev S_ : Shape := ⟨0, ![]⟩
abbrev S16384x4 : Shape := ⟨2, ![16384, 4]⟩
abbrev S16384x4x1 : Shape := ⟨3, ![16384, 4, 1]⟩
abbrev S1x1x128 : Shape := ⟨3, ![1, 1, 128]⟩
abbrev S16384x8x64 : Shape := ⟨3, ![16384, 8, 64]⟩
abbrev S16384x8 : Shape := ⟨2, ![16384, 8]⟩
abbrev S16384x8x1 : Shape := ⟨3, ![16384, 8, 1]⟩
abbrev S1x512 : Shape := ⟨2, ![1, 512]⟩
abbrev S1x8x64 : Shape := ⟨3, ![1, 8, 64]⟩
abbrev S1x1024 : Shape := ⟨2, ![1, 1024]⟩
abbrev S1024 : Shape := ⟨1, ![1024]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 177
  | .vmem => 0
  | .smem => 0
  | _ => 0

abbrev hbmTy0_0 (i : Nat) : BufTy := match i % 128 with
  | 0 => ⟨S16384x1024, .f32⟩
  | 1 => ⟨S16384x512, .f32⟩
  | 2 => ⟨S16384x512, .f32⟩
  | 3 => ⟨S16384x4352, .f32⟩
  | 4 => ⟨S128, .f32⟩
  | 5 => ⟨S16384x512, .f32⟩
  | 6 => ⟨S16384x512, .f32⟩
  | 7 => ⟨S16384x512, .bf16⟩
  | 8 => ⟨S16384x512, .bf16⟩
  | 9 => ⟨S16384x512, .bf16⟩
  | 10 => ⟨S16384x512, .bf16⟩
  | 11 => ⟨S8x64, .f32⟩
  | 12 => ⟨S512, .f32⟩
  | 13 => ⟨S512, .f32⟩
  | 14 => ⟨S1024x1024, .f32⟩
  | 15 => ⟨S2x1024, .f32⟩
  | 16 => ⟨S2x1024, .f32⟩
  | 17 => ⟨S1024x4096, .f32⟩
  | 18 => ⟨S4096x1024, .f32⟩
  | 19 => ⟨S16384x512, .f32⟩
  | 20 => ⟨S16384x4x128, .f32⟩
  | 21 => ⟨S16384x4x128, .f32⟩
  | 22 => ⟨S_, .f32⟩
  | 23 => ⟨S16384x4, .f32⟩
  | 24 => ⟨S16384x4x1, .f32⟩
  | 25 => ⟨S_, .f32⟩
  | 26 => ⟨S16384x4x1, .f32⟩
  | 27 => ⟨S16384x4x1, .f32⟩
  | 28 => ⟨S_, .f32⟩
  | 29 => ⟨S16384x4x1, .f32⟩
  | 30 => ⟨S16384x4x1, .f32⟩
  | 31 => ⟨S16384x4x1, .f32⟩
  | 32 => ⟨S16384x4x128, .f32⟩
  | 33 => ⟨S16384x4x128, .f32⟩
  | 34 => ⟨S1x1x128, .f32⟩
  | 35 => ⟨S16384x4x128, .f32⟩
  | 36 => ⟨S16384x4x128, .f32⟩
  | 37 => ⟨S16384x512, .f32⟩
  | 38 => ⟨S16384x4x128, .f32⟩
  | 39 => ⟨S16384x4x128, .f32⟩
  | 40 => ⟨S16384x4x128, .f32⟩
  | 41 => ⟨S_, .f32⟩
  | 42 => ⟨S16384x4x128, .f32⟩
  | 43 => ⟨S16384x4x128, .f32⟩
  | 44 => ⟨S_, .f32⟩
  | 45 => ⟨S16384x4x128, .f32⟩
  | 46 => ⟨S16384x4x128, .f32⟩
  | 47 => ⟨S16384x4x128, .f32⟩
  | 48 => ⟨S16384x4x128, .f32⟩
  | 49 => ⟨S16384x512, .f32⟩
  | 50 => ⟨S16384x8x64, .f32⟩
  | 51 => ⟨S16384x512, .f32⟩
  | 52 => ⟨S16384x8x64, .f32⟩
  | 53 => ⟨S16384x512, .f32⟩
  | 54 => ⟨S16384x8x64, .f32⟩
  | 55 => ⟨S16384x512, .f32⟩
  | 56 => ⟨S16384x8x64, .f32⟩
  | 57 => ⟨S_, .f32⟩
  | 58 => ⟨S16384x8, .f32⟩
  | 59 => ⟨S16384x8x1, .f32⟩
  | 60 => ⟨S_, .f32⟩
  | 61 => ⟨S16384x8x1, .f32⟩
  | 62 => ⟨S16384x8x1, .f32⟩
  | 63 => ⟨S16384x8x64, .f32⟩
  | 64 => ⟨S16384x8x64, .f32⟩
  | 65 => ⟨S16384x8x64, .f32⟩
  | 66 => ⟨S_, .f32⟩
  | 67 => ⟨S16384x8, .f32⟩
  | 68 => ⟨S16384x8x1, .f32⟩
  | 69 => ⟨S_, .f32⟩
  | 70 => ⟨S16384x8x1, .f32⟩
  | 71 => ⟨S16384x8x1, .f32⟩
  | 72 => ⟨S_, .f32⟩
  | 73 => ⟨S16384x8x1, .f32⟩
  | 74 => ⟨S16384x8x1, .f32⟩
  | 75 => ⟨S16384x8x1, .f32⟩
  | 76 => ⟨S16384x8x64, .f32⟩
  | 77 => ⟨S16384x8x64, .f32⟩
  | 78 => ⟨S16384x512, .f32⟩
  | 79 => ⟨S1x512, .f32⟩
  | 80 => ⟨S16384x512, .f32⟩
  | 81 => ⟨S16384x512, .f32⟩
  | 82 => ⟨S1x512, .f32⟩
  | 83 => ⟨S16384x512, .f32⟩
  | 84 => ⟨S16384x512, .f32⟩
  | 85 => ⟨S16384x8x64, .f32⟩
  | 86 => ⟨S1x8x64, .f32⟩
  | 87 => ⟨S16384x8x64, .f32⟩
  | 88 => ⟨S16384x8x64, .f32⟩
  | 89 => ⟨S_, .f32⟩
  | 90 => ⟨S16384x8, .f32⟩
  | 91 => ⟨S16384x8x1, .f32⟩
  | 92 => ⟨S16384x8x64, .f32⟩
  | 93 => ⟨S16384x8x64, .f32⟩
  | 94 => ⟨S16384x512, .f32⟩
  | 95 => ⟨S16384x512, .f32⟩
  | 96 => ⟨S16384x512, .f32⟩
  | 97 => ⟨S16384x512, .f32⟩
  | 98 => ⟨S16384x512, .f32⟩
  | 99 => ⟨S16384x1024, .f32⟩
  | 100 => ⟨S16384x1024, .f32⟩
  | 101 => ⟨S_, .f32⟩
  | 102 => ⟨S16384x1024, .f32⟩
  | 103 => ⟨S16384x1024, .f32⟩
  | 104 => ⟨S16384x1024, .f32⟩
  | 105 => ⟨S1x1024, .f32⟩
  | 106 => ⟨S1024, .f32⟩
  | 107 => ⟨S1x1024, .f32⟩
  | 108 => ⟨S1024, .f32⟩
  | 109 => ⟨S_, .f32⟩
  | 110 => ⟨S16384, .f32⟩
  | 111 => ⟨S16384x1, .f32⟩
  | 112 => ⟨S_, .f32⟩
  | 113 => ⟨S16384x1, .f32⟩
  | 114 => ⟨S16384x1, .f32⟩
  | 115 => ⟨S16384x1024, .f32⟩
  | 116 => ⟨S16384x1024, .f32⟩
  | 117 => ⟨S16384x1024, .f32⟩
  | 118 => ⟨S_, .f32⟩
  | 119 => ⟨S16384, .f32⟩
  | 120 => ⟨S16384x1, .f32⟩
  | 121 => ⟨S_, .f32⟩
  | 122 => ⟨S16384x1, .f32⟩
  | 123 => ⟨S16384x1, .f32⟩
  | 124 => ⟨S_, .f32⟩
  | 125 => ⟨S16384x1, .f32⟩
  | 126 => ⟨S16384x1, .f32⟩
  | 127 => ⟨S16384x1, .f32⟩
  | _ => ⟨S16384x1024, .f32⟩

abbrev hbmTy0_1 (i : Nat) : BufTy := match i % 128 with
  | 0 => ⟨S16384x1024, .f32⟩
  | 1 => ⟨S16384x1024, .f32⟩
  | 2 => ⟨S1x1024, .f32⟩
  | 3 => ⟨S16384x1024, .f32⟩
  | 4 => ⟨S16384x1024, .f32⟩
  | 5 => ⟨S1x1024, .f32⟩
  | 6 => ⟨S16384x1024, .f32⟩
  | 7 => ⟨S16384x1024, .f32⟩
  | 8 => ⟨S_, .f32⟩
  | 9 => ⟨S16384x1024, .f32⟩
  | 10 => ⟨S16384x1024, .f32⟩
  | 11 => ⟨S16384x4096, .f32⟩
  | 12 => ⟨S_, .f32⟩
  | 13 => ⟨S16384x4096, .f32⟩
  | 14 => ⟨S16384x4096, .f32⟩
  | 15 => ⟨S16384x4096, .f32⟩
  | 16 => ⟨S16384x1024, .f32⟩
  | 17 => ⟨S16384x1024, .f32⟩
  | 18 => ⟨S1x1024, .f32⟩
  | 19 => ⟨S1024, .f32⟩
  | 20 => ⟨S1x1024, .f32⟩
  | 21 => ⟨S1024, .f32⟩
  | 22 => ⟨S_, .f32⟩
  | 23 => ⟨S16384, .f32⟩
  | 24 => ⟨S16384x1, .f32⟩
  | 25 => ⟨S_, .f32⟩
  | 26 => ⟨S16384x1, .f32⟩
  | 27 => ⟨S16384x1, .f32⟩
  | 28 => ⟨S16384x1024, .f32⟩
  | 29 => ⟨S16384x1024, .f32⟩
  | 30 => ⟨S16384x1024, .f32⟩
  | 31 => ⟨S_, .f32⟩
  | 32 => ⟨S16384, .f32⟩
  | 33 => ⟨S16384x1, .f32⟩
  | 34 => ⟨S_, .f32⟩
  | 35 => ⟨S16384x1, .f32⟩
  | 36 => ⟨S16384x1, .f32⟩
  | 37 => ⟨S_, .f32⟩
  | 38 => ⟨S16384x1, .f32⟩
  | 39 => ⟨S16384x1, .f32⟩
  | 40 => ⟨S16384x1, .f32⟩
  | 41 => ⟨S16384x1024, .f32⟩
  | 42 => ⟨S16384x1024, .f32⟩
  | 43 => ⟨S1x1024, .f32⟩
  | 44 => ⟨S16384x1024, .f32⟩
  | 45 => ⟨S16384x1024, .f32⟩
  | 46 => ⟨S1x1024, .f32⟩
  | 47 => ⟨S16384x1024, .f32⟩
  | 48 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst : Ref sig .tc := ⟨.hbm, 22, rfl⟩
abbrev main_v3 : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_cst_1 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_6 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_10 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_11 : Ref sig .tc := ⟨.hbm, 109, rfl⟩
abbrev main_v78 : Ref sig .tc := ⟨.hbm, 110, rfl⟩
abbrev main_v79 : Ref sig .tc := ⟨.hbm, 111, rfl⟩
abbrev main_cst_12 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_13 : Ref sig .tc := ⟨.hbm, 118, rfl⟩
abbrev main_v85 : Ref sig .tc := ⟨.hbm, 119, rfl⟩
abbrev main_v86 : Ref sig .tc := ⟨.hbm, 120, rfl⟩
abbrev main_cst_14 : Ref sig .tc := ⟨.hbm, 121, rfl⟩
abbrev main_v87 : Ref sig .tc := ⟨.hbm, 122, rfl⟩
abbrev main_v88 : Ref sig .tc := ⟨.hbm, 123, rfl⟩
abbrev main_cst_15 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_16 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_17 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_18 : Ref sig .tc := ⟨.hbm, 150, rfl⟩
abbrev main_v112 : Ref sig .tc := ⟨.hbm, 151, rfl⟩
abbrev main_v113 : Ref sig .tc := ⟨.hbm, 152, rfl⟩
abbrev main_cst_19 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_20 : Ref sig .tc := ⟨.hbm, 159, rfl⟩
abbrev main_v119 : Ref sig .tc := ⟨.hbm, 160, rfl⟩
abbrev main_v120 : Ref sig .tc := ⟨.hbm, 161, rfl⟩
abbrev main_cst_21 : Ref sig .tc := ⟨.hbm, 162, rfl⟩
abbrev main_v121 : Ref sig .tc := ⟨.hbm, 163, rfl⟩
abbrev main_v122 : Ref sig .tc := ⟨.hbm, 164, rfl⟩
abbrev main_cst_22 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩

abbrev nD : Nat := 1
abbrev τ : Topo := Topo.v7x

variable {F : FTy → Type} [FloatOps F]
-- ==== Proof.Facts.lean ====
/-
  The stated facts of the four projection kernels in the machine's words. Each is a fact about shapes, offsets and
  layouts alone, so it is the fact of the same name the kernel's ideal states.
-/
module

public import proofs.«01_k».proof.Defs
public import proofs.«01_k».proof.Proof.Gen.Kernel2Ideal
public import proofs.«01_k».proof.Proof.Gen.Kernel3Ideal
public import proofs.«01_k».proof.Proof.Gen.Kernel4Ideal
public import proofs.«01_k».proof.Proof.Gen.Kernel5Ideal

@[expose] public section

namespace Cert.Proof.Facts

instance kernel2 : Cert.Kernel2.Facts := by
  obtain ⟨⟩ := Cert.Kernel2Ideal.Gen.facts₀
  refine { toFacts₀ := ?_ }
  constructor <;> assumption

instance kernel3 : Cert.Kernel3.Facts := by
  obtain ⟨⟩ := Cert.Kernel3Ideal.Gen.facts₀
  refine { toFacts₀ := ?_ }
  constructor <;> assumption

instance kernel4 : Cert.Kernel4.Facts := by
  obtain ⟨⟩ := Cert.Kernel4Ideal.Gen.facts₀
  refine { toFacts₀ := ?_ }
  constructor <;> assumption

set_option maxHeartbeats 4000000 in
instance kernel5 : Cert.Kernel5.Facts := by
  obtain ⟨⟩ := Cert.Kernel5Ideal.Gen.facts₀
  refine { toFacts₀ := ?_ }
  constructor <;> assumption

end Cert.Proof.Facts

end
-- ==== Proof.OddRun.lean ====
/-
  The call that closes an odd layer: the run of its body at one grid point. The inputs' buffers keep their contents and
  the output's buffer ends with the pieces the body's stores write.
-/
module

public import proofs.«01_k».proof.Proof.Gen.Kernel5Ideal.Frame.Runs

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- What the body's stores leave in each output's staging memref, as pieces (last first), WITH the
    proof that on whole staging memrefs — the inputs' at their contents, the other outputs' at
    anything, the body runs to the continuation holding the inputs' as they were,
    each output's buffer with its pieces written: the pieces are those the run finds. -/
noncomputable def kernelRun0_A (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S1x128 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S512x512 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x4096 .bf16) (harg20 : arg20.IsWhole) (arg21 : Memref sig .tc .vmem S4096x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S512x1024 .f32) (harg24 : arg24.IsWhole)
    (x0 : Vec F S512x1024 .f32) (x1 : Vec F S512x512 .f32) (x2 : Vec F S512x512 .f32) (x3 : Vec F S512x512 .f32) (x4 : Vec F S1x128 .f32) (x5 : Vec F S512x512 .f32) (x6 : Vec F S512x512 .f32) (x7 : Vec F S512x512 .bf16) (x8 : Vec F S512x512 .bf16) (x9 : Vec F S512x512 .bf16) (x10 : Vec F S512x512 .bf16) (x11 : Vec F S1x512 .f32) (x12 : Vec F S1x512 .f32) (x13 : Vec F S1x512 .f32) (x14 : Vec F S512x512 .bf16) (x15 : Vec F S512x1024 .bf16) (x16 : Vec F S512x1024 .bf16) (x17 : Vec F S1x1024 .f32) (x18 : Vec F S1x1024 .f32) (x19 : Vec F S1024x4096 .bf16) (x20 : Vec F S4096x1024 .bf16) (x21 : Vec F S1x1024 .f32) (x22 : Vec F S1x1024 .f32) :
    { L23 : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ f, arg24.view.loc (c : Thread nD τ) ↦[arg24.view.set]{fullShare} arg24.view.writes (Elt F) f L23)) -∗ K ⟨⟩))
          ⊢ wp frame (wpE (defs₀ (F := F)) Variants.none c none) E (cc0_out_odd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22
    simp only [cc0_out_odd_eq_skeleton]; unfold cc0_out_odd_skel
    simp only [k0_part1_eq_skeleton, k0_part2_eq_skeleton, k0_part3_eq_skeleton, k0_part4_eq_skeleton, k0_part5_eq_skeleton, k0_part6_eq_skeleton]
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    iexists _; iexact H23

end Cert.Kernel5Ideal.Gen

end
-- ==== Proof.OddFrame.lean ====
/-
  The call that closes an odd layer, from one grid point to the whole grid: what the output's buffer holds after each
  point, the pipeline's data, the body's obligation, the run of the program, and its frame.
-/
module

public import proofs.«01_k».proof.Proof.OddRun
public import Idealize.ShloMosaic.Lib.Claim

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 23 tile its block (1 store of `S512x1024`), so they cover it. -/
theorem cover0_A_23 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S1x128 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S512x512 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x4096 .bf16) (harg20 : arg20.IsWhole) (arg21 : Memref sig .tc .vmem S4096x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S512x1024 .f32) (harg24 : arg24.IsWhole)
    (x0 : Vec F S512x1024 .f32) (x1 : Vec F S512x512 .f32) (x2 : Vec F S512x512 .f32) (x3 : Vec F S512x512 .f32) (x4 : Vec F S1x128 .f32) (x5 : Vec F S512x512 .f32) (x6 : Vec F S512x512 .f32) (x7 : Vec F S512x512 .bf16) (x8 : Vec F S512x512 .bf16) (x9 : Vec F S512x512 .bf16) (x10 : Vec F S512x512 .bf16) (x11 : Vec F S1x512 .f32) (x12 : Vec F S1x512 .f32) (x13 : Vec F S1x512 .f32) (x14 : Vec F S512x512 .bf16) (x15 : Vec F S512x1024 .bf16) (x16 : Vec F S512x1024 .bf16) (x17 : Vec F S1x1024 .f32) (x18 : Vec F S1x1024 .f32) (x19 : Vec F S1024x4096 .bf16) (x20 : Vec F S4096x1024 .bf16) (x21 : Vec F S1x1024 .f32) (x22 : Vec F S1x1024 .f32) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22).1 S512x1024.size (by sl_kernel_rfl) y

/-- What the run leaves in output 23's staging buffer: its pieces read back over junk. -/
def out0_A_23 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S1x128 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S512x512 .bf16) (harg15 : arg15.IsWhole) (arg16 : Memref sig .tc .vmem S512x1024 .bf16) (harg16 : arg16.IsWhole) (arg17 : Memref sig .tc .vmem S512x1024 .bf16) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1024x4096 .bf16) (harg20 : arg20.IsWhole) (arg21 : Memref sig .tc .vmem S4096x1024 .bf16) (harg21 : arg21.IsWhole) (arg22 : Memref sig .tc .vmem S1x1024 .f32) (harg22 : arg22.IsWhole) (arg23 : Memref sig .tc .vmem S1x1024 .f32) (harg23 : arg23.IsWhole) (arg24 : Memref sig .tc .vmem S512x1024 .f32) (harg24 : arg24.IsWhole)
    (x0 : Vec F S512x1024 .f32) (x1 : Vec F S512x512 .f32) (x2 : Vec F S512x512 .f32) (x3 : Vec F S512x512 .f32) (x4 : Vec F S1x128 .f32) (x5 : Vec F S512x512 .f32) (x6 : Vec F S512x512 .f32) (x7 : Vec F S512x512 .bf16) (x8 : Vec F S512x512 .bf16) (x9 : Vec F S512x512 .bf16) (x10 : Vec F S512x512 .bf16) (x11 : Vec F S1x512 .f32) (x12 : Vec F S1x512 .f32) (x13 : Vec F S1x512 .f32) (x14 : Vec F S512x512 .bf16) (x15 : Vec F S512x1024 .bf16) (x16 : Vec F S512x1024 .bf16) (x17 : Vec F S1x1024 .f32) (x18 : Vec F S1x1024 .f32) (x19 : Vec F S1024x4096 .bf16) (x20 : Vec F S4096x1024 .bf16) (x21 : Vec F S1x1024 .f32) (x22 : Vec F S1x1024 .f32) : Vec F S512x1024 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16 x17 x18 x19 x20 x21 x22).1)

/-! ## What the outputs hold after each point -/

/-- What the outputs' staging buffers hold after the body at point `t`: the run's contents at
    the point's memrefs and input blocks. -/
def outsAt0 (c : Dev nD) (t : Fin cfg0.N) : Vec F S512x1024 .f32 :=
  out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)

/-! ## The pipeline's proof data -/

/-- The proof data of the one pipeline on core `c`: the arrays as the region finds them (`V`); after the body at
    point `t` each input's buffer at its block and the outputs' at `outsAt0`; the invariant `ΦA`
    (the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => (outsAt0 m c t)
    | ⟨_ + 24, h⟩ => absurd h (Nat.not_lt.2 (Nat.le_add_left _ _))
  Φ _ := Pipeline.ΦA spec0 c
  q _ := fullShare
  owed _ := 0

/-- The proof data's arrays are the contents on entry to the region. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 2400000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  unfold outsAt0
  unfold out0_A_23
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  iintro ⟨H0, H1, H2, H3, H4, H5, H6, H7, H8, H9, H10, H11, H12, H13, H14, H15, H16, H17, H18, H19, H20, H21, H22, ⟨%e23, H23⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  unfold owns; iexists _; isplitr
  swap; · iexact H23
  ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

/-- THE FRAME: `Cert.quiescent_Kernel5Ideal`'s statement (Defs.lean) for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.Kernel5Ideal.Gen

end
-- ==== Proof.Frames.lean ====
/-
  The frames: every program ends with its arguments unchanged and every semaphore counter at zero. A kernel in the
  machine's words runs as its ideal does, the pipeline's run being stated for any float values.
-/
module

public import proofs.«01_k».proof.Defs
public import proofs.«01_k».proof.Proof.Gen.Kernel2Ideal.Frame
public import proofs.«01_k».proof.Proof.Gen.Kernel3Ideal.Frame
public import proofs.«01_k».proof.Proof.Gen.Kernel4Ideal.Frame
public import proofs.«01_k».proof.Proof.OddFrame
public import proofs.«01_k».proof.Proof.Facts
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import Idealize.ShloMosaic.Lib.Claim

@[expose] public section

noncomputable section

open Idealize.ShloMosaic Idealize.SL.Sem

namespace Cert.Proof.Frames

set_option maxRecDepth 100000
set_option maxHeartbeats 4000000

theorem kernel2Ideal : Cert.quiescent_Kernel2Ideal := fun m g _ => Cert.Kernel2Ideal.Gen.frame m g

/-- The body of kernel 2 is its ideal's, … -/
theorem body2 : @Cert.Kernel2.cc0_proj Bits _ _ = @Cert.Kernel2Ideal.cc0_proj Bits _ _ := by rfl

/-- … so the body table is … -/
theorem table2 : Cert.Kernel2.defs₀ (F := Bits) = Cert.Kernel2Ideal.defs₀ (F := Bits) := by
  unfold Cert.Kernel2.defs₀ Cert.Kernel2Ideal.defs₀
  refine congrArg Defs.onTc (funext fun l => funext fun x => ?_)
  match l, x with
  | 0, (t, s) =>
    dsimp only
    rw [body2]
    rfl

/-- … and the pipeline's table. -/
theorem defs2 : Cert.Kernel2.defs (F := Bits) = Cert.Kernel2Ideal.defs (F := Bits) :=
  congrArg (Pipeline.defs Cert.Kernel2Ideal.pcfgs) table2

theorem kernel2 : Cert.quiescent_Kernel2 := fun m g _ =>
  (congrArg (fun D => θ_run D (onTc (Cert.Kernel2.main (F := Bits))) ⟨m, fun _ => 0, g⟩ _) defs2).mpr (Cert.Kernel2Ideal.Gen.frame (F := Bits) m g)

theorem reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

theorem kernel3Ideal : Cert.quiescent_Kernel3Ideal := fun m g _ => Cert.Kernel3Ideal.Gen.frame m g

/-- The body of kernel 3 is its ideal's, … -/
theorem body3 : @Cert.Kernel3.cc0_proj_t Bits _ _ = @Cert.Kernel3Ideal.cc0_proj_t Bits _ _ := by rfl

/-- … so the body table is … -/
theorem table3 : Cert.Kernel3.defs₀ (F := Bits) = Cert.Kernel3Ideal.defs₀ (F := Bits) := by
  unfold Cert.Kernel3.defs₀ Cert.Kernel3Ideal.defs₀
  refine congrArg Defs.onTc (funext fun l => funext fun x => ?_)
  match l, x with
  | 0, (t, s) =>
    dsimp only
    rw [body3]
    rfl

/-- … and the pipeline's table. -/
theorem defs3 : Cert.Kernel3.defs (F := Bits) = Cert.Kernel3Ideal.defs (F := Bits) :=
  congrArg (Pipeline.defs Cert.Kernel3Ideal.pcfgs) table3

theorem kernel3 : Cert.quiescent_Kernel3 := fun m g _ =>
  (congrArg (fun D => θ_run D (onTc (Cert.Kernel3.main (F := Bits))) ⟨m, fun _ => 0, g⟩ _) defs3).mpr (Cert.Kernel3Ideal.Gen.frame (F := Bits) m g)

theorem reference3 : Cert.quiescent_Reference3Ideal := fun m g _ =>
  (θ_run Cert.Reference3Ideal.defs _ _).mono (fun r h => ⟨fun c => (h c).2.2, sem_eq_zero_of_no_sems (by decide) r.2⟩)
    (Cert.Reference3Ideal.Value.run m g)

theorem kernel4Ideal : Cert.quiescent_Kernel4Ideal := fun m g _ => Cert.Kernel4Ideal.Gen.frame m g

/-- The body of kernel 4 is its ideal's, … -/
theorem body4 : @Cert.Kernel4.cc0_out_even Bits _ _ = @Cert.Kernel4Ideal.cc0_out_even Bits _ _ := by rfl

/-- … so the body table is … -/
theorem table4 : Cert.Kernel4.defs₀ (F := Bits) = Cert.Kernel4Ideal.defs₀ (F := Bits) := by
  unfold Cert.Kernel4.defs₀ Cert.Kernel4Ideal.defs₀
  refine congrArg Defs.onTc (funext fun l => funext fun x => ?_)
  match l, x with
  | 0, (t, s) =>
    dsimp only
    rw [body4]
    rfl

/-- … and the pipeline's table. -/
theorem defs4 : Cert.Kernel4.defs (F := Bits) = Cert.Kernel4Ideal.defs (F := Bits) :=
  congrArg (Pipeline.defs Cert.Kernel4Ideal.pcfgs) table4

theorem kernel4 : Cert.quiescent_Kernel4 := fun m g _ =>
  (congrArg (fun D => θ_run D (onTc (Cert.Kernel4.main (F := Bits))) ⟨m, fun _ => 0, g⟩ _) defs4).mpr (Cert.Kernel4Ideal.Gen.frame (F := Bits) m g)

theorem reference4 : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

theorem kernel5Ideal : Cert.quiescent_Kernel5Ideal := fun m g _ => Cert.Kernel5Ideal.Gen.frame m g

/-- The body of kernel 5 is its ideal's, … -/
theorem body5 : @Cert.Kernel5.cc0_out_odd Bits _ _ = @Cert.Kernel5Ideal.cc0_out_odd Bits _ _ := by rfl

/-- … so the body table is … -/
theorem table5 : Cert.Kernel5.defs₀ (F := Bits) = Cert.Kernel5Ideal.defs₀ (F := Bits) := by
  unfold Cert.Kernel5.defs₀ Cert.Kernel5Ideal.defs₀
  refine congrArg Defs.onTc (funext fun l => funext fun x => ?_)
  match l, x with
  | 0, (t, s) =>
    dsimp only
    rw [body5]
    rfl

/-- … and the pipeline's table. -/
theorem defs5 : Cert.Kernel5.defs (F := Bits) = Cert.Kernel5Ideal.defs (F := Bits) :=
  congrArg (Pipeline.defs Cert.Kernel5Ideal.pcfgs) table5

theorem kernel5 : Cert.quiescent_Kernel5 := fun m g _ =>
  (congrArg (fun D => θ_run D (onTc (Cert.Kernel5.main (F := Bits))) ⟨m, fun _ => 0, g⟩ _) defs5).mpr (Cert.Kernel5Ideal.Gen.frame (F := Bits) m g)

theorem reference5 : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

end Cert.Proof.Frames

end
-- ==== Proof.ChainDef.lean ====
/- One chunk of sixty-four tokens of one batch row in one direction, as the kernel computes it: from the chunk's gates,
   queries, keys and values and the state before it, the chunk's outputs and the state after it. The four heads lie side
   by side: rows (or lanes) `64·h + t` of a stack of 256, lanes `128·h + d` of a stack of 512. Written over any
   arithmetic, in the kernel's operations, cut where the mathematics cuts it. -/
module

public import proofs.«01_k».proof.Proof.Gen.KernelIdeal.Skeleton

@[expose] public section

set_option maxRecDepth 16384

noncomputable section

namespace Cert.KernelIdeal.Chain

open Idealize.ShloMosaic Idealize.ShloMosaic.TcCoe Cert.KernelIdeal Cert.KernelIdeal.Gen

variable {F : FTy → Type} [FloatOps F]

/-- The index arrays every chunk uses: row, column and lane numbers, and the masks of the head blocks. -/
structure Nums (F : FTy → Type) where
  row : IVec S64x64 32
  col : IVec S64x64 32
  lane : IVec S64x128 32
  same : IVec S256x256 1
  headLanes : IVec S256x512 1
  laneBlk : IVec S1x256 32
  rowCat : IVec S64x256 32
  colCat : IVec S64x256 32
  blkCat : IVec S64x256 32
  eye : FVec F S64x256 .f32

/-- The constant zero over a shape. -/
abbrev zeros (s : Shape) : FVec F s .f32 := broadcast s (Scalar.ofBits .f32 0x00000000#32)

/-- Lane `l` of every row, as a column. -/
def laneCol (N : Nums F) (l : BitVec 32) (x : FVec F S64x128 .f32) : FVec F S64x1 .f32 :=
  shapeCast S64x1 (multiReduction .add [1] S64 (select (cmpi .eq N.lane (broadcast S64x128 l)) x (zeros S64x128))
    0x00000000#32 reduces_S64x128_S64 (.inl rfl) rfl) shapeCasts_S64_S64x1

/-- Four lanes stacked below one another. -/
def stackCol (N : Nums F) (l0 l1 l2 l3 : BitVec 32) (x : FVec F S64x128 .f32) : FVec F S256x1 .f32 :=
  concatenate S256x1 0 [⟨S64x1, laneCol N l0 x⟩, ⟨S64x1, laneCol N l1 x⟩, ⟨S64x1, laneCol N l2 x⟩, ⟨S64x1, laneCol N l3 x⟩]
    concatenates_S64x1_S64x1_S64x1_S64x1_S256x1_d0

/-- Four lanes, each repeated over its head's block of 64 lanes. -/
def catCol (N : Nums F) (l0 l1 l2 l3 : BitVec 32) (x : FVec F S64x128 .f32) : FVec F S64x256 .f32 :=
  have w (l : BitVec 32) : FVec F S64x256 .f32 :=
    broadcastTo S64x256 (shapeCast S64x1 (laneCol N l x) shapeCasts_S64x1_S64x1) broadcasts_S64x1_S64x256
  select (cmpi .eq N.blkCat (broadcast S64x256 3#32)) (w l3)
    (select (cmpi .eq N.blkCat (broadcast S64x256 2#32)) (w l2)
      (select (cmpi .eq N.blkCat (broadcast S64x256 1#32)) (w l1)
        (select (cmpi .eq N.blkCat (broadcast S64x256 0#32)) (w l0) (zeros S64x256))))

/-- A mask as a matrix of zeros and ones. -/
def ones (m : IVec S64x64 1) : FVec F S64x64 .bf16 :=
  truncf .bf16 (sitofp .f32 (extui 32 m natLt_1_32)) bitsLt_bf16_f32

/-- The three parts a number is cut into before it meets the matrix unit: the leading part … -/
def partHi {s : Shape} (x : FVec F s .f32) : FVec F s .bf16 := truncf .bf16 x bitsLt_bf16_f32
/-- … what that leaves … -/
def restHi {s : Shape} (x : FVec F s .f32) : FVec F s .f32 := subf x (extf .f32 (partHi x) bitsLt_bf16_f32)
/-- … its leading part … -/
def partMid {s : Shape} (x : FVec F s .f32) : FVec F s .bf16 := truncf .bf16 (restHi x) bitsLt_bf16_f32
/-- … and the last part. -/
def partLo {s : Shape} (x : FVec F s .f32) : FVec F s .bf16 :=
  truncf .bf16 (subf (restHi x) (extf .f32 (partMid x) bitsLt_bf16_f32)) bitsLt_bf16_f32

/-- The running sums of the log-gates in the mask's order, all lanes. -/
def sums (m : IVec S64x64 1) (g : FVec F S64x128 .f32) : FVec F S64x128 .f32 :=
  addf (addf (matmul dot_S64x64_S64x128_S64x128_1_0_0_1_n_n none (ones m) (partHi g) (constant S64x128 .f32 0x00000000#32))
    (matmul dot_S64x64_S64x128_S64x128_1_0_0_1_n_n none (ones m) (partMid g) (constant S64x128 .f32 0x00000000#32)))
    (matmul dot_S64x64_S64x128_S64x128_1_0_0_1_n_n none (ones m) (partLo g) (constant S64x128 .f32 0x00000000#32))

/-- The first eight lanes of the gates as rows. -/
def gateRows (g : FVec F S64x128 .f32) : FVec F S8x64 .f32 :=
  extractStridedSlice S8x64 ![0, 0] (transpose S128x64 [1, 0] g transposes_S64x128_p1_0_S128x64) slices_S128x64_o0_0_S8x64

/-- The same running sums with tokens along the lanes, once for every head's block. -/
def sumRows (m : IVec S64x64 1) (g : FVec F S64x128 .f32) : FVec F S8x256 .f32 :=
  have o : FVec F S256x64 .bf16 := concatenate S256x64 0 [⟨S64x64, ones m⟩, ⟨S64x64, ones m⟩, ⟨S64x64, ones m⟩, ⟨S64x64, ones m⟩]
    concatenates_S64x64_S64x64_S64x64_S64x64_S256x64_d0
  addf (addf (matmul dot_S8x64_S256x64_S8x256_1_1_0_0_n_n none (partHi (gateRows g)) o (constant S8x256 .f32 0x00000000#32))
    (matmul dot_S8x64_S256x64_S8x256_1_1_0_0_n_n none (partMid (gateRows g)) o (constant S8x256 .f32 0x00000000#32)))
    (matmul dot_S8x64_S256x64_S8x256_1_1_0_0_n_n none (partLo (gateRows g)) o (constant S8x256 .f32 0x00000000#32))

/-- Of four rows, each head's in its own block of lanes. -/
def pickRow (N : Nums F) (r0 r1 r2 r3 : FVec F S1x256 .f32) : FVec F S1x256 .f32 :=
  select (cmpi .eq N.laneBlk (broadcast S1x256 3#32)) r3
    (select (cmpi .eq N.laneBlk (broadcast S1x256 2#32)) r2
      (select (cmpi .eq N.laneBlk (broadcast S1x256 1#32)) r1
        (select (cmpi .eq N.laneBlk (broadcast S1x256 0#32)) r0 (zeros S1x256))))

/-- One number down 64 rows. -/
def down64 (x : FVec F S1x1 .f32) : FVec F S64x1 .f32 :=
  broadcastTo S64x1 (shapeCast S1x1 x shapeCasts_S1x1_S1x1) broadcasts_S1x1_S64x1
/-- One number down 128 rows. -/
def down128 (x : FVec F S1x1 .f32) : FVec F S128x1 .f32 :=
  broadcastTo S128x1 (shapeCast S1x1 x shapeCasts_S1x1_S1x1) broadcasts_S1x1_S128x1

/-- Four numbers, each down its head's 64 rows. -/
def lasts (x0 x1 x2 x3 : FVec F S1x1 .f32) : FVec F S256x1 .f32 :=
  concatenate S256x1 0 [⟨S64x1, down64 x0⟩, ⟨S64x1, down64 x1⟩, ⟨S64x1, down64 x2⟩, ⟨S64x1, down64 x3⟩]
    concatenates_S64x1_S64x1_S64x1_S64x1_S256x1_d0
/-- Four numbers, each down its head's 128 rows. -/
def lastsWide (x0 x1 x2 x3 : FVec F S1x1 .f32) : FVec F S512x1 .f32 :=
  concatenate S512x1 0 [⟨S128x1, down128 x0⟩, ⟨S128x1, down128 x1⟩, ⟨S128x1, down128 x2⟩, ⟨S128x1, down128 x3⟩]
    concatenates_S128x1_S128x1_S128x1_S128x1_S512x1_d0

/-- `exp (γ_t − γ_s)` where the mask holds, zero elsewhere. -/
def decay (m : IVec S64x256 1) (gc : FVec F S64x256 .f32) (gr : FVec F S1x256 .f32) : FVec F S64x256 .f32 :=
  select m (exp (select m (subf gc (broadcastTo S64x256 gr broadcasts_S1x256_S64x256)) (zeros S64x256))) (zeros S64x256)

/-- Four equal blocks of 64 rows by 256 lanes kept on the diagonal. -/
def diag (N : Nums F) (x : FVec F S64x256 .f32) : FVec F S256x256 .f32 :=
  select N.same (concatenate S256x256 0 [⟨S64x256, x⟩, ⟨S64x256, x⟩, ⟨S64x256, x⟩, ⟨S64x256, x⟩]
    concatenates_S64x256_S64x256_S64x256_S64x256_S256x256_d0) (zeros S256x256)

/-- The chunk's rows repeated for every head, each head's rows kept on its own lanes. -/
def wide (N : Nums F) (x : FVec F S64x512 .bf16) : FVec F S256x512 .bf16 :=
  select N.headLanes (concatenate S256x512 0 [⟨S64x512, x⟩, ⟨S64x512, x⟩, ⟨S64x512, x⟩, ⟨S64x512, x⟩]
    concatenates_S64x512_S64x512_S64x512_S64x512_S256x512_d0)
    (broadcast S256x512 (Scalar.truncf .bf16 bitsLt_bf16_f32 (Scalar.ofBits .f32 0x00000000#32)))

/-- The heads' lanes stacked below one another. -/
def narrow (x : FVec F S64x512 .bf16) : FVec F S256x128 .bf16 :=
  concatenate S256x128 0 [⟨S64x128, extractStridedSlice S64x128 ![0, 0] x slices_S64x512_o0_0_S64x128⟩,
    ⟨S64x128, extractStridedSlice S64x128 ![0, 128] x slices_S64x512_o0_128_S64x128⟩,
    ⟨S64x128, extractStridedSlice S64x128 ![0, 256] x slices_S64x512_o0_256_S64x128⟩,
    ⟨S64x128, extractStridedSlice S64x128 ![0, 384] x slices_S64x512_o0_384_S64x128⟩]
    concatenates_S64x128_S64x128_S64x128_S64x128_S256x128_d0

/-- Keys against keys (the first 64 rows) and queries against keys (the last 64), head by head. -/
def keyProducts (N : Nums F) (k q : FVec F S64x512 .bf16) : FVec F S128x256 .f32 :=
  matmul dot_S128x512_S256x512_S128x256_1_1_0_0_n_n none
    (concatenate S128x512 0 [⟨S64x512, k⟩, ⟨S64x512, q⟩] concatenates_S64x512_S64x512_S128x512_d0) (wide N k)
    (constant S128x256 .f32 0x00000000#32)

/-- The first 64 rows of 128. -/
abbrev topRows (x : FVec F S128x256 .f32) : FVec F S64x256 .f32 := extractStridedSlice S64x256 ![0, 0] x slices_S128x256_o0_0_S64x256
/-- The last 64 rows of 128. -/
abbrev botRows (x : FVec F S128x256 .f32) : FVec F S64x256 .f32 := extractStridedSlice S64x256 ![64, 0] x slices_S128x256_o64_0_S64x256

/-- The strictly triangular matrix of one token's pull on the later ones, its sign changed. -/
def pull (strict : IVec S64x256 1) (kk dec bc : FVec F S64x256 .f32) : FVec F S64x256 .f32 :=
  subf (zeros S64x256) (select strict (mulf (mulf kk dec) bc) (zeros S64x256))

/-- The product of two matrices head by head. -/
def times (N : Nums F) (x p : FVec F S64x256 .f32) : FVec F S64x256 .f32 :=
  matmul dot_S64x256_S256x256_S64x256_1_0_0_1_n_n none (truncf .bf16 x bitsLt_bf16_f32) (truncf .bf16 (diag N p) bitsLt_bf16_f32)
    (constant S64x256 .f32 0x00000000#32)

/-- The products of `p` and of `t` with `p`, one above the other. -/
def both (N : Nums F) (p t : FVec F S64x256 .f32) : FVec F S128x256 .f32 :=
  matmul dot_S128x256_S256x256_S128x256_1_0_0_1_n_n none
    (truncf .bf16 (concatenate S128x256 0 [⟨S64x256, p⟩, ⟨S64x256, t⟩] concatenates_S64x256_S64x256_S128x256_d0) bitsLt_bf16_f32)
    (truncf .bf16 (diag N p) bitsLt_bf16_f32) (constant S128x256 .f32 0x00000000#32)

/-- One doubling: from `p` and `t` to `p · p` and `t + t · p`. -/
def doubled (N : Nums F) (pt : FVec F S64x256 .f32 × FVec F S64x256 .f32) : FVec F S64x256 .f32 × FVec F S64x256 .f32 :=
  (topRows (both N pt.1 pt.2), addf pt.2 (botRows (both N pt.1 pt.2)))

/-- The inverse of one minus the matrix `p`, by doublings. -/
def inverse (N : Nums F) (p : FVec F S64x256 .f32) : FVec F S64x256 .f32 :=
  have pt := doubled N (doubled N (doubled N (doubled N (times N p p, addf N.eye p))))
  addf pt.2 (times N pt.2 pt.1)

/-- The two right-hand sides, values and keys, both scaled. -/
def sides (k v : FVec F S64x512 .bf16) (beta eg : FVec F S256x1 .f32) : FVec F S256x256 .f32 :=
  concatenate S256x256 1
    [⟨S256x128, mulf (extf .f32 (narrow v) bitsLt_bf16_f32) (broadcastTo S256x128 beta broadcasts_S256x1_S256x128)⟩,
     ⟨S256x128, mulf (extf .f32 (narrow k) bitsLt_bf16_f32) (broadcastTo S256x128 (mulf beta eg) broadcasts_S256x1_S256x128)⟩]
    concatenates_S256x128_S256x128_S256x256_d1

/-- The two solutions, side by side. -/
def solved (N : Nums F) (t : FVec F S64x256 .f32) (r : FVec F S256x256 .f32) : FVec F S256x256 .f32 :=
  matmul dot_S256x256_S256x256_S256x256_1_0_0_1_n_n none (truncf .bf16 (diag N t) bitsLt_bf16_f32) (truncf .bf16 r bitsLt_bf16_f32)
    (constant S256x256 .f32 0x00000000#32)

/-- The left half of the two solutions … -/
abbrev leftHalf (x : FVec F S256x256 .f32) : FVec F S256x128 .f32 := extractStridedSlice S256x128 ![0, 0] x slices_S256x256_o0_0_S256x128
/-- … and the right half. -/
abbrev rightHalf (x : FVec F S256x256 .f32) : FVec F S256x128 .f32 := extractStridedSlice S256x128 ![0, 128] x slices_S256x256_o0_128_S256x128

/-- The second solution and the scaled queries against the state before the chunk. -/
def against (N : Nums F) (w : FVec F S256x128 .f32) (q : FVec F S64x512 .bf16) (eg : FVec F S256x1 .f32) (s : FVec F S512x128 .f32) :
    FVec F S512x128 .f32 :=
  matmul dot_S512x512_S512x128_S512x128_1_0_0_1_n_n none
    (truncf .bf16 (concatenate S512x512 0
      [⟨S256x512, select N.headLanes (concatenate S256x512 1 [⟨S256x128, w⟩, ⟨S256x128, w⟩, ⟨S256x128, w⟩, ⟨S256x128, w⟩]
          concatenates_S256x128_S256x128_S256x128_S256x128_S256x512_d1) (zeros S256x512)⟩,
       ⟨S256x512, mulf (extf .f32 (wide N q) bitsLt_bf16_f32) (broadcastTo S256x512 eg broadcasts_S256x1_S256x512)⟩]
      concatenates_S256x512_S256x512_S512x512_d0) bitsLt_bf16_f32)
    (truncf .bf16 s bitsLt_bf16_f32) (constant S512x128 .f32 0x00000000#32)

/-- What each token newly writes into the state. -/
def fresh (u : FVec F S256x128 .f32) (ws : FVec F S512x128 .f32) : FVec F S256x128 .f32 :=
  subf u (extractStridedSlice S256x128 ![0, 0] ws slices_S512x128_o0_0_S256x128)

/-- The chunk's outputs, heads stacked. -/
def outStack (attn : FVec F S256x256 .f32) (ws : FVec F S512x128 .f32) (x : FVec F S256x128 .f32) : FVec F S256x128 .f32 :=
  addf (extractStridedSlice S256x128 ![256, 0] ws slices_S512x128_o256_0_S256x128)
    (matmul dot_S256x256_S256x128_S256x128_1_0_0_1_n_n none (truncf .bf16 attn bitsLt_bf16_f32) (truncf .bf16 x bitsLt_bf16_f32)
      (constant S256x128 .f32 0x00000000#32))

/-- The outputs with the heads side by side, as they are stored. -/
def outRows (o : FVec F S256x128 .f32) : FVec F S1x64x512 .f32 :=
  shapeCast S1x64x512 (concatenate S64x512 1 [⟨S64x128, extractStridedSlice S64x128 ![0, 0] o slices_S256x128_o0_0_S64x128⟩,
    ⟨S64x128, extractStridedSlice S64x128 ![64, 0] o slices_S256x128_o64_0_S64x128⟩,
    ⟨S64x128, extractStridedSlice S64x128 ![128, 0] o slices_S256x128_o128_0_S64x128⟩,
    ⟨S64x128, extractStridedSlice S64x128 ![192, 0] o slices_S256x128_o192_0_S64x128⟩]
    concatenates_S64x128_S64x128_S64x128_S64x128_S64x512_d1) shapeCasts_S64x512_S1x64x512

/-- The state after the chunk, as it is stored. -/
def stateRows (N : Nums F) (k : FVec F S64x512 .bf16) (gam gl : FVec F S256x1 .f32) (gls : FVec F S512x1 .f32)
    (x : FVec F S256x128 .f32) (s : FVec F S512x128 .f32) : FVec F S1x1x512x128 .f32 :=
  shapeCast S1x1x512x128
    (addf (mulf s (broadcastTo S512x128 (exp gls) broadcasts_S512x1_S512x128))
      (matmul dot_S256x512_S256x128_S512x128_0_0_1_1_n_n none
        (truncf .bf16 (mulf (extf .f32 (wide N k) bitsLt_bf16_f32) (broadcastTo S256x512 (exp (subf gl gam)) broadcasts_S256x1_S256x512)) bitsLt_bf16_f32)
        (truncf .bf16 x bitsLt_bf16_f32) (constant S512x128 .f32 0x00000000#32)))
    shapeCasts_S512x128_S1x1x512x128

/-- What the gates alone give: the running sums in their layouts, the write strengths and the two masks. -/
structure Gates (F : FTy → Type) where
  strict : IVec S64x256 1
  gam : FVec F S256x1 .f32
  beta : FVec F S256x1 .f32
  betaCat : FVec F S64x256 .f32
  last : FVec F S256x1 .f32
  lastWide : FVec F S512x1 .f32
  dec : FVec F S64x256 .f32

/-- The gates' part in the forward direction. -/
def gates0 (N : Nums F) (g : FVec F S64x128 .f32) : Gates F where
  strict := cmpi .slt N.colCat N.rowCat
  gam := stackCol N 0#32 1#32 2#32 3#32 (sums (cmpi .sle N.col N.row) g)
  beta := stackCol N 8#32 9#32 10#32 11#32 g
  betaCat := catCol N 8#32 9#32 10#32 11#32 g
  last := have c := stackCol N 0#32 1#32 2#32 3#32 (sums (cmpi .sle N.col N.row) g)
    lasts (extractStridedSlice S1x1 ![63, 0] c slices_S256x1_o63_0_S1x1) (extractStridedSlice S1x1 ![127, 0] c slices_S256x1_o127_0_S1x1)
      (extractStridedSlice S1x1 ![191, 0] c slices_S256x1_o191_0_S1x1) (extractStridedSlice S1x1 ![255, 0] c slices_S256x1_o255_0_S1x1)
  lastWide := have c := stackCol N 0#32 1#32 2#32 3#32 (sums (cmpi .sle N.col N.row) g)
    lastsWide (extractStridedSlice S1x1 ![63, 0] c slices_S256x1_o63_0_S1x1) (extractStridedSlice S1x1 ![127, 0] c slices_S256x1_o127_0_S1x1)
      (extractStridedSlice S1x1 ![191, 0] c slices_S256x1_o191_0_S1x1) (extractStridedSlice S1x1 ![255, 0] c slices_S256x1_o255_0_S1x1)
  dec := have r := sumRows (cmpi .sle N.col N.row) g
    decay (cmpi .sle N.colCat N.rowCat) (catCol N 0#32 1#32 2#32 3#32 (sums (cmpi .sle N.col N.row) g))
      (pickRow N (extractStridedSlice S1x256 ![0, 0] r slices_S8x256_o0_0_S1x256) (extractStridedSlice S1x256 ![1, 0] r slices_S8x256_o1_0_S1x256)
        (extractStridedSlice S1x256 ![2, 0] r slices_S8x256_o2_0_S1x256) (extractStridedSlice S1x256 ![3, 0] r slices_S8x256_o3_0_S1x256))

/-- The gates' part in the backward direction: the masks turned round, the last token the first row. -/
def gates1 (N : Nums F) (g : FVec F S64x128 .f32) : Gates F where
  strict := cmpi .sgt N.colCat N.rowCat
  gam := stackCol N 4#32 5#32 6#32 7#32 (sums (cmpi .sge N.col N.row) g)
  beta := stackCol N 8#32 9#32 10#32 11#32 g
  betaCat := catCol N 8#32 9#32 10#32 11#32 g
  last := have c := stackCol N 4#32 5#32 6#32 7#32 (sums (cmpi .sge N.col N.row) g)
    lasts (extractStridedSlice S1x1 ![0, 0] c slices_S256x1_o0_0_S1x1) (extractStridedSlice S1x1 ![64, 0] c slices_S256x1_o64_0_S1x1)
      (extractStridedSlice S1x1 ![128, 0] c slices_S256x1_o128_0_S1x1) (extractStridedSlice S1x1 ![192, 0] c slices_S256x1_o192_0_S1x1)
  lastWide := have c := stackCol N 4#32 5#32 6#32 7#32 (sums (cmpi .sge N.col N.row) g)
    lastsWide (extractStridedSlice S1x1 ![0, 0] c slices_S256x1_o0_0_S1x1) (extractStridedSlice S1x1 ![64, 0] c slices_S256x1_o64_0_S1x1)
      (extractStridedSlice S1x1 ![128, 0] c slices_S256x1_o128_0_S1x1) (extractStridedSlice S1x1 ![192, 0] c slices_S256x1_o192_0_S1x1)
  dec := have r := sumRows (cmpi .sge N.col N.row) g
    decay (cmpi .sge N.colCat N.rowCat) (catCol N 4#32 5#32 6#32 7#32 (sums (cmpi .sge N.col N.row) g))
      (pickRow N (extractStridedSlice S1x256 ![4, 0] r slices_S8x256_o4_0_S1x256) (extractStridedSlice S1x256 ![5, 0] r slices_S8x256_o5_0_S1x256)
        (extractStridedSlice S1x256 ![6, 0] r slices_S8x256_o6_0_S1x256) (extractStridedSlice S1x256 ![7, 0] r slices_S8x256_o7_0_S1x256))

/-- The two solutions of the chunk's triangular system. -/
def solution (N : Nums F) (G : Gates F) (q k v : FVec F S64x512 .bf16) : FVec F S256x256 .f32 :=
  solved N (inverse N (pull G.strict (topRows (keyProducts N k q)) G.dec G.betaCat)) (sides k v G.beta (exp G.gam))

/-- The two products with the state before the chunk. -/
def stateProducts (N : Nums F) (G : Gates F) (q k v : FVec F S64x512 .bf16) (s : FVec F S512x128 .f32) : FVec F S512x128 .f32 :=
  against N (rightHalf (solution N G q k v)) q (exp G.gam) s

/-- What the chunk's tokens newly write. -/
def written (N : Nums F) (G : Gates F) (q k v : FVec F S64x512 .bf16) (s : FVec F S512x128 .f32) : FVec F S256x128 .f32 :=
  fresh (leftHalf (solution N G q k v)) (stateProducts N G q k v s)

/-- The chunk's outputs, as stored. -/
def chunkOut (N : Nums F) (G : Gates F) (q k v : FVec F S64x512 .bf16) (s : FVec F S512x128 .f32) : FVec F S1x64x512 .f32 :=
  outRows (outStack (diag N (mulf (botRows (keyProducts N k q)) G.dec)) (stateProducts N G q k v s) (written N G q k v s))

/-- The state after the chunk, as stored. -/
def chunkState (N : Nums F) (G : Gates F) (q k v : FVec F S64x512 .bf16) (s : FVec F S512x128 .f32) : FVec F S1x1x512x128 .f32 :=
  stateRows N k G.gam G.last G.lastWide (written N G q k v s) s

/-- A loaded chunk of wide rows, its leading axis dropped. -/
abbrev flat (x : Vec F S1x64x512 .bf16) : FVec F S64x512 .bf16 := shapeCast S64x512 x shapeCasts_S1x64x512_S64x512
/-- A loaded chunk of gates, its leading axis dropped. -/
abbrev flatG (x : Vec F S1x64x128 .f32) : FVec F S64x128 .f32 := shapeCast S64x128 x shapeCasts_S1x64x128_S64x128
/-- A loaded state, its leading axes dropped. -/
abbrev flatS (x : Vec F S1x1x512x128 .f32) : FVec F S512x128 .f32 := shapeCast S512x128 x shapeCasts_S1x1x512x128_S512x128

end Cert.KernelIdeal.Chain

end
-- ==== Proof.Trip.lean ====
/- One trip of the loop over the two chunks of a block: the pieces it stores are the chunk's outputs and states of
   `ChainDef`, for four batch rows and two directions, from the blocks loaded and the state slabs found. -/
module

public import proofs.«01_k».proof.Proof.Gen.KernelIdeal.Loops
public import proofs.«01_k».proof.Proof.ChainDef

@[expose] public section

set_option maxRecDepth 16384
set_option maxHeartbeats 8000000

noncomputable section

namespace Cert.KernelIdeal.Chain

open Idealize.ShloMosaic Idealize.ShloMosaic.TcCoe Idealize.ShloMosaic.Tactic Cert.KernelIdeal Cert.KernelIdeal.Gen

variable {F : FTy → Type} [FloatOps F]

/-- What one chunk is computed from: its gates, queries, keys and values. -/
structure Chunk (F : FTy → Type) where
  gates : FVec F S64x128 .f32
  q : FVec F S64x512 .bf16
  k : FVec F S64x512 .bf16
  v : FVec F S64x512 .bf16

/-- The state matrices of the four batch rows in the two directions. -/
abbrev Slabs (F : FTy → Type) := Fin 4 → Fin 2 → Vec F S1x1x512x128 .f32

/-- The chunks of a block's trip, by batch row and direction. -/
abbrev Chunks (F : FTy → Type) := Fin 4 → Fin 2 → Chunk F

/-- The rows a forward chunk lies at. -/
def offF (b : Fin 4) (k : Fin k0_t1_loop.trips) : Fin 3 → ℕ := ![k0_off9 k, k0_off11 k, k0_off13 k, k0_off15 k] b
/-- The rows a backward chunk lies at. -/
def offB (b : Fin 4) (k : Fin k0_t1_loop.trips) : Fin 3 → ℕ := ![k0_off10 k, k0_off12 k, k0_off14 k, k0_off16 k] b
/-- The rows a forward chunk's gates lie at. -/
def offFG (b : Fin 4) (k : Fin k0_t1_loop.trips) : Fin 3 → ℕ := ![k0_off1 k, k0_off3 k, k0_off5 k, k0_off7 k] b
/-- The rows a backward chunk's gates lie at. -/
def offBG (b : Fin 4) (k : Fin k0_t1_loop.trips) : Fin 3 → ℕ := ![k0_off2 k, k0_off4 k, k0_off6 k, k0_off8 k] b

theorem offF_inb : ∀ b k a, offF b k a + S1x64x512.size a ≤ S4x128x512.size a := by decide +kernel
theorem offB_inb : ∀ b k a, offB b k a + S1x64x512.size a ≤ S4x128x512.size a := by decide +kernel
theorem offFG_inb : ∀ b k a, offFG b k a + S1x64x128.size a ≤ S4x128x128.size a := by decide +kernel
theorem offBG_inb : ∀ b k a, offBG b k a + S1x64x128.size a ≤ S4x128x128.size a := by decide +kernel
theorem slab_inb : ∀ (b : Fin 4) (d : Fin 2) (a : Fin 4),
    (![b.val, d.val, 0, 0] : Fin 4 → ℕ) a + S1x1x512x128.size a ≤ S4x2x512x128.size a := by decide +kernel

/-- The rectangle of a forward chunk, … -/
abbrev rectF (b : Fin 4) (k : Fin k0_t1_loop.trips) : Rect S4x128x512 :=
  Rect.unit (s := S4x128x512) (offF b k) S1x64x512.size (offF_inb b k)
/-- … of a backward one, … -/
abbrev rectB (b : Fin 4) (k : Fin k0_t1_loop.trips) : Rect S4x128x512 :=
  Rect.unit (s := S4x128x512) (offB b k) S1x64x512.size (offB_inb b k)
/-- … of their gates, … -/
abbrev rectFG (b : Fin 4) (k : Fin k0_t1_loop.trips) : Rect S4x128x128 :=
  Rect.unit (s := S4x128x128) (offFG b k) S1x64x128.size (offFG_inb b k)
abbrev rectBG (b : Fin 4) (k : Fin k0_t1_loop.trips) : Rect S4x128x128 :=
  Rect.unit (s := S4x128x128) (offBG b k) S1x64x128.size (offBG_inb b k)
/-- … and of a state slab. -/
abbrev rectS (b : Fin 4) (d : Fin 2) : Rect S4x2x512x128 :=
  Rect.unit (s := S4x2x512x128) ![b.val, d.val, 0, 0] S1x1x512x128.size (slab_inb b d)

/-- The state slabs read out of the scratch buffer. -/
def slabs (arg12 : Memref sig .tc .vmem S4x2x512x128 .f32) (f : BufTy.Contents (Elt F) arg12.view.ty) : Slabs F :=
  fun b d => View.readAt (Elt F) arg12.view (rectS b d).toLoadRect f

/-- The chunks of trip `k`, read out of the eight blocks. -/
def chunks (arg2 arg3 arg4 : Memref sig .tc .vmem S4x128x512 .bf16) (arg5 : Memref sig .tc .vmem S4x128x128 .f32)
    (arg6 arg7 arg8 : Memref sig .tc .vmem S4x128x512 .bf16) (arg9 : Memref sig .tc .vmem S4x128x128 .f32)
    (X_arg2 : BufTy.Contents (Elt F) arg2.view.ty) (X_arg3 : BufTy.Contents (Elt F) arg3.view.ty)
    (X_arg4 : BufTy.Contents (Elt F) arg4.view.ty) (X_arg5 : BufTy.Contents (Elt F) arg5.view.ty)
    (X_arg6 : BufTy.Contents (Elt F) arg6.view.ty) (X_arg7 : BufTy.Contents (Elt F) arg7.view.ty)
    (X_arg8 : BufTy.Contents (Elt F) arg8.view.ty) (X_arg9 : BufTy.Contents (Elt F) arg9.view.ty)
    (k : Fin k0_t1_loop.trips) : Chunks F := fun b d =>
  (![⟨flatG (View.readAt (Elt F) arg5.view (rectFG b k).toLoadRect X_arg5), flat (View.readAt (Elt F) arg2.view (rectF b k).toLoadRect X_arg2),
     flat (View.readAt (Elt F) arg3.view (rectF b k).toLoadRect X_arg3), flat (View.readAt (Elt F) arg4.view (rectF b k).toLoadRect X_arg4)⟩,
    ⟨flatG (View.readAt (Elt F) arg9.view (rectBG b k).toLoadRect X_arg9), flat (View.readAt (Elt F) arg6.view (rectB b k).toLoadRect X_arg6),
     flat (View.readAt (Elt F) arg7.view (rectB b k).toLoadRect X_arg7), flat (View.readAt (Elt F) arg8.view (rectB b k).toLoadRect X_arg8)⟩] : Fin 2 → Chunk F) d

/-- The gates' part of a direction. -/
def gatesOf (N : Nums F) (d : Fin 2) (g : FVec F S64x128 .f32) : Gates F := (![gates0 N g, gates1 N g] : Fin 2 → Gates F) d

/-- A chunk's outputs. -/
def outOf (N : Nums F) (C : Chunks F) (S : Slabs F) (b : Fin 4) (d : Fin 2) : FVec F S1x64x512 .f32 :=
  chunkOut N (gatesOf N d (C b d).gates) (C b d).q (C b d).k (C b d).v (flatS (S b d))
/-- The state after a chunk. -/
def nextOf (N : Nums F) (C : Chunks F) (S : Slabs F) : Slabs F := fun b d =>
  chunkState N (gatesOf N d (C b d).gates) (C b d).q (C b d).k (C b d).v (flatS (S b d))

/-- What a trip stores into the forward outputs (last first), … -/
def piecesF (N : Nums F) (C : Chunks F) (S : Slabs F) (k : Fin k0_t1_loop.trips) : List (View.Piece (Elt F) S4x128x512 .f32) :=
  [⟨rectF 3 k, outOf N C S 3 0⟩, ⟨rectF 2 k, outOf N C S 2 0⟩, ⟨rectF 1 k, outOf N C S 1 0⟩, ⟨rectF 0 k, outOf N C S 0 0⟩]
/-- … into the backward outputs … -/
def piecesB (N : Nums F) (C : Chunks F) (S : Slabs F) (k : Fin k0_t1_loop.trips) : List (View.Piece (Elt F) S4x128x512 .f32) :=
  [⟨rectB 3 k, outOf N C S 3 1⟩, ⟨rectB 2 k, outOf N C S 2 1⟩, ⟨rectB 1 k, outOf N C S 1 1⟩, ⟨rectB 0 k, outOf N C S 0 1⟩]
/-- … and into the scratch buffer: slabs `S`. -/
def piecesS (S : Slabs F) : List (View.Piece (Elt F) S4x2x512x128 .f32) :=
  [⟨rectS 3 1, S 3 1⟩, ⟨rectS 3 0, S 3 0⟩, ⟨rectS 2 1, S 2 1⟩, ⟨rectS 2 0, S 2 0⟩,
   ⟨rectS 1 1, S 1 1⟩, ⟨rectS 1 0, S 1 0⟩, ⟨rectS 0 1, S 0 1⟩, ⟨rectS 0 0, S 0 0⟩]

/-- The index arrays, from the words the kernel computes before the loop. -/
abbrev numsOf (v3 : IVec S64x64 32) (v4 : IVec S64x64 32) (v5 : IVec S64x128 32) (v56 : IVec S256x256 1) (v107 : IVec S256x512 1)
    (v132 : IVec S1x256 32) (v133 : IVec S64x256 32) (v134 : IVec S64x256 32) (v136 : BitVec 32) : Nums F :=
  ⟨v3, v4, v5, v56, v107, v132, v133, k0_pay444 v134 v136, k0_pay445 v134, k0_pay446 v133 v134 v136⟩

variable (𝒱 : Variants) (c : Dev nD) (bd : Option 𝒱.V) (i : grid0.Coords) (arg2 : Memref sig .tc .vmem S4x128x512 .bf16) (harg2 : arg2.IsWhole) (arg3 : Memref sig .tc .vmem S4x128x512 .bf16) (harg3 : arg3.IsWhole) (arg4 : Memref sig .tc .vmem S4x128x512 .bf16) (harg4 : arg4.IsWhole) (arg5 : Memref sig .tc .vmem S4x128x128 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S4x128x512 .bf16) (harg8 : arg8.IsWhole) (arg9 : Memref sig .tc .vmem S4x128x128 .f32) (harg9 : arg9.IsWhole) (arg10 : Memref sig .tc .vmem S4x128x512 .f32) (harg10 : arg10.IsWhole) (arg11 : Memref sig .tc .vmem S4x128x512 .f32) (harg11 : arg11.IsWhole) (arg12 : Memref sig .tc .vmem S4x2x512x128 .f32) (harg12 : arg12.IsWhole) (v3 : IVec S64x64 32) (v4 : IVec S64x64 32) (v5 : IVec S64x128 32) (v56 : IVec S256x256 1) (v107 : IVec S256x512 1) (v132 : IVec S1x256 32) (v133 : IVec S64x256 32) (v134 : IVec S64x256 32) (v136 : BitVec 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg10 : BufTy.Contents (Elt F) arg10.view.ty) (f_arg11 : BufTy.Contents (Elt F) arg11.view.ty) (f_arg12 : BufTy.Contents (Elt F) arg12.view.ty)

theorem trip_F : (tripL_k0_t1 (F := F) 𝒱 c bd i arg2 harg2 arg3 harg3 arg4 harg4 arg5 harg5 arg6 harg6 arg7 harg7 arg8 harg8 arg9 harg9 arg10 harg10 arg11 harg11 arg12 harg12 v3 v4 v5 v56 v107 v132 v133 v134 v136 X_arg2 X_arg3 X_arg4 X_arg5 X_arg6 X_arg7 X_arg8 X_arg9 k f_arg10 f_arg11 f_arg12).1
    = piecesF (numsOf v3 v4 v5 v56 v107 v132 v133 v134 v136) (chunks arg2 arg3 arg4 arg5 arg6 arg7 arg8 arg9 X_arg2 X_arg3 X_arg4 X_arg5 X_arg6 X_arg7 X_arg8 X_arg9 k) (slabs arg12 f_arg12) k := by
  unfold tripL_k0_t1 trip_k0_t1
  dsimp only
  sl_unfold_words
  rfl

theorem trip_B : (tripL_k0_t1 (F := F) 𝒱 c bd i arg2 harg2 arg3 harg3 arg4 harg4 arg5 harg5 arg6 harg6 arg7 harg7 arg8 harg8 arg9 harg9 arg10 harg10 arg11 harg11 arg12 harg12 v3 v4 v5 v56 v107 v132 v133 v134 v136 X_arg2 X_arg3 X_arg4 X_arg5 X_arg6 X_arg7 X_arg8 X_arg9 k f_arg10 f_arg11 f_arg12).2.1
    = piecesB (numsOf v3 v4 v5 v56 v107 v132 v133 v134 v136) (chunks arg2 arg3 arg4 arg5 arg6 arg7 arg8 arg9 X_arg2 X_arg3 X_arg4 X_arg5 X_arg6 X_arg7 X_arg8 X_arg9 k) (slabs arg12 f_arg12) k := by
  unfold tripL_k0_t1 trip_k0_t1
  dsimp only
  sl_unfold_words
  rfl

theorem trip_S : (tripL_k0_t1 (F := F) 𝒱 c bd i arg2 harg2 arg3 harg3 arg4 harg4 arg5 harg5 arg6 harg6 arg7 harg7 arg8 harg8 arg9 harg9 arg10 harg10 arg11 harg11 arg12 harg12 v3 v4 v5 v56 v107 v132 v133 v134 v136 X_arg2 X_arg3 X_arg4 X_arg5 X_arg6 X_arg7 X_arg8 X_arg9 k f_arg10 f_arg11 f_arg12).2.2
    = piecesS (nextOf (numsOf v3 v4 v5 v56 v107 v132 v133 v134 v136) (chunks arg2 arg3 arg4 arg5 arg6 arg7 arg8 arg9 X_arg2 X_arg3 X_arg4 X_arg5 X_arg6 X_arg7 X_arg8 X_arg9 k) (slabs arg12 f_arg12)) := by
  unfold tripL_k0_t1 trip_k0_t1
  dsimp only
  sl_unfold_words
  rfl

end Cert.KernelIdeal.Chain

end
-- ==== Proof.Block.lean ====
/- The loop over the two chunks of a block: what its two trips store, the second from the states the first left. -/
module

public import proofs.«01_k».proof.Proof.Trip
public import Idealize.ShloMosaic.Lib.Pipeline.FrameBody

@[expose] public section

set_option maxRecDepth 16384

noncomputable section

namespace Cert.KernelIdeal.Chain

open Idealize.ShloMosaic Idealize.ShloMosaic.TcCoe Idealize.ShloMosaic.Tactic Cert.KernelIdeal Cert.KernelIdeal.Gen

variable {F : FTy → Type} [FloatOps F]

/-- Two state slabs lie apart. -/
theorem slab_apart (b b' : Fin 4) (d d' : Fin 2) (h : ¬(b = b' ∧ d = d')) :
    Disjoint (rectS b d).set (rectS b' d').toLoadRect.set := by
  by_cases hb : b = b'
  · have hd : d ≠ d' := fun e => h ⟨hb, e⟩
    refine LoadRect.disjoint_of_separated (rectS b d).toLoadRect (rectS b' d').toLoadRect (1 : Fin 4) ?_
    show (1 = 0 ∨ d.val + 1 * (1 - 1) < d'.val) ∨ (1 = 0 ∨ d'.val + 1 * (1 - 1) < d.val)
    omega
  · refine LoadRect.disjoint_of_separated (rectS b d).toLoadRect (rectS b' d').toLoadRect (0 : Fin 4) ?_
    show (1 = 0 ∨ b.val + 1 * (1 - 1) < b'.val) ∨ (1 = 0 ∨ b'.val + 1 * (1 - 1) < b.val)
    omega

/-- The slabs stored are the slabs read back. -/
theorem slabs_writes (arg12 : Memref sig .tc .vmem S4x2x512x128 .f32) (f : BufTy.Contents (Elt F) arg12.view.ty) (S : Slabs F) :
    slabs arg12 (arg12.view.writes (Elt F) f (piecesS S)) = S := by
  funext b d
  have hm : (⟨rectS b d, S b d⟩ : View.Piece (Elt F) S4x2x512x128 .f32) ∈ piecesS S := by
    unfold piecesS
    match b, d with
    | 0, 0 => simp
    | 0, 1 => simp
    | 1, 0 => simp
    | 1, 1 => simp
    | 2, 0 => simp
    | 2, 1 => simp
    | 3, 0 => simp
    | 3, 1 => simp
  have e : slabs arg12 (arg12.view.writes (Elt F) f (piecesS S)) b d = arg12.view.readCov (piecesS S) (rectS b d).toLoadRect :=
    View.readAt_writes_of_cover arg12.view f (piecesS S) (rectS b d).toLoadRect fun j => ⟨_, hm, LoadRect.idx_mem _ _⟩
  rw [e]
  unfold piecesS
  have skip (b' : Fin 4) (d' : Fin 2) (L) (h : ¬(b' = b ∧ d' = d)) :
      arg12.view.readCov (⟨rectS b' d', S b' d'⟩ :: L) (rectS b d).toLoadRect = arg12.view.readCov L (rectS b d).toLoadRect :=
    View.readCov_cons_of_disjoint _ _ _ _ (slab_apart b' b d' d h)
  by_cases h1 : (3 : Fin 4) = b ∧ (1 : Fin 2) = d
  · obtain ⟨rfl, rfl⟩ := h1; exact View.readCov_cons_toLoadRect _ _ _ _
  rw [skip _ _ _ h1]
  by_cases h2 : (3 : Fin 4) = b ∧ (0 : Fin 2) = d
  · obtain ⟨rfl, rfl⟩ := h2; exact View.readCov_cons_toLoadRect _ _ _ _
  rw [skip _ _ _ h2]
  by_cases h3 : (2 : Fin 4) = b ∧ (1 : Fin 2) = d
  · obtain ⟨rfl, rfl⟩ := h3; exact View.readCov_cons_toLoadRect _ _ _ _
  rw [skip _ _ _ h3]
  by_cases h4 : (2 : Fin 4) = b ∧ (0 : Fin 2) = d
  · obtain ⟨rfl, rfl⟩ := h4; exact View.readCov_cons_toLoadRect _ _ _ _
  rw [skip _ _ _ h4]
  by_cases h5 : (1 : Fin 4) = b ∧ (1 : Fin 2) = d
  · obtain ⟨rfl, rfl⟩ := h5; exact View.readCov_cons_toLoadRect _ _ _ _
  rw [skip _ _ _ h5]
  by_cases h6 : (1 : Fin 4) = b ∧ (0 : Fin 2) = d
  · obtain ⟨rfl, rfl⟩ := h6; exact View.readCov_cons_toLoadRect _ _ _ _
  rw [skip _ _ _ h6]
  by_cases h7 : (0 : Fin 4) = b ∧ (1 : Fin 2) = d
  · obtain ⟨rfl, rfl⟩ := h7; exact View.readCov_cons_toLoadRect _ _ _ _
  rw [skip _ _ _ h7]
  have h8 : (0 : Fin 4) = b ∧ (0 : Fin 2) = d := by
    clear skip e hm
    revert h1 h2 h3 h4 h5 h6 h7; revert b d; decide
  obtain ⟨rfl, rfl⟩ := h8; exact View.readCov_cons_toLoadRect _ _ _ _

/-- The first and the second trip. -/
abbrev trip0 : Fin k0_t1_loop.trips := ⟨0, by decide +kernel⟩
abbrev trip1 : Fin k0_t1_loop.trips := ⟨1, by decide +kernel⟩

/-- What a block stores into the forward outputs, … -/
def blockF (N : Nums F) (C : Fin k0_t1_loop.trips → Chunks F) (S : Slabs F) : List (View.Piece (Elt F) S4x128x512 .f32) :=
  piecesF N (C trip1) (nextOf N (C trip0) S) trip1 ++ piecesF N (C trip0) S trip0
/-- … into the backward outputs … -/
def blockB (N : Nums F) (C : Fin k0_t1_loop.trips → Chunks F) (S : Slabs F) : List (View.Piece (Elt F) S4x128x512 .f32) :=
  piecesB N (C trip1) (nextOf N (C trip0) S) trip1 ++ piecesB N (C trip0) S trip0
/-- … and into the scratch buffer. -/
def blockS (N : Nums F) (C : Fin k0_t1_loop.trips → Chunks F) (S : Slabs F) : List (View.Piece (Elt F) S4x2x512x128 .f32) :=
  piecesS (nextOf N (C trip1) (nextOf N (C trip0) S)) ++ piecesS (nextOf N (C trip0) S)

variable (𝒱 : Variants) (c : Dev nD) (bd : Option 𝒱.V) (i : grid0.Coords) (arg2 : Memref sig .tc .vmem S4x128x512 .bf16) (harg2 : arg2.IsWhole) (arg3 : Memref sig .tc .vmem S4x128x512 .bf16) (harg3 : arg3.IsWhole) (arg4 : Memref sig .tc .vmem S4x128x512 .bf16) (harg4 : arg4.IsWhole) (arg5 : Memref sig .tc .vmem S4x128x128 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S4x128x512 .bf16) (harg8 : arg8.IsWhole) (arg9 : Memref sig .tc .vmem S4x128x128 .f32) (harg9 : arg9.IsWhole) (arg10 : Memref sig .tc .vmem S4x128x512 .f32) (harg10 : arg10.IsWhole) (arg11 : Memref sig .tc .vmem S4x128x512 .f32) (harg11 : arg11.IsWhole) (arg12 : Memref sig .tc .vmem S4x2x512x128 .f32) (harg12 : arg12.IsWhole) (v3 : IVec S64x64 32) (v4 : IVec S64x64 32) (v5 : IVec S64x128 32) (v56 : IVec S256x256 1) (v107 : IVec S256x512 1) (v132 : IVec S1x256 32) (v133 : IVec S64x256 32) (v134 : IVec S64x256 32) (v136 : BitVec 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg10 : BufTy.Contents (Elt F) arg10.view.ty) (G_arg11 : BufTy.Contents (Elt F) arg11.view.ty) (G_arg12 : BufTy.Contents (Elt F) arg12.view.ty)

/-- The loop's stores are the block's. -/
theorem loop_pieces : pb_k0_t1 (F := F) 𝒱 c bd i arg2 harg2 arg3 harg3 arg4 harg4 arg5 harg5 arg6 harg6 arg7 harg7 arg8 harg8 arg9 harg9 arg10 harg10 arg11 harg11 arg12 harg12 v3 v4 v5 v56 v107 v132 v133 v134 v136 X_arg2 X_arg3 X_arg4 X_arg5 X_arg6 X_arg7 X_arg8 X_arg9 G_arg10 G_arg11 G_arg12 (Scf.trips k0_t1_loop.lb k0_t1_loop.ub k0_t1_loop.st)
    = (blockF (numsOf v3 v4 v5 v56 v107 v132 v133 v134 v136) (chunks arg2 arg3 arg4 arg5 arg6 arg7 arg8 arg9 X_arg2 X_arg3 X_arg4 X_arg5 X_arg6 X_arg7 X_arg8 X_arg9) (slabs arg12 G_arg12), blockB (numsOf v3 v4 v5 v56 v107 v132 v133 v134 v136) (chunks arg2 arg3 arg4 arg5 arg6 arg7 arg8 arg9 X_arg2 X_arg3 X_arg4 X_arg5 X_arg6 X_arg7 X_arg8 X_arg9) (slabs arg12 G_arg12),
       blockS (numsOf v3 v4 v5 v56 v107 v132 v133 v134 v136) (chunks arg2 arg3 arg4 arg5 arg6 arg7 arg8 arg9 X_arg2 X_arg3 X_arg4 X_arg5 X_arg6 X_arg7 X_arg8 X_arg9) (slabs arg12 G_arg12)) := by
  have h0 : pb_k0_t1 (F := F) 𝒱 c bd i arg2 harg2 arg3 harg3 arg4 harg4 arg5 harg5 arg6 harg6 arg7 harg7 arg8 harg8 arg9 harg9 arg10 harg10 arg11 harg11 arg12 harg12 v3 v4 v5 v56 v107 v132 v133 v134 v136 X_arg2 X_arg3 X_arg4 X_arg5 X_arg6 X_arg7 X_arg8 X_arg9 G_arg10 G_arg11 G_arg12 0 = ([], [], []) := pb_k0_t1.eq_1 ..
  have h1 := pb_k0_t1_succ (F := F) 𝒱 c bd i arg2 harg2 arg3 harg3 arg4 harg4 arg5 harg5 arg6 harg6 arg7 harg7 arg8 harg8 arg9 harg9 arg10 harg10 arg11 harg11 arg12 harg12 v3 v4 v5 v56 v107 v132 v133 v134 v136 X_arg2 X_arg3 X_arg4 X_arg5 X_arg6 X_arg7 X_arg8 X_arg9 G_arg10 G_arg11 G_arg12 trip0
  have h2 := pb_k0_t1_succ (F := F) 𝒱 c bd i arg2 harg2 arg3 harg3 arg4 harg4 arg5 harg5 arg6 harg6 arg7 harg7 arg8 harg8 arg9 harg9 arg10 harg10 arg11 harg11 arg12 harg12 v3 v4 v5 v56 v107 v132 v133 v134 v136 X_arg2 X_arg3 X_arg4 X_arg5 X_arg6 X_arg7 X_arg8 X_arg9 G_arg10 G_arg11 G_arg12 trip1
  rw [show (trip0.val) = 0 from rfl, h0] at h1
  rw [show (trip1.val) = 0 + 1 from rfl, h1] at h2
  rw [show Scf.trips k0_t1_loop.lb k0_t1_loop.ub k0_t1_loop.st = 0 + 1 + 1 by decide +kernel, h2]
  rw [trip_F, trip_B, trip_S, trip_F, trip_B, trip_S]
  simp only [List.append_nil, View.writes_nil, slabs_writes]
  rfl

end Cert.KernelIdeal.Chain

end
-- ==== Proof.Trips.lean ====
/-
  What the run over a block stores, in the words in which the run leaves it: the number of the loop's trips as the body
  computes it.
-/
module

public import proofs.«01_k».proof.Proof.Block

@[expose] public section

set_option maxRecDepth 16384

noncomputable section

namespace Cert.KernelIdeal.Chain

open Idealize.ShloMosaic Idealize.ShloMosaic.TcCoe Idealize.ShloMosaic.Tactic Cert.KernelIdeal Cert.KernelIdeal.Gen

variable {F : FTy → Type} [FloatOps F]

variable (𝒱 : Variants) (c : Dev nD) (bd : Option 𝒱.V) (i : grid0.Coords) (arg2 : Memref sig .tc .vmem S4x128x512 .bf16) (harg2 : arg2.IsWhole) (arg3 : Memref sig .tc .vmem S4x128x512 .bf16) (harg3 : arg3.IsWhole) (arg4 : Memref sig .tc .vmem S4x128x512 .bf16) (harg4 : arg4.IsWhole) (arg5 : Memref sig .tc .vmem S4x128x128 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S4x128x512 .bf16) (harg8 : arg8.IsWhole) (arg9 : Memref sig .tc .vmem S4x128x128 .f32) (harg9 : arg9.IsWhole) (arg10 : Memref sig .tc .vmem S4x128x512 .f32) (harg10 : arg10.IsWhole) (arg11 : Memref sig .tc .vmem S4x128x512 .f32) (harg11 : arg11.IsWhole) (arg12 : Memref sig .tc .vmem S4x2x512x128 .f32) (harg12 : arg12.IsWhole) (v3 : IVec S64x64 32) (v4 : IVec S64x64 32) (v5 : IVec S64x128 32) (v56 : IVec S256x256 1) (v107 : IVec S256x512 1) (v132 : IVec S1x256 32) (v133 : IVec S64x256 32) (v134 : IVec S64x256 32) (v136 : BitVec 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg10 : BufTy.Contents (Elt F) arg10.view.ty) (G_arg11 : BufTy.Contents (Elt F) arg11.view.ty) (G_arg12 : BufTy.Contents (Elt F) arg12.view.ty)

theorem block_pieces : pb_k0_t1 (F := F) 𝒱 c bd i arg2 harg2 arg3 harg3 arg4 harg4 arg5 harg5 arg6 harg6 arg7 harg7 arg8 harg8 arg9 harg9 arg10 harg10 arg11 harg11 arg12 harg12 v3 v4 v5 v56 v107 v132 v133 v134 v136 X_arg2 X_arg3 X_arg4 X_arg5 X_arg6 X_arg7 X_arg8 X_arg9 G_arg10 G_arg11 G_arg12 (Scf.trips (0#32) (Scalar.addi 0#32 2#32) 1#32)
    = (blockF (numsOf v3 v4 v5 v56 v107 v132 v133 v134 v136) (chunks arg2 arg3 arg4 arg5 arg6 arg7 arg8 arg9 X_arg2 X_arg3 X_arg4 X_arg5 X_arg6 X_arg7 X_arg8 X_arg9) (slabs arg12 G_arg12), blockB (numsOf v3 v4 v5 v56 v107 v132 v133 v134 v136) (chunks arg2 arg3 arg4 arg5 arg6 arg7 arg8 arg9 X_arg2 X_arg3 X_arg4 X_arg5 X_arg6 X_arg7 X_arg8 X_arg9) (slabs arg12 G_arg12),
       blockS (numsOf v3 v4 v5 v56 v107 v132 v133 v134 v136) (chunks arg2 arg3 arg4 arg5 arg6 arg7 arg8 arg9 X_arg2 X_arg3 X_arg4 X_arg5 X_arg6 X_arg7 X_arg8 X_arg9) (slabs arg12 G_arg12)) :=
  loop_pieces (F := F) 𝒱 c bd i arg2 harg2 arg3 harg3 arg4 harg4 arg5 harg5 arg6 harg6 arg7 harg7 arg8 harg8 arg9 harg9 arg10 harg10 arg11 harg11 arg12 harg12 v3 v4 v5 v56 v107 v132 v133 v134 v136 X_arg2 X_arg3 X_arg4 X_arg5 X_arg6 X_arg7 X_arg8 X_arg9 G_arg10 G_arg11 G_arg12

end Cert.KernelIdeal.Chain

end
-- ==== Proof.RunA.lean ====
/- The run of the recurrence's body over the first block, whose point clears the state: on whole staging buffers it ends, and what it
   stores is what `Trips.lean` says the loop over the block stores. -/
module

public import proofs.«01_k».proof.Proof.Gen.KernelIdeal.Frame.Runs
public import proofs.«01_k».proof.Proof.Trips

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the pieces are those the run finds. -/
noncomputable def kernelRun0_A (c : Dev nD) (i : grid0.Coords) (arg2 : Memref sig .tc .vmem S4x128x512 .bf16) (harg2 : arg2.IsWhole) (arg3 : Memref sig .tc .vmem S4x128x512 .bf16) (harg3 : arg3.IsWhole) (arg4 : Memref sig .tc .vmem S4x128x512 .bf16) (harg4 : arg4.IsWhole) (arg5 : Memref sig .tc .vmem S4x128x128 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S4x128x512 .bf16) (harg8 : arg8.IsWhole) (arg9 : Memref sig .tc .vmem S4x128x128 .f32) (harg9 : arg9.IsWhole) (arg10 : Memref sig .tc .vmem S4x128x512 .f32) (harg10 : arg10.IsWhole) (arg11 : Memref sig .tc .vmem S4x128x512 .f32) (harg11 : arg11.IsWhole) (arg12 : Memref sig .tc .vmem S4x2x512x128 .f32) (harg12 : arg12.IsWhole) (hc0 : cond0_0 i)
    (x0 : Vec F S4x128x512 .bf16) (x1 : Vec F S4x128x512 .bf16) (x2 : Vec F S4x128x512 .bf16) (x3 : Vec F S4x128x128 .f32) (x4 : Vec F S4x128x512 .bf16) (x5 : Vec F S4x128x512 .bf16) (x6 : Vec F S4x128x512 .bf16) (x7 : Vec F S4x128x128 .f32) :
    Σ' (L8 : List (View.Piece (Elt F) S4x128x512 .f32)), Σ' (L9 : List (View.Piece (Elt F) S4x128x512 .f32)), { LS0 : List (View.Piece (Elt F) S4x2x512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0_gdn_scan i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_gdn_scan_eq_skeleton]; unfold cc0_gdn_scan_skel
    simp only [k0_part71_eq_skeleton, k0_part68_eq_skeleton, k0_part69_eq_skeleton, k0_part70_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    simp only [Chain.block_pieces]
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexact HS0

end Cert.KernelIdeal.Gen

end
-- ==== Proof.RunB.lean ====
/- The run of the recurrence's body over a later block, whose point finds the state the block before left: on whole staging buffers it ends, and what it
   stores is what `Trips.lean` says the loop over the block stores. -/
module

public import proofs.«01_k».proof.Proof.Gen.KernelIdeal.Frame.Runs
public import proofs.«01_k».proof.Proof.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
/-- What the body's stores leave in each output's staging memref, as pieces (last first) IN CASE B (`scf.if` 0 not taken: points 1, 2, … 31: 31 of 32), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the pieces are those the run finds. -/
noncomputable def kernelRun0_B (c : Dev nD) (i : grid0.Coords) (arg2 : Memref sig .tc .vmem S4x128x512 .bf16) (harg2 : arg2.IsWhole) (arg3 : Memref sig .tc .vmem S4x128x512 .bf16) (harg3 : arg3.IsWhole) (arg4 : Memref sig .tc .vmem S4x128x512 .bf16) (harg4 : arg4.IsWhole) (arg5 : Memref sig .tc .vmem S4x128x128 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S4x128x512 .bf16) (harg8 : arg8.IsWhole) (arg9 : Memref sig .tc .vmem S4x128x128 .f32) (harg9 : arg9.IsWhole) (arg10 : Memref sig .tc .vmem S4x128x512 .f32) (harg10 : arg10.IsWhole) (arg11 : Memref sig .tc .vmem S4x128x512 .f32) (harg11 : arg11.IsWhole) (arg12 : Memref sig .tc .vmem S4x2x512x128 .f32) (harg12 : arg12.IsWhole) (hc0 : ¬cond0_0 i)
    (x0 : Vec F S4x128x512 .bf16) (x1 : Vec F S4x128x512 .bf16) (x2 : Vec F S4x128x512 .bf16) (x3 : Vec F S4x128x128 .f32) (x4 : Vec F S4x128x512 .bf16) (x5 : Vec F S4x128x512 .bf16) (x6 : Vec F S4x128x512 .bf16) (x7 : Vec F S4x128x128 .f32) (xs0 : Vec F S4x2x512x128 .f32) :
    Σ' (L8 : List (View.Piece (Elt F) S4x128x512 .f32)), Σ' (L9 : List (View.Piece (Elt F) S4x128x512 .f32)), { LS0 : List (View.Piece (Elt F) S4x2x512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0_gdn_scan i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_gdn_scan_eq_skeleton]; unfold cc0_gdn_scan_skel
    simp only [k0_part71_eq_skeleton, k0_part68_eq_skeleton, k0_part69_eq_skeleton, k0_part70_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0
    sl_exec (disch := first | sl_exact hc0)
    simp only [Chain.block_pieces]
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexact HS0

end Cert.KernelIdeal.Gen

end
-- ==== Proof.GdnFrame.lean ====
/- The recurrence's kernel from block to block: what its outputs and its carried state hold after each point, and the
   run of the whole grid. -/
module

public import proofs.«01_k».proof.Proof.RunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (8 stores of `S1x64x512`), so they cover it. -/
theorem cover0_A_8 (c : Dev nD) (i : grid0.Coords) (arg2 : Memref sig .tc .vmem S4x128x512 .bf16) (harg2 : arg2.IsWhole) (arg3 : Memref sig .tc .vmem S4x128x512 .bf16) (harg3 : arg3.IsWhole) (arg4 : Memref sig .tc .vmem S4x128x512 .bf16) (harg4 : arg4.IsWhole) (arg5 : Memref sig .tc .vmem S4x128x128 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S4x128x512 .bf16) (harg8 : arg8.IsWhole) (arg9 : Memref sig .tc .vmem S4x128x128 .f32) (harg9 : arg9.IsWhole) (arg10 : Memref sig .tc .vmem S4x128x512 .f32) (harg10 : arg10.IsWhole) (arg11 : Memref sig .tc .vmem S4x128x512 .f32) (harg11 : arg11.IsWhole) (arg12 : Memref sig .tc .vmem S4x2x512x128 .f32) (harg12 : arg12.IsWhole) (hc0 : cond0_0 i)
    (x0 : Vec F S4x128x512 .bf16) (x1 : Vec F S4x128x512 .bf16) (x2 : Vec F S4x128x512 .bf16) (x3 : Vec F S4x128x128 .f32) (x4 : Vec F S4x128x512 .bf16) (x5 : Vec F S4x128x512 .bf16) (x6 : Vec F S4x128x512 .bf16) (x7 : Vec F S4x128x128 .f32) (y : S4x128x512.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1 S1x64x512.size (by sl_kernel_rfl) y

/-- What case A leaves in output 8's staging buffer: its pieces read back over junk. -/
def out0_A_8 (c : Dev nD) (i : grid0.Coords) (arg2 : Memref sig .tc .vmem S4x128x512 .bf16) (harg2 : arg2.IsWhole) (arg3 : Memref sig .tc .vmem S4x128x512 .bf16) (harg3 : arg3.IsWhole) (arg4 : Memref sig .tc .vmem S4x128x512 .bf16) (harg4 : arg4.IsWhole) (arg5 : Memref sig .tc .vmem S4x128x128 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S4x128x512 .bf16) (harg8 : arg8.IsWhole) (arg9 : Memref sig .tc .vmem S4x128x128 .f32) (harg9 : arg9.IsWhole) (arg10 : Memref sig .tc .vmem S4x128x512 .f32) (harg10 : arg10.IsWhole) (arg11 : Memref sig .tc .vmem S4x128x512 .f32) (harg11 : arg11.IsWhole) (arg12 : Memref sig .tc .vmem S4x2x512x128 .f32) (harg12 : arg12.IsWhole) (hc0 : cond0_0 i)
    (x0 : Vec F S4x128x512 .bf16) (x1 : Vec F S4x128x512 .bf16) (x2 : Vec F S4x128x512 .bf16) (x3 : Vec F S4x128x128 .f32) (x4 : Vec F S4x128x512 .bf16) (x5 : Vec F S4x128x512 .bf16) (x6 : Vec F S4x128x512 .bf16) (x7 : Vec F S4x128x128 .f32) : Vec F S4x128x512 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1)

/-- Case A's pieces for output 9 tile its block (8 stores of `S1x64x512`), so they cover it. -/
theorem cover0_A_9 (c : Dev nD) (i : grid0.Coords) (arg2 : Memref sig .tc .vmem S4x128x512 .bf16) (harg2 : arg2.IsWhole) (arg3 : Memref sig .tc .vmem S4x128x512 .bf16) (harg3 : arg3.IsWhole) (arg4 : Memref sig .tc .vmem S4x128x512 .bf16) (harg4 : arg4.IsWhole) (arg5 : Memref sig .tc .vmem S4x128x128 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S4x128x512 .bf16) (harg8 : arg8.IsWhole) (arg9 : Memref sig .tc .vmem S4x128x128 .f32) (harg9 : arg9.IsWhole) (arg10 : Memref sig .tc .vmem S4x128x512 .f32) (harg10 : arg10.IsWhole) (arg11 : Memref sig .tc .vmem S4x128x512 .f32) (harg11 : arg11.IsWhole) (arg12 : Memref sig .tc .vmem S4x2x512x128 .f32) (harg12 : arg12.IsWhole) (hc0 : cond0_0 i)
    (x0 : Vec F S4x128x512 .bf16) (x1 : Vec F S4x128x512 .bf16) (x2 : Vec F S4x128x512 .bf16) (x3 : Vec F S4x128x128 .f32) (x4 : Vec F S4x128x512 .bf16) (x5 : Vec F S4x128x512 .bf16) (x6 : Vec F S4x128x512 .bf16) (x7 : Vec F S4x128x128 .f32) (y : S4x128x512.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.1 S1x64x512.size (by sl_kernel_rfl) y

/-- What case A leaves in output 9's staging buffer: its pieces read back over junk. -/
def out0_A_9 (c : Dev nD) (i : grid0.Coords) (arg2 : Memref sig .tc .vmem S4x128x512 .bf16) (harg2 : arg2.IsWhole) (arg3 : Memref sig .tc .vmem S4x128x512 .bf16) (harg3 : arg3.IsWhole) (arg4 : Memref sig .tc .vmem S4x128x512 .bf16) (harg4 : arg4.IsWhole) (arg5 : Memref sig .tc .vmem S4x128x128 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S4x128x512 .bf16) (harg8 : arg8.IsWhole) (arg9 : Memref sig .tc .vmem S4x128x128 .f32) (harg9 : arg9.IsWhole) (arg10 : Memref sig .tc .vmem S4x128x512 .f32) (harg10 : arg10.IsWhole) (arg11 : Memref sig .tc .vmem S4x128x512 .f32) (harg11 : arg11.IsWhole) (arg12 : Memref sig .tc .vmem S4x2x512x128 .f32) (harg12 : arg12.IsWhole) (hc0 : cond0_0 i)
    (x0 : Vec F S4x128x512 .bf16) (x1 : Vec F S4x128x512 .bf16) (x2 : Vec F S4x128x512 .bf16) (x3 : Vec F S4x128x128 .f32) (x4 : Vec F S4x128x512 .bf16) (x5 : Vec F S4x128x512 .bf16) (x6 : Vec F S4x128x512 .bf16) (x7 : Vec F S4x128x128 .f32) : Vec F S4x128x512 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.1)

/-- Case A's pieces for scratch `arg12`, which the kernel carries between points, cover it: one of them a store of the WHOLE buffer. -/
theorem scover0_A_0 (c : Dev nD) (i : grid0.Coords) (arg2 : Memref sig .tc .vmem S4x128x512 .bf16) (harg2 : arg2.IsWhole) (arg3 : Memref sig .tc .vmem S4x128x512 .bf16) (harg3 : arg3.IsWhole) (arg4 : Memref sig .tc .vmem S4x128x512 .bf16) (harg4 : arg4.IsWhole) (arg5 : Memref sig .tc .vmem S4x128x128 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S4x128x512 .bf16) (harg8 : arg8.IsWhole) (arg9 : Memref sig .tc .vmem S4x128x128 .f32) (harg9 : arg9.IsWhole) (arg10 : Memref sig .tc .vmem S4x128x512 .f32) (harg10 : arg10.IsWhole) (arg11 : Memref sig .tc .vmem S4x128x512 .f32) (harg11 : arg11.IsWhole) (arg12 : Memref sig .tc .vmem S4x2x512x128 .f32) (harg12 : arg12.IsWhole) (hc0 : cond0_0 i)
    (x0 : Vec F S4x128x512 .bf16) (x1 : Vec F S4x128x512 .bf16) (x2 : Vec F S4x128x512 .bf16) (x3 : Vec F S4x128x128 .f32) (x4 : Vec F S4x128x512 .bf16) (x5 : Vec F S4x128x512 .bf16) (x6 : Vec F S4x128x512 .bf16) (x7 : Vec F S4x128x128 .f32) (y : S4x2x512x128.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1 (by sl_whole_mem) y

/-- What case A leaves in scratch `arg12`: its pieces read back over junk. -/
def sout0_A_0 (c : Dev nD) (i : grid0.Coords) (arg2 : Memref sig .tc .vmem S4x128x512 .bf16) (harg2 : arg2.IsWhole) (arg3 : Memref sig .tc .vmem S4x128x512 .bf16) (harg3 : arg3.IsWhole) (arg4 : Memref sig .tc .vmem S4x128x512 .bf16) (harg4 : arg4.IsWhole) (arg5 : Memref sig .tc .vmem S4x128x128 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S4x128x512 .bf16) (harg8 : arg8.IsWhole) (arg9 : Memref sig .tc .vmem S4x128x128 .f32) (harg9 : arg9.IsWhole) (arg10 : Memref sig .tc .vmem S4x128x512 .f32) (harg10 : arg10.IsWhole) (arg11 : Memref sig .tc .vmem S4x128x512 .f32) (harg11 : arg11.IsWhole) (arg12 : Memref sig .tc .vmem S4x2x512x128 .f32) (harg12 : arg12.IsWhole) (hc0 : cond0_0 i)
    (x0 : Vec F S4x128x512 .bf16) (x1 : Vec F S4x128x512 .bf16) (x2 : Vec F S4x128x512 .bf16) (x3 : Vec F S4x128x128 .f32) (x4 : Vec F S4x128x512 .bf16) (x5 : Vec F S4x128x512 .bf16) (x6 : Vec F S4x128x512 .bf16) (x7 : Vec F S4x128x128 .f32) : Vec F S4x2x512x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1)

/-- Case B's pieces for output 8 tile its block (8 stores of `S1x64x512`), so they cover it. -/
theorem cover0_B_8 (c : Dev nD) (i : grid0.Coords) (arg2 : Memref sig .tc .vmem S4x128x512 .bf16) (harg2 : arg2.IsWhole) (arg3 : Memref sig .tc .vmem S4x128x512 .bf16) (harg3 : arg3.IsWhole) (arg4 : Memref sig .tc .vmem S4x128x512 .bf16) (harg4 : arg4.IsWhole) (arg5 : Memref sig .tc .vmem S4x128x128 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S4x128x512 .bf16) (harg8 : arg8.IsWhole) (arg9 : Memref sig .tc .vmem S4x128x128 .f32) (harg9 : arg9.IsWhole) (arg10 : Memref sig .tc .vmem S4x128x512 .f32) (harg10 : arg10.IsWhole) (arg11 : Memref sig .tc .vmem S4x128x512 .f32) (harg11 : arg11.IsWhole) (arg12 : Memref sig .tc .vmem S4x2x512x128 .f32) (harg12 : arg12.IsWhole) (hc0 : ¬cond0_0 i)
    (x0 : Vec F S4x128x512 .bf16) (x1 : Vec F S4x128x512 .bf16) (x2 : Vec F S4x128x512 .bf16) (x3 : Vec F S4x128x128 .f32) (x4 : Vec F S4x128x512 .bf16) (x5 : Vec F S4x128x512 .bf16) (x6 : Vec F S4x128x512 .bf16) (x7 : Vec F S4x128x128 .f32) (xs0 : Vec F S4x2x512x128 .f32) (y : S4x128x512.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).1 S1x64x512.size (by sl_kernel_rfl) y

/-- What case B leaves in output 8's staging buffer: its pieces read back over junk. -/
def out0_B_8 (c : Dev nD) (i : grid0.Coords) (arg2 : Memref sig .tc .vmem S4x128x512 .bf16) (harg2 : arg2.IsWhole) (arg3 : Memref sig .tc .vmem S4x128x512 .bf16) (harg3 : arg3.IsWhole) (arg4 : Memref sig .tc .vmem S4x128x512 .bf16) (harg4 : arg4.IsWhole) (arg5 : Memref sig .tc .vmem S4x128x128 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S4x128x512 .bf16) (harg8 : arg8.IsWhole) (arg9 : Memref sig .tc .vmem S4x128x128 .f32) (harg9 : arg9.IsWhole) (arg10 : Memref sig .tc .vmem S4x128x512 .f32) (harg10 : arg10.IsWhole) (arg11 : Memref sig .tc .vmem S4x128x512 .f32) (harg11 : arg11.IsWhole) (arg12 : Memref sig .tc .vmem S4x2x512x128 .f32) (harg12 : arg12.IsWhole) (hc0 : ¬cond0_0 i)
    (x0 : Vec F S4x128x512 .bf16) (x1 : Vec F S4x128x512 .bf16) (x2 : Vec F S4x128x512 .bf16) (x3 : Vec F S4x128x128 .f32) (x4 : Vec F S4x128x512 .bf16) (x5 : Vec F S4x128x512 .bf16) (x6 : Vec F S4x128x512 .bf16) (x7 : Vec F S4x128x128 .f32) (xs0 : Vec F S4x2x512x128 .f32) : Vec F S4x128x512 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).1)

/-- Case B's pieces for output 9 tile its block (8 stores of `S1x64x512`), so they cover it. -/
theorem cover0_B_9 (c : Dev nD) (i : grid0.Coords) (arg2 : Memref sig .tc .vmem S4x128x512 .bf16) (harg2 : arg2.IsWhole) (arg3 : Memref sig .tc .vmem S4x128x512 .bf16) (harg3 : arg3.IsWhole) (arg4 : Memref sig .tc .vmem S4x128x512 .bf16) (harg4 : arg4.IsWhole) (arg5 : Memref sig .tc .vmem S4x128x128 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S4x128x512 .bf16) (harg8 : arg8.IsWhole) (arg9 : Memref sig .tc .vmem S4x128x128 .f32) (harg9 : arg9.IsWhole) (arg10 : Memref sig .tc .vmem S4x128x512 .f32) (harg10 : arg10.IsWhole) (arg11 : Memref sig .tc .vmem S4x128x512 .f32) (harg11 : arg11.IsWhole) (arg12 : Memref sig .tc .vmem S4x2x512x128 .f32) (harg12 : arg12.IsWhole) (hc0 : ¬cond0_0 i)
    (x0 : Vec F S4x128x512 .bf16) (x1 : Vec F S4x128x512 .bf16) (x2 : Vec F S4x128x512 .bf16) (x3 : Vec F S4x128x128 .f32) (x4 : Vec F S4x128x512 .bf16) (x5 : Vec F S4x128x512 .bf16) (x6 : Vec F S4x128x512 .bf16) (x7 : Vec F S4x128x128 .f32) (xs0 : Vec F S4x2x512x128 .f32) (y : S4x128x512.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).2.1 S1x64x512.size (by sl_kernel_rfl) y

/-- What case B leaves in output 9's staging buffer: its pieces read back over junk. -/
def out0_B_9 (c : Dev nD) (i : grid0.Coords) (arg2 : Memref sig .tc .vmem S4x128x512 .bf16) (harg2 : arg2.IsWhole) (arg3 : Memref sig .tc .vmem S4x128x512 .bf16) (harg3 : arg3.IsWhole) (arg4 : Memref sig .tc .vmem S4x128x512 .bf16) (harg4 : arg4.IsWhole) (arg5 : Memref sig .tc .vmem S4x128x128 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S4x128x512 .bf16) (harg8 : arg8.IsWhole) (arg9 : Memref sig .tc .vmem S4x128x128 .f32) (harg9 : arg9.IsWhole) (arg10 : Memref sig .tc .vmem S4x128x512 .f32) (harg10 : arg10.IsWhole) (arg11 : Memref sig .tc .vmem S4x128x512 .f32) (harg11 : arg11.IsWhole) (arg12 : Memref sig .tc .vmem S4x2x512x128 .f32) (harg12 : arg12.IsWhole) (hc0 : ¬cond0_0 i)
    (x0 : Vec F S4x128x512 .bf16) (x1 : Vec F S4x128x512 .bf16) (x2 : Vec F S4x128x512 .bf16) (x3 : Vec F S4x128x128 .f32) (x4 : Vec F S4x128x512 .bf16) (x5 : Vec F S4x128x512 .bf16) (x6 : Vec F S4x128x512 .bf16) (x7 : Vec F S4x128x128 .f32) (xs0 : Vec F S4x2x512x128 .f32) : Vec F S4x128x512 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).2.1)

/-- Case B's pieces for scratch `arg12`, which the kernel carries between points, cover it: 16 pieces of `S1x1x512x128` tiling it. -/
theorem scover0_B_0 (c : Dev nD) (i : grid0.Coords) (arg2 : Memref sig .tc .vmem S4x128x512 .bf16) (harg2 : arg2.IsWhole) (arg3 : Memref sig .tc .vmem S4x128x512 .bf16) (harg3 : arg3.IsWhole) (arg4 : Memref sig .tc .vmem S4x128x512 .bf16) (harg4 : arg4.IsWhole) (arg5 : Memref sig .tc .vmem S4x128x128 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S4x128x512 .bf16) (harg8 : arg8.IsWhole) (arg9 : Memref sig .tc .vmem S4x128x128 .f32) (harg9 : arg9.IsWhole) (arg10 : Memref sig .tc .vmem S4x128x512 .f32) (harg10 : arg10.IsWhole) (arg11 : Memref sig .tc .vmem S4x128x512 .f32) (harg11 : arg11.IsWhole) (arg12 : Memref sig .tc .vmem S4x2x512x128 .f32) (harg12 : arg12.IsWhole) (hc0 : ¬cond0_0 i)
    (x0 : Vec F S4x128x512 .bf16) (x1 : Vec F S4x128x512 .bf16) (x2 : Vec F S4x128x512 .bf16) (x3 : Vec F S4x128x128 .f32) (x4 : Vec F S4x128x512 .bf16) (x5 : Vec F S4x128x512 .bf16) (x6 : Vec F S4x128x512 .bf16) (x7 : Vec F S4x128x128 .f32) (xs0 : Vec F S4x2x512x128 .f32) (y : S4x2x512x128.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).2.2.1 S1x1x512x128.size (by sl_kernel_rfl) y

/-- What case B leaves in scratch `arg12`: its pieces read back over junk. -/
def sout0_B_0 (c : Dev nD) (i : grid0.Coords) (arg2 : Memref sig .tc .vmem S4x128x512 .bf16) (harg2 : arg2.IsWhole) (arg3 : Memref sig .tc .vmem S4x128x512 .bf16) (harg3 : arg3.IsWhole) (arg4 : Memref sig .tc .vmem S4x128x512 .bf16) (harg4 : arg4.IsWhole) (arg5 : Memref sig .tc .vmem S4x128x128 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S4x128x512 .bf16) (harg8 : arg8.IsWhole) (arg9 : Memref sig .tc .vmem S4x128x128 .f32) (harg9 : arg9.IsWhole) (arg10 : Memref sig .tc .vmem S4x128x512 .f32) (harg10 : arg10.IsWhole) (arg11 : Memref sig .tc .vmem S4x128x512 .f32) (harg11 : arg11.IsWhole) (arg12 : Memref sig .tc .vmem S4x2x512x128 .f32) (harg12 : arg12.IsWhole) (hc0 : ¬cond0_0 i)
    (x0 : Vec F S4x128x512 .bf16) (x1 : Vec F S4x128x512 .bf16) (x2 : Vec F S4x128x512 .bf16) (x3 : Vec F S4x128x128 .f32) (x4 : Vec F S4x128x512 .bf16) (x5 : Vec F S4x128x512 .bf16) (x6 : Vec F S4x128x512 .bf16) (x7 : Vec F S4x128x128 .f32) (xs0 : Vec F S4x2x512x128 .f32) : Vec F S4x2x512x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). -/
def outsAt0 (c : Dev nD) : (n : ℕ) → n < cfg0.N → Vec F S4x128x512 .f32 × Vec F S4x128x512 .f32 × Vec F S4x2x512x128 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 32 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2)

/-- `outsAt0` at a point of case A: that case's contents. -/
theorem outsAt0_A (c : Dev nD) (t : Fin cfg0.N) (h0 : t.val % 32 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 32 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    launch's (`ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant `PhiS`
    (`ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
  Φ t := PhiS m c t.val (Nat.le_of_lt_succ t.isLt)
  q w := Pipeline.shareOf spec0 w
  owed _ := 0

/-- The proof data's arrays are the contents on entry to the region. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc m c t, PhiS_zero m c _ _ hz, PhiA0_eq]
      rw [outsAt0_A m c t h0]
      unfold out0_A_8 out0_A_9 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      iintro ⟨H0, H1, H2, H3, H4, H5, H6, H7, ⟨%e8, H8⟩, ⟨%e9, H9⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      unfold out0_B_8 out0_B_9 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      iintro ⟨H0, H1, H2, H3, H4, H5, H6, H7, ⟨%e8, H8⟩, ⟨%e9, H9⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.Delta.lean ====
/-
  The gated delta recurrence over the real numbers, for one head. Token by token, and sixty-four tokens at once: what a
  chunk's tokens newly write solves a unit triangular system, and the state and the outputs follow from it. The inverse
  of the triangular matrix is a product of doublings.
-/
module

public import Mathlib.LinearAlgebra.Matrix.NonsingularInverse
public import Mathlib.Analysis.SpecialFunctions.Exp
public import Mathlib.Tactic.Ring
public import Mathlib.Tactic.Abel
public import Mathlib.Tactic.LinearCombination

@[expose] public section

noncomputable section

namespace Cert.Proof.Delta

/-- One head's tokens in the order of time: queries, keys, values, write strengths and logarithms of the gates. -/
structure Tokens where
  q : ℕ → Fin 128 → ℝ
  k : ℕ → Fin 128 → ℝ
  v : ℕ → Fin 128 → ℝ
  b : ℕ → ℝ
  g : ℕ → ℝ

/-- The state after a token, from the state before. -/
def next (A : Tokens) (t : ℕ) (S : Fin 128 → Fin 128 → ℝ) (c e : Fin 128) : ℝ :=
  Real.exp (A.g t) * (S c e - A.b t * A.k t c * ∑ d, A.k t d * S d e) + A.b t * A.k t c * A.v t e

/-- The state before token `t`. -/
def state (A : Tokens) : ℕ → Fin 128 → Fin 128 → ℝ
  | 0 => fun _ _ => 0
  | t + 1 => next A t (state A t)

/-- The output of token `t`. -/
def out (A : Tokens) (t : ℕ) (e : Fin 128) : ℝ := ∑ c, A.q t c * state A (t + 1) c e

/-- The sum of the first `i` log-gates from token `n` on. -/
def total (A : Tokens) (n i : ℕ) : ℝ := ∑ j ∈ Finset.range i, A.g (n + j)

theorem total_succ (A : Tokens) (n i : ℕ) : total A n (i + 1) = total A n i + A.g (n + i) :=
  Finset.sum_range_succ _ _

/-- What a chunk's tokens newly write solves the triangular system. -/
def Solves (A : Tokens) (n : ℕ) (X : ℕ → Fin 128 → ℝ) : Prop := ∀ i < 64, ∀ e,
  X i e = A.b (n + i) * A.v (n + i) e
    - A.b (n + i) * Real.exp (total A n (i + 1)) * (∑ c, A.k (n + i) c * state A n c e)
    - ∑ j ∈ Finset.range i, A.b (n + i) * (∑ c, A.k (n + i) c * A.k (n + j) c)
        * Real.exp (total A n (i + 1) - total A n (j + 1)) * X j e

/-- The state inside a chunk. -/
theorem state_chunk (A : Tokens) (n : ℕ) (X : ℕ → Fin 128 → ℝ) (hX : Solves A n X) :
    ∀ i ≤ 64, ∀ c e, state A (n + i) c e = Real.exp (total A n i) * state A n c e
      + ∑ j ∈ Finset.range i, Real.exp (total A n i - total A n (j + 1)) * A.k (n + j) c * X j e := by
  intro i
  induction i with
  | zero => intro _ c e; simp [total]
  | succ i ih =>
    intro hi c e
    have ih' := ih (by omega)
    have hx := hX i (by omega) e
    have s1 : state A (n + (i + 1)) c e = next A (n + i) (state A (n + i)) c e := rfl
    have hk : ∑ d, A.k (n + i) d * state A (n + i) d e
        = Real.exp (total A n i) * (∑ d, A.k (n + i) d * state A n d e)
          + ∑ j ∈ Finset.range i, Real.exp (total A n i - total A n (j + 1))
              * (∑ d, A.k (n + i) d * A.k (n + j) d) * X j e := by
      simp only [ih', mul_add, Finset.sum_add_distrib, Finset.mul_sum]
      congr 1
      · exact Finset.sum_congr rfl fun d _ => by ring
      · rw [Finset.sum_comm]
        refine Finset.sum_congr rfl fun j _ => ?_
        rw [Finset.sum_mul]
        exact Finset.sum_congr rfl fun d _ => by ring
    have he (x : ℝ) : Real.exp (A.g (n + i)) * Real.exp (total A n i - x) = Real.exp (total A n (i + 1) - x) := by
      rw [← Real.exp_add, total_succ]; congr 1; ring
    have he0 : Real.exp (A.g (n + i)) * Real.exp (total A n i) = Real.exp (total A n (i + 1)) := by
      have := he 0; simpa using this
    have hx' : X i e = A.b (n + i) * A.v (n + i) e
        - A.b (n + i) * (Real.exp (A.g (n + i)) * ∑ d, A.k (n + i) d * state A (n + i) d e) := by
      have hy : ∑ j ∈ Finset.range i, A.b (n + i) * (∑ c, A.k (n + i) c * A.k (n + j) c)
            * Real.exp (total A n (i + 1) - total A n (j + 1)) * X j e
          = A.b (n + i) * (Real.exp (A.g (n + i)) * ∑ j ∈ Finset.range i, Real.exp (total A n i - total A n (j + 1))
              * (∑ d, A.k (n + i) d * A.k (n + j) d) * X j e) := by
        rw [Finset.mul_sum, Finset.mul_sum]
        refine Finset.sum_congr rfl fun j _ => ?_
        rw [← he (total A n (j + 1))]; ring
      rw [hx, hk, hy, ← he0]; ring
    rw [s1, next, Finset.sum_range_succ, sub_self, Real.exp_zero, one_mul]
    have hs : Real.exp (A.g (n + i)) * state A (n + i) c e = Real.exp (total A n (i + 1)) * state A n c e
        + ∑ j ∈ Finset.range i, Real.exp (total A n (i + 1) - total A n (j + 1)) * A.k (n + j) c * X j e := by
      rw [ih' c e, mul_add, ← mul_assoc, he0, Finset.mul_sum]
      congr 1
      refine Finset.sum_congr rfl fun j _ => ?_
      rw [← he (total A n (j + 1))]; ring
    rw [← add_assoc, ← hs, hx']
    ring

/-- The output inside a chunk. -/
theorem out_chunk (A : Tokens) (n : ℕ) (X : ℕ → Fin 128 → ℝ) (hX : Solves A n X) (i : ℕ) (hi : i < 64) (e : Fin 128) :
    out A (n + i) e = ∑ c, A.q (n + i) c * Real.exp (total A n (i + 1)) * state A n c e
      + ∑ j ∈ Finset.range (i + 1), (∑ c, A.q (n + i) c * A.k (n + j) c)
          * Real.exp (total A n (i + 1) - total A n (j + 1)) * X j e := by
  have h := state_chunk A n X hX (i + 1) (by omega)
  rw [out]
  rw [show n + i + 1 = n + (i + 1) from rfl]
  simp only [h, mul_add, Finset.sum_add_distrib, Finset.mul_sum]
  congr 1
  · exact Finset.sum_congr rfl fun d _ => by ring
  · rw [Finset.sum_comm]
    refine Finset.sum_congr rfl fun j _ => ?_
    rw [Finset.sum_mul, Finset.sum_mul]
    exact Finset.sum_congr rfl fun d _ => by ring

/-! ## The inverse by doublings -/

abbrev M := Matrix (Fin 64) (Fin 64) ℝ

/-- One doubling. -/
def doubled (pt : M × M) : M × M := (pt.1 * pt.1, pt.2 + pt.2 * pt.1)

/-- The product of `1 + P`, `1 + P²`, …, `1 + P³²`. -/
def inverse (P : M) : M :=
  have pt := doubled (doubled (doubled (doubled (P * P, 1 + P))))
  pt.2 + pt.2 * pt.1

theorem doubled_keeps (P : M) (pt : M × M) (n : ℕ) (h1 : pt.1 = P ^ n) (h2 : pt.2 * (1 - P) = 1 - P ^ n) :
    (doubled pt).1 = P ^ (n + n) ∧ (doubled pt).2 * (1 - P) = 1 - P ^ (n + n) := by
  refine ⟨by rw [doubled, h1, pow_add], ?_⟩
  have hc : P ^ n * (1 - P) = (1 - P) * P ^ n := by rw [mul_sub, sub_mul, mul_one, one_mul, ← pow_succ, ← pow_succ']
  rw [doubled, add_mul, h2, h1, mul_assoc, hc, ← mul_assoc, h2, sub_mul, one_mul, pow_add]
  abel

/-- A matrix that is strictly triangular in some order of the rows has 64th power zero. -/
theorem pow_zero_of_strict (P : M) (L : Fin 64 → ℕ) (hL : ∀ i, L i < 64) (h : ∀ i j, P i j ≠ 0 → L j < L i) :
    P ^ 64 = 0 := by
  have key : ∀ n i j, (P ^ n) i j ≠ 0 → L j + n ≤ L i := by
    intro n
    induction n with
    | zero =>
      intro i j hne
      rw [pow_zero, Matrix.one_apply] at hne
      by_cases e : i = j
      · subst e; omega
      · rw [if_neg e] at hne; exact absurd rfl hne
    | succ n ih =>
      intro i j hne
      rw [pow_succ, Matrix.mul_apply] at hne
      obtain ⟨k, _, hk⟩ := Finset.exists_ne_zero_of_sum_ne_zero hne
      have a := ih i k (left_ne_zero_of_mul hk)
      have b := h k j (right_ne_zero_of_mul hk)
      omega
  ext i j
  by_contra hne
  have := key 64 i j hne
  have := hL i
  omega

theorem inverse_mul (P : M) (L : Fin 64 → ℕ) (hL : ∀ i, L i < 64) (h : ∀ i j, P i j ≠ 0 → L j < L i) :
    (1 - P) * inverse P = 1 := by
  rw [mul_eq_one_comm]
  have h0 := pow_zero_of_strict P L hL h
  have s1 : ((P * P, 1 + P) : M × M).1 = P ^ 2 ∧ ((P * P, 1 + P) : M × M).2 * (1 - P) = 1 - P ^ 2 := by
    refine ⟨(pow_two P).symm, ?_⟩
    show (1 + P) * (1 - P) = _
    rw [add_mul, one_mul, mul_sub, mul_one, pow_two]; abel
  have s2 := doubled_keeps P _ _ s1.1 s1.2
  have s3 := doubled_keeps P _ _ s2.1 s2.2
  have s4 := doubled_keeps P _ _ s3.1 s3.2
  have s5 := doubled_keeps P _ _ s4.1 s4.2
  have s6 := doubled_keeps P _ _ s5.1 s5.2
  have := s6.2
  rw [show (2 + 2 + (2 + 2) + (2 + 2 + (2 + 2)) + (2 + 2 + (2 + 2) + (2 + 2 + (2 + 2)))
    + (2 + 2 + (2 + 2) + (2 + 2 + (2 + 2)) + (2 + 2 + (2 + 2) + (2 + 2 + (2 + 2))))) = 64 from rfl, h0, sub_zero] at this
  exact this

/-! ## A chunk, row by row, the rows in either order of time -/

section

variable (A : Tokens) (n : ℕ) (L : Fin 64 ≃ Fin 64)

/-- The running sum of the log-gates at a row. -/
def upTo (i : Fin 64) : ℝ := total A n ((L i).val + 1)

/-- `exp (γ_i − γ_j)` for a row `j` not after `i`, zero elsewhere. -/
def low (i j : Fin 64) : ℝ := if L j ≤ L i then Real.exp (upTo A n L i - upTo A n L j) else 0

/-- The triangular matrix of one row's pull on the later ones, its sign changed. -/
def pull : M := fun i j =>
  0 - if L j < L i then (∑ c, A.k (n + L i) c * A.k (n + L j) c) * low A n L i j * A.b (n + L i) else 0

/-- What the rows newly write, from the state before the chunk. -/
def write (S : Fin 128 → Fin 128 → ℝ) (i : Fin 64) (e : Fin 128) : ℝ :=
  (∑ j, inverse (pull A n L) i j * (A.v (n + L j) e * A.b (n + L j)))
    - ∑ c, (∑ j, inverse (pull A n L) i j * (A.k (n + L j) c * (A.b (n + L j) * Real.exp (upTo A n L j)))) * S c e

theorem sum_order (f : ℕ → ℝ) : ∑ j, f (L j).val = ∑ m ∈ Finset.range 64, f m := by
  rw [Equiv.sum_comp L fun m => f m.val, Fin.sum_univ_eq_sum_range f 64]

theorem sum_order_lt (f : ℕ → ℝ) (i : ℕ) (hi : i ≤ 64) :
    ∑ j, (if (L j).val < i then f (L j).val else 0) = ∑ m ∈ Finset.range i, f m := by
  rw [sum_order L fun m => if m < i then f m else 0, ← Finset.sum_filter]
  congr 1
  ext m
  simp only [Finset.mem_filter, Finset.mem_range]
  omega

/-- The rows' writes in the order of time. -/
def inOrder (X : Fin 64 → Fin 128 → ℝ) (m : ℕ) (e : Fin 128) : ℝ := if h : m < 64 then X (L.symm ⟨m, h⟩) e else 0

theorem inOrder_row (X : Fin 64 → Fin 128 → ℝ) (i : Fin 64) (e : Fin 128) : inOrder L X (L i).val e = X i e := by
  rw [inOrder, dif_pos (L i).isLt, Fin.eta, Equiv.symm_apply_apply]

theorem write_eq (S : Fin 128 → Fin 128 → ℝ) (i : Fin 64) (e : Fin 128) :
    write A n L S i e = ∑ j, inverse (pull A n L) i j
      * (A.b (n + L j) * A.v (n + L j) e - A.b (n + L j) * Real.exp (upTo A n L j) * ∑ c, A.k (n + L j) c * S c e) := by
  rw [write]
  simp only [mul_sub, Finset.sum_sub_distrib]
  congr 1
  · exact Finset.sum_congr rfl fun j _ => by ring
  · simp only [Finset.sum_mul, Finset.mul_sum]
    rw [Finset.sum_comm]
    exact Finset.sum_congr rfl fun j _ => Finset.sum_congr rfl fun c _ => by ring

theorem write_row (S : Fin 128 → Fin 128 → ℝ) (i : Fin 64) (e : Fin 128) :
    write A n L S i e - ∑ j, pull A n L i j * write A n L S j e
      = A.b (n + L i) * A.v (n + L i) e - A.b (n + L i) * Real.exp (upTo A n L i) * ∑ c, A.k (n + L i) c * S c e := by
  have h := inverse_mul (pull A n L) (fun i => (L i).val) (fun i => (L i).isLt) fun i j hne => by
    by_contra hl
    refine hne ?_
    rw [pull, if_neg (show ¬L j < L i from hl), sub_zero]
  let R : Matrix (Fin 64) (Fin 128) ℝ := fun j e => A.b (n + L j) * A.v (n + L j) e
      - A.b (n + L j) * Real.exp (upTo A n L j) * ∑ c, A.k (n + L j) c * S c e
  have hw : (write A n L S : Matrix (Fin 64) (Fin 128) ℝ) = inverse (pull A n L) * R := by
    funext i e
    rw [Matrix.mul_apply]
    exact write_eq A n L S i e
  let W : Matrix (Fin 64) (Fin 128) ℝ := write A n L S
  have hm : W - pull A n L * W = R := by
    have h1 : (1 - pull A n L) * W = R := by
      rw [show W = inverse (pull A n L) * R from hw, ← Matrix.mul_assoc, h, Matrix.one_mul]
    rw [Matrix.sub_mul, Matrix.one_mul] at h1
    exact h1
  have := congrFun (congrFun hm i) e
  rw [Matrix.sub_apply, Matrix.mul_apply] at this
  exact this

theorem write_solves : Solves A n (inOrder L (write A n L (state A n))) := by
  intro m hm e
  obtain ⟨i, hi⟩ : ∃ i, (L i).val = m := ⟨L.symm ⟨m, hm⟩, by rw [Equiv.apply_symm_apply]⟩
  subst hi
  rw [inOrder_row]
  have h := write_row A n L (state A n) i e
  have hs : ∑ j, pull A n L i j * write A n L (state A n) j e
      = - ∑ j ∈ Finset.range (L i).val, A.b (n + L i) * (∑ c, A.k (n + L i) c * A.k (n + j) c)
          * Real.exp (total A n ((L i).val + 1) - total A n (j + 1)) * inOrder L (write A n L (state A n)) j e := by
    rw [← sum_order_lt L _ (L i).val (L i).isLt.le, ← Finset.sum_neg_distrib]
    refine Finset.sum_congr rfl fun j _ => ?_
    rw [inOrder_row, pull, low]
    by_cases hl : L j < L i
    · rw [if_pos hl, if_pos hl.le, if_pos (show (L j).val < (L i).val from hl), upTo, upTo]; ring
    · rw [if_neg hl, if_neg (show ¬(L j).val < (L i).val from hl)]; ring
  rw [hs] at h
  rw [upTo] at h
  linear_combination h

theorem chunk_out (i : Fin 64) (e : Fin 128) :
    (∑ c, A.q (n + L i) c * Real.exp (upTo A n L i) * state A n c e)
      + ∑ j, (∑ c, A.q (n + L i) c * A.k (n + L j) c) * low A n L i j * write A n L (state A n) j e
      = out A (n + L i) e := by
  rw [out_chunk A n _ (write_solves A n L) (L i).val (L i).isLt, ← sum_order_lt L _ ((L i).val + 1) (L i).isLt]
  congr 1
  refine Finset.sum_congr rfl fun j _ => ?_
  rw [inOrder_row, low]
  by_cases hl : L j ≤ L i
  · rw [if_pos hl, if_pos (show (L j).val < (L i).val + 1 from Nat.lt_succ_of_le hl), upTo, upTo]
  · rw [if_neg hl, if_neg (show ¬(L j).val < (L i).val + 1 from fun h => hl (Nat.le_of_lt_succ h))]; ring

theorem chunk_state (c e : Fin 128) :
    state A n c e * Real.exp (total A n 64)
      + ∑ j, A.k (n + L j) c * Real.exp (total A n 64 - upTo A n L j) * write A n L (state A n) j e
      = state A (n + 64) c e := by
  rw [state_chunk A n _ (write_solves A n L) 64 le_rfl, ← sum_order L, mul_comm (Real.exp (total A n 64))]
  congr 1
  refine Finset.sum_congr rfl fun j _ => ?_
  rw [inOrder_row, upTo]; ring

end

end Cert.Proof.Delta

end
-- ==== Proof.Head.lean ====
/-
  The layouts of one chunk's arrays, at finite entries: four heads of 64 rows by 128 lanes in one array, and the products
  of such arrays head by head.
-/
module

public import proofs.«01_k».proof.Proof.ChainDef
public import proofs.«01_k».proof.Proof.Delta
public import Idealize.ShloMosaic.Lib.Pipeline.ValueKit

@[expose] public section

set_option maxRecDepth 16384

noncomputable section

open Idealize.ShloMosaic Idealize.ShloMosaic.TcCoe
open Cert.KernelIdeal Cert.KernelIdeal.Gen Cert.KernelIdeal.Chain

namespace Cert.Proof.Head

/-- Row (or lane) `i` of head `h` among 256. -/
def at64 (h : Fin 4) (i : Fin 64) : Fin 256 := ⟨64 * h.val + i.val, by omega⟩
/-- Lane `d` of head `h` among 512. -/
def at128 (h : Fin 4) (d : Fin 128) : Fin 512 := ⟨128 * h.val + d.val, by omega⟩

theorem sum256 (f : Fin 256 → EReal) : ∑ k, f k = ∑ h : Fin 4, ∑ i : Fin 64, f (at64 h i) := by
  have e : ∑ k, f k = ∑ p : Fin 4 × Fin 64, f (at64 p.1 p.2) := by
    refine (Fintype.sum_equiv ⟨fun p : Fin 4 × Fin 64 => at64 p.1 p.2,
      fun k => (⟨k.val / 64, by omega⟩, ⟨k.val % 64, by omega⟩), fun p => ?_, fun k => ?_⟩ _ _ fun p => rfl).symm
    · apply Prod.ext <;> apply Fin.ext <;> simp only [at64] <;> omega
    · apply Fin.ext; simp only [at64]; omega
  rw [e, Fintype.sum_prod_type]

theorem sum512 (f : Fin 512 → EReal) : ∑ k, f k = ∑ h : Fin 4, ∑ d : Fin 128, f (at128 h d) := by
  have e : ∑ k, f k = ∑ p : Fin 4 × Fin 128, f (at128 p.1 p.2) := by
    refine (Fintype.sum_equiv ⟨fun p : Fin 4 × Fin 128 => at128 p.1 p.2,
      fun k => (⟨k.val / 128, by omega⟩, ⟨k.val % 128, by omega⟩), fun p => ?_, fun k => ?_⟩ _ _ fun p => rfl).symm
    · apply Prod.ext <;> apply Fin.ext <;> simp only [at128] <;> omega
    · apply Fin.ext; simp only [at128]; omega
  rw [e, Fintype.sum_prod_type]

/-- Heads side by side, 64 lanes each. -/
def Cat (x : FVec Ideal S64x256 .f32) (X : Fin 4 → Delta.M) : Prop := ∀ h i j, x (ix2 i (at64 h j)) = ((X h i j : ℝ) : EReal)
/-- Heads on the diagonal of a square. -/
def Diag (x : FVec Ideal S256x256 .f32) (X : Fin 4 → Delta.M) : Prop :=
  ∀ h i h' j, x (ix2 (at64 h i) (at64 h' j)) = if h = h' then ((X h i j : ℝ) : EReal) else 0
/-- Heads below one another, 128 lanes. -/
def Stack (x : FVec Ideal S256x128 .f32) (X : Fin 4 → Fin 64 → Fin 128 → ℝ) : Prop :=
  ∀ h i d, x (ix2 (at64 h i) d) = ((X h i d : ℝ) : EReal)
/-- Heads side by side, 128 lanes each. -/
def Wide (x : FVec Ideal S64x512 .bf16) (X : Fin 4 → Fin 64 → Fin 128 → ℝ) : Prop :=
  ∀ h i d, x (ix2 i (at128 h d)) = ((X h i d : ℝ) : EReal)
/-- A number per row, heads below one another. -/
def Col (x : FVec Ideal S256x1 .f32) (X : Fin 4 → Fin 64 → ℝ) : Prop := ∀ h i, x (ix2 (at64 h i) 0) = ((X h i : ℝ) : EReal)
/-- Head's states below one another. -/
def State (x : FVec Ideal S512x128 .f32) (X : Fin 4 → Fin 128 → Fin 128 → ℝ) : Prop :=
  ∀ h c e, x (ix2 (at128 h c) e) = ((X h c e : ℝ) : EReal)

/-- What the masks of the head blocks say. -/
structure Masks (N : Nums Ideal) : Prop where
  row : ∀ i j, N.row (ix2 i j) = BitVec.ofNat 32 i.val
  col : ∀ i j, N.col (ix2 i j) = BitVec.ofNat 32 j.val
  lane : ∀ i j, N.lane (ix2 i j) = BitVec.ofNat 32 j.val
  same : ∀ h i h' j, N.same (ix2 (at64 h i) (at64 h' j)) = if h = h' then 1#1 else 0#1
  headLanes : ∀ h i h' d, N.headLanes (ix2 (at64 h i) (at128 h' d)) = if h = h' then 1#1 else 0#1
  laneBlk : ∀ z h j, N.laneBlk (ix2 z (at64 h j)) = BitVec.ofNat 32 h.val
  rowCat : ∀ i j, N.rowCat (ix2 i j) = BitVec.ofNat 32 i.val
  colCat : ∀ i h j, N.colCat (ix2 i (at64 h j)) = BitVec.ofNat 32 j.val
  blkCat : ∀ i h j, N.blkCat (ix2 i (at64 h j)) = BitVec.ofNat 32 h.val
  eye : ∀ i h j, N.eye (ix2 i (at64 h j)) = if j = i then 1 else 0

theorem four (h : Fin 4) : h = 0 ∨ h = 1 ∨ h = 2 ∨ h = 3 := by revert h; decide

section
variable {α : Type}

theorem rows_256x256 (x : S64x256.Idx → α) (c) (h : Fin 4) (i : Fin 64) (l : Fin 256) :
    concatenate S256x256 0 [⟨S64x256, x⟩, ⟨S64x256, x⟩, ⟨S64x256, x⟩, ⟨S64x256, x⟩] c (ix2 (at64 h i) l) = x (ix2 i l) := by
  pointwise
  rcases four h with rfl | rfl | rfl | rfl
  · have e : (at64 0 i).val = 0 + i.val := rfl
    rw [dif_pos (by omega : (at64 0 i).val < 64)]
    exact congrArg x (congrArg₂ ix2 (Fin.ext (by dsimp only; omega)) rfl)
  · have e : (at64 1 i).val = 64 + i.val := rfl
    rw [dif_neg (by omega : ¬(at64 1 i).val < 64), dif_pos (by omega : (at64 1 i).val - 64 < 64)]
    exact congrArg x (congrArg₂ ix2 (Fin.ext (by dsimp only; omega)) rfl)
  · have e : (at64 2 i).val = 128 + i.val := rfl
    rw [dif_neg (by omega : ¬(at64 2 i).val < 64), dif_neg (by omega : ¬(at64 2 i).val - 64 < 64), dif_pos (by omega : (at64 2 i).val - 64 - 64 < 64)]
    exact congrArg x (congrArg₂ ix2 (Fin.ext (by dsimp only; omega)) rfl)
  · have e : (at64 3 i).val = 192 + i.val := rfl
    rw [dif_neg (by omega : ¬(at64 3 i).val < 64), dif_neg (by omega : ¬(at64 3 i).val - 64 < 64), dif_neg (by omega : ¬(at64 3 i).val - 64 - 64 < 64)]
    exact congrArg x (congrArg₂ ix2 (Fin.ext (by dsimp only; omega)) rfl)

theorem rows_256x512 (x : S64x512.Idx → α) (c) (h : Fin 4) (i : Fin 64) (l : Fin 512) :
    concatenate S256x512 0 [⟨S64x512, x⟩, ⟨S64x512, x⟩, ⟨S64x512, x⟩, ⟨S64x512, x⟩] c (ix2 (at64 h i) l) = x (ix2 i l) := by
  pointwise
  rcases four h with rfl | rfl | rfl | rfl
  · have e : (at64 0 i).val = 0 + i.val := rfl
    rw [dif_pos (by omega : (at64 0 i).val < 64)]
    exact congrArg x (congrArg₂ ix2 (Fin.ext (by dsimp only; omega)) rfl)
  · have e : (at64 1 i).val = 64 + i.val := rfl
    rw [dif_neg (by omega : ¬(at64 1 i).val < 64), dif_pos (by omega : (at64 1 i).val - 64 < 64)]
    exact congrArg x (congrArg₂ ix2 (Fin.ext (by dsimp only; omega)) rfl)
  · have e : (at64 2 i).val = 128 + i.val := rfl
    rw [dif_neg (by omega : ¬(at64 2 i).val < 64), dif_neg (by omega : ¬(at64 2 i).val - 64 < 64), dif_pos (by omega : (at64 2 i).val - 64 - 64 < 64)]
    exact congrArg x (congrArg₂ ix2 (Fin.ext (by dsimp only; omega)) rfl)
  · have e : (at64 3 i).val = 192 + i.val := rfl
    rw [dif_neg (by omega : ¬(at64 3 i).val < 64), dif_neg (by omega : ¬(at64 3 i).val - 64 < 64), dif_neg (by omega : ¬(at64 3 i).val - 64 - 64 < 64)]
    exact congrArg x (congrArg₂ ix2 (Fin.ext (by dsimp only; omega)) rfl)

theorem rows_256x64 (x : S64x64.Idx → α) (c) (h : Fin 4) (i : Fin 64) (l : Fin 64) :
    concatenate S256x64 0 [⟨S64x64, x⟩, ⟨S64x64, x⟩, ⟨S64x64, x⟩, ⟨S64x64, x⟩] c (ix2 (at64 h i) l) = x (ix2 i l) := by
  pointwise
  rcases four h with rfl | rfl | rfl | rfl
  · have e : (at64 0 i).val = 0 + i.val := rfl
    rw [dif_pos (by omega : (at64 0 i).val < 64)]
    exact congrArg x (congrArg₂ ix2 (Fin.ext (by dsimp only; omega)) rfl)
  · have e : (at64 1 i).val = 64 + i.val := rfl
    rw [dif_neg (by omega : ¬(at64 1 i).val < 64), dif_pos (by omega : (at64 1 i).val - 64 < 64)]
    exact congrArg x (congrArg₂ ix2 (Fin.ext (by dsimp only; omega)) rfl)
  · have e : (at64 2 i).val = 128 + i.val := rfl
    rw [dif_neg (by omega : ¬(at64 2 i).val < 64), dif_neg (by omega : ¬(at64 2 i).val - 64 < 64), dif_pos (by omega : (at64 2 i).val - 64 - 64 < 64)]
    exact congrArg x (congrArg₂ ix2 (Fin.ext (by dsimp only; omega)) rfl)
  · have e : (at64 3 i).val = 192 + i.val := rfl
    rw [dif_neg (by omega : ¬(at64 3 i).val < 64), dif_neg (by omega : ¬(at64 3 i).val - 64 < 64), dif_neg (by omega : ¬(at64 3 i).val - 64 - 64 < 64)]
    exact congrArg x (congrArg₂ ix2 (Fin.ext (by dsimp only; omega)) rfl)

theorem rows_256x1 (x0 x1 x2 x3 : S64x1.Idx → α) (c) (h : Fin 4) (i : Fin 64) (z : Fin 1) :
    concatenate S256x1 0 [⟨S64x1, x0⟩, ⟨S64x1, x1⟩, ⟨S64x1, x2⟩, ⟨S64x1, x3⟩] c (ix2 (at64 h i) z) = (![x0, x1, x2, x3] h) (ix2 i z) := by
  pointwise
  rcases four h with rfl | rfl | rfl | rfl
  · have e : (at64 0 i).val = 0 + i.val := rfl
    rw [dif_pos (by omega : (at64 0 i).val < 64)]
    exact congrArg x0 (congrArg₂ ix2 (Fin.ext (by dsimp only; omega)) (Subsingleton.elim _ _))
  · have e : (at64 1 i).val = 64 + i.val := rfl
    rw [dif_neg (by omega : ¬(at64 1 i).val < 64), dif_pos (by omega : (at64 1 i).val - 64 < 64)]
    exact congrArg x1 (congrArg₂ ix2 (Fin.ext (by dsimp only; omega)) (Subsingleton.elim _ _))
  · have e : (at64 2 i).val = 128 + i.val := rfl
    rw [dif_neg (by omega : ¬(at64 2 i).val < 64), dif_neg (by omega : ¬(at64 2 i).val - 64 < 64), dif_pos (by omega : (at64 2 i).val - 64 - 64 < 64)]
    exact congrArg x2 (congrArg₂ ix2 (Fin.ext (by dsimp only; omega)) (Subsingleton.elim _ _))
  · have e : (at64 3 i).val = 192 + i.val := rfl
    rw [dif_neg (by omega : ¬(at64 3 i).val < 64), dif_neg (by omega : ¬(at64 3 i).val - 64 < 64), dif_neg (by omega : ¬(at64 3 i).val - 64 - 64 < 64)]
    exact congrArg x3 (congrArg₂ ix2 (Fin.ext (by dsimp only; omega)) (Subsingleton.elim _ _))

theorem rows_256x128 (x0 x1 x2 x3 : S64x128.Idx → α) (c) (h : Fin 4) (i : Fin 64) (l : Fin 128) :
    concatenate S256x128 0 [⟨S64x128, x0⟩, ⟨S64x128, x1⟩, ⟨S64x128, x2⟩, ⟨S64x128, x3⟩] c (ix2 (at64 h i) l) = (![x0, x1, x2, x3] h) (ix2 i l) := by
  pointwise
  rcases four h with rfl | rfl | rfl | rfl
  · have e : (at64 0 i).val = 0 + i.val := rfl
    rw [dif_pos (by omega : (at64 0 i).val < 64)]
    exact congrArg x0 (congrArg₂ ix2 (Fin.ext (by dsimp only; omega)) rfl)
  · have e : (at64 1 i).val = 64 + i.val := rfl
    rw [dif_neg (by omega : ¬(at64 1 i).val < 64), dif_pos (by omega : (at64 1 i).val - 64 < 64)]
    exact congrArg x1 (congrArg₂ ix2 (Fin.ext (by dsimp only; omega)) rfl)
  · have e : (at64 2 i).val = 128 + i.val := rfl
    rw [dif_neg (by omega : ¬(at64 2 i).val < 64), dif_neg (by omega : ¬(at64 2 i).val - 64 < 64), dif_pos (by omega : (at64 2 i).val - 64 - 64 < 64)]
    exact congrArg x2 (congrArg₂ ix2 (Fin.ext (by dsimp only; omega)) rfl)
  · have e : (at64 3 i).val = 192 + i.val := rfl
    rw [dif_neg (by omega : ¬(at64 3 i).val < 64), dif_neg (by omega : ¬(at64 3 i).val - 64 < 64), dif_neg (by omega : ¬(at64 3 i).val - 64 - 64 < 64)]
    exact congrArg x3 (congrArg₂ ix2 (Fin.ext (by dsimp only; omega)) rfl)

theorem rows_512x1 (x0 x1 x2 x3 : S128x1.Idx → α) (c) (h : Fin 4) (i : Fin 128) (z : Fin 1) :
    concatenate S512x1 0 [⟨S128x1, x0⟩, ⟨S128x1, x1⟩, ⟨S128x1, x2⟩, ⟨S128x1, x3⟩] c (ix2 (at128 h i) z) = (![x0, x1, x2, x3] h) (ix2 i z) := by
  pointwise
  rcases four h with rfl | rfl | rfl | rfl
  · have e : (at128 0 i).val = 0 + i.val := rfl
    rw [dif_pos (by omega : (at128 0 i).val < 128)]
    exact congrArg x0 (congrArg₂ ix2 (Fin.ext (by dsimp only; omega)) (Subsingleton.elim _ _))
  · have e : (at128 1 i).val = 128 + i.val := rfl
    rw [dif_neg (by omega : ¬(at128 1 i).val < 128), dif_pos (by omega : (at128 1 i).val - 128 < 128)]
    exact congrArg x1 (congrArg₂ ix2 (Fin.ext (by dsimp only; omega)) (Subsingleton.elim _ _))
  · have e : (at128 2 i).val = 256 + i.val := rfl
    rw [dif_neg (by omega : ¬(at128 2 i).val < 128), dif_neg (by omega : ¬(at128 2 i).val - 128 < 128), dif_pos (by omega : (at128 2 i).val - 128 - 128 < 128)]
    exact congrArg x2 (congrArg₂ ix2 (Fin.ext (by dsimp only; omega)) (Subsingleton.elim _ _))
  · have e : (at128 3 i).val = 384 + i.val := rfl
    rw [dif_neg (by omega : ¬(at128 3 i).val < 128), dif_neg (by omega : ¬(at128 3 i).val - 128 < 128), dif_neg (by omega : ¬(at128 3 i).val - 128 - 128 < 128)]
    exact congrArg x3 (congrArg₂ ix2 (Fin.ext (by dsimp only; omega)) (Subsingleton.elim _ _))

theorem lanes_64x512 (x0 x1 x2 x3 : S64x128.Idx → α) (c) (h : Fin 4) (i : Fin 64) (d : Fin 128) :
    concatenate S64x512 1 [⟨S64x128, x0⟩, ⟨S64x128, x1⟩, ⟨S64x128, x2⟩, ⟨S64x128, x3⟩] c (ix2 i (at128 h d)) = (![x0, x1, x2, x3] h) (ix2 i d) := by
  pointwise
  rcases four h with rfl | rfl | rfl | rfl
  · have e : (at128 0 d).val = 0 + d.val := rfl
    rw [dif_pos (by omega : (at128 0 d).val < 128)]
    exact congrArg x0 (congrArg₂ ix2 rfl (Fin.ext (by dsimp only; omega)))
  · have e : (at128 1 d).val = 128 + d.val := rfl
    rw [dif_neg (by omega : ¬(at128 1 d).val < 128), dif_pos (by omega : (at128 1 d).val - 128 < 128)]
    exact congrArg x1 (congrArg₂ ix2 rfl (Fin.ext (by dsimp only; omega)))
  · have e : (at128 2 d).val = 256 + d.val := rfl
    rw [dif_neg (by omega : ¬(at128 2 d).val < 128), dif_neg (by omega : ¬(at128 2 d).val - 128 < 128), dif_pos (by omega : (at128 2 d).val - 128 - 128 < 128)]
    exact congrArg x2 (congrArg₂ ix2 rfl (Fin.ext (by dsimp only; omega)))
  · have e : (at128 3 d).val = 384 + d.val := rfl
    rw [dif_neg (by omega : ¬(at128 3 d).val < 128), dif_neg (by omega : ¬(at128 3 d).val - 128 < 128), dif_neg (by omega : ¬(at128 3 d).val - 128 - 128 < 128)]
    exact congrArg x3 (congrArg₂ ix2 rfl (Fin.ext (by dsimp only; omega)))

theorem lanes_256x512 (x : S256x128.Idx → α) (c) (h : Fin 4) (r : Fin 256) (d : Fin 128) :
    concatenate S256x512 1 [⟨S256x128, x⟩, ⟨S256x128, x⟩, ⟨S256x128, x⟩, ⟨S256x128, x⟩] c (ix2 r (at128 h d)) = x (ix2 r d) := by
  pointwise
  rcases four h with rfl | rfl | rfl | rfl
  · have e : (at128 0 d).val = 0 + d.val := rfl
    rw [dif_pos (by omega : (at128 0 d).val < 128)]
    exact congrArg x (congrArg₂ ix2 rfl (Fin.ext (by dsimp only; omega)))
  · have e : (at128 1 d).val = 128 + d.val := rfl
    rw [dif_neg (by omega : ¬(at128 1 d).val < 128), dif_pos (by omega : (at128 1 d).val - 128 < 128)]
    exact congrArg x (congrArg₂ ix2 rfl (Fin.ext (by dsimp only; omega)))
  · have e : (at128 2 d).val = 256 + d.val := rfl
    rw [dif_neg (by omega : ¬(at128 2 d).val < 128), dif_neg (by omega : ¬(at128 2 d).val - 128 < 128), dif_pos (by omega : (at128 2 d).val - 128 - 128 < 128)]
    exact congrArg x (congrArg₂ ix2 rfl (Fin.ext (by dsimp only; omega)))
  · have e : (at128 3 d).val = 384 + d.val := rfl
    rw [dif_neg (by omega : ¬(at128 3 d).val < 128), dif_neg (by omega : ¬(at128 3 d).val - 128 < 128), dif_neg (by omega : ¬(at128 3 d).val - 128 - 128 < 128)]
    exact congrArg x (congrArg₂ ix2 rfl (Fin.ext (by dsimp only; omega)))

/-- The first and the second half. -/
def lo64 (i : Fin 64) : Fin 128 := ⟨i.val, by omega⟩
def hi64 (i : Fin 64) : Fin 128 := ⟨64 + i.val, by omega⟩
def lo128 (i : Fin 128) : Fin 256 := ⟨i.val, by omega⟩
def hi128 (i : Fin 128) : Fin 256 := ⟨128 + i.val, by omega⟩
def lo256 (i : Fin 256) : Fin 512 := ⟨i.val, by omega⟩
def hi256 (i : Fin 256) : Fin 512 := ⟨256 + i.val, by omega⟩

theorem rows_128x512_lo (x y : S64x512.Idx → α) (c) (i : Fin 64) (l : Fin 512) :
    concatenate S128x512 0 [⟨S64x512, x⟩, ⟨S64x512, y⟩] c (ix2 (lo64 i) l) = x (ix2 i l) := by
  pointwise
  have e : (lo64 i).val = i.val := rfl
  rw [dif_pos (by omega : (lo64 i).val < 64)]
  exact congrArg x (congrArg₂ ix2 (Fin.ext (by dsimp only; omega)) rfl)

theorem rows_128x512_hi (x y : S64x512.Idx → α) (c) (i : Fin 64) (l : Fin 512) :
    concatenate S128x512 0 [⟨S64x512, x⟩, ⟨S64x512, y⟩] c (ix2 (hi64 i) l) = y (ix2 i l) := by
  pointwise
  have e : (hi64 i).val = 64 + i.val := rfl
  rw [dif_neg (by omega : ¬(hi64 i).val < 64)]
  exact congrArg y (congrArg₂ ix2 (Fin.ext (by dsimp only; omega)) rfl)

theorem rows_128x256_lo (x y : S64x256.Idx → α) (c) (i : Fin 64) (l : Fin 256) :
    concatenate S128x256 0 [⟨S64x256, x⟩, ⟨S64x256, y⟩] c (ix2 (lo64 i) l) = x (ix2 i l) := by
  pointwise
  have e : (lo64 i).val = i.val := rfl
  rw [dif_pos (by omega : (lo64 i).val < 64)]
  exact congrArg x (congrArg₂ ix2 (Fin.ext (by dsimp only; omega)) rfl)

theorem rows_128x256_hi (x y : S64x256.Idx → α) (c) (i : Fin 64) (l : Fin 256) :
    concatenate S128x256 0 [⟨S64x256, x⟩, ⟨S64x256, y⟩] c (ix2 (hi64 i) l) = y (ix2 i l) := by
  pointwise
  have e : (hi64 i).val = 64 + i.val := rfl
  rw [dif_neg (by omega : ¬(hi64 i).val < 64)]
  exact congrArg y (congrArg₂ ix2 (Fin.ext (by dsimp only; omega)) rfl)

theorem rows_512x512_lo (x y : S256x512.Idx → α) (c) (i : Fin 256) (l : Fin 512) :
    concatenate S512x512 0 [⟨S256x512, x⟩, ⟨S256x512, y⟩] c (ix2 (lo256 i) l) = x (ix2 i l) := by
  pointwise
  have e : (lo256 i).val = i.val := rfl
  rw [dif_pos (by omega : (lo256 i).val < 256)]
  exact congrArg x (congrArg₂ ix2 (Fin.ext (by dsimp only; omega)) rfl)

theorem rows_512x512_hi (x y : S256x512.Idx → α) (c) (i : Fin 256) (l : Fin 512) :
    concatenate S512x512 0 [⟨S256x512, x⟩, ⟨S256x512, y⟩] c (ix2 (hi256 i) l) = y (ix2 i l) := by
  pointwise
  have e : (hi256 i).val = 256 + i.val := rfl
  rw [dif_neg (by omega : ¬(hi256 i).val < 256)]
  exact congrArg y (congrArg₂ ix2 (Fin.ext (by dsimp only; omega)) rfl)

theorem lanes_256x256_lo (x y : S256x128.Idx → α) (c) (i : Fin 128) (l : Fin 256) :
    concatenate S256x256 1 [⟨S256x128, x⟩, ⟨S256x128, y⟩] c (ix2 l (lo128 i)) = x (ix2 l i) := by
  pointwise
  have e : (lo128 i).val = i.val := rfl
  rw [dif_pos (by omega : (lo128 i).val < 128)]
  exact congrArg x (congrArg₂ ix2 rfl (Fin.ext (by dsimp only; omega)))

theorem lanes_256x256_hi (x y : S256x128.Idx → α) (c) (i : Fin 128) (l : Fin 256) :
    concatenate S256x256 1 [⟨S256x128, x⟩, ⟨S256x128, y⟩] c (ix2 l (hi128 i)) = y (ix2 l i) := by
  pointwise
  have e : (hi128 i).val = 128 + i.val := rfl
  rw [dif_neg (by omega : ¬(hi128 i).val < 128)]
  exact congrArg y (congrArg₂ ix2 rfl (Fin.ext (by dsimp only; omega)))

end

end Cert.Proof.Head

end
-- ==== Proof.Mat.lean ====
/-
  One chunk's products of finite entries, head by head: the doublings give the inverse, and the outputs and the state after
  the chunk are those of the token by token recurrence.
-/
module

public import proofs.«01_k».proof.Proof.Head

@[expose] public section

set_option maxRecDepth 16384

noncomputable section

open Idealize.ShloMosaic Idealize.ShloMosaic.TcCoe
open Cert.KernelIdeal Cert.KernelIdeal.Gen Cert.KernelIdeal.Chain

namespace Cert.Proof.Head

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-! ## Sums over the heads of which one is kept -/

theorem sum_keep {n : ℕ} (h : Fin 4) (f : Fin 4 → Fin n → EReal) (g : Fin n → ℝ)
    (hf : ∀ h' i, f h' i = if h = h' then (g i : EReal) else 0) : ∑ h', ∑ i, f h' i = ((∑ i, g i : ℝ) : EReal) := by
  rw [Finset.sum_eq_single h, coe_sum]
  · exact Finset.sum_congr rfl fun i _ => by rw [hf, if_pos rfl]
  · intro h' _ hne
    exact Finset.sum_eq_zero fun i _ => by rw [hf, if_neg (Ne.symm hne)]
  · intro hn; exact absurd (Finset.mem_univ h) hn

theorem keep64 (h : Fin 4) (x y : Fin 256 → EReal) (X Y : Fin 4 → Fin 64 → ℝ)
    (hx : ∀ h' i, x (at64 h' i) = if h = h' then (X h' i : EReal) else 0) (hy : ∀ h' i, y (at64 h' i) = (Y h' i : EReal)) :
    ∑ k, x k * y k = ((∑ i, X h i * Y h i : ℝ) : EReal) := by
  rw [sum256]
  refine sum_keep h _ _ fun h' i => ?_
  rw [hx, hy]
  by_cases e : h = h'
  · subst e; rw [if_pos rfl, if_pos rfl, EReal.coe_mul]
  · rw [if_neg e, if_neg e, zero_mul]

theorem keep64' (h : Fin 4) (x y : Fin 256 → EReal) (X Y : Fin 4 → Fin 64 → ℝ)
    (hx : ∀ h' i, x (at64 h' i) = (X h' i : EReal)) (hy : ∀ h' i, y (at64 h' i) = if h' = h then (Y h' i : EReal) else 0) :
    ∑ k, x k * y k = ((∑ i, X h i * Y h i : ℝ) : EReal) := by
  have e := keep64 h y x Y X (fun h' i => by rw [hy]; simp only [eq_comm]) hx
  rw [show ∑ k, x k * y k = ∑ k, y k * x k from Finset.sum_congr rfl fun k _ => mul_comm _ _, e]
  congr 1
  exact Finset.sum_congr rfl fun k _ => mul_comm _ _

theorem keep128 (h : Fin 4) (x y : Fin 512 → EReal) (X Y : Fin 4 → Fin 128 → ℝ)
    (hx : ∀ h' d, x (at128 h' d) = if h = h' then (X h' d : EReal) else 0) (hy : ∀ h' d, y (at128 h' d) = (Y h' d : EReal)) :
    ∑ k, x k * y k = ((∑ d, X h d * Y h d : ℝ) : EReal) := by
  rw [sum512]
  refine sum_keep h _ _ fun h' i => ?_
  rw [hx, hy]
  by_cases e : h = h'
  · subst e; rw [if_pos rfl, if_pos rfl, EReal.coe_mul]
  · rw [if_neg e, if_neg e, zero_mul]

theorem keep128' (h : Fin 4) (x y : Fin 512 → EReal) (X Y : Fin 4 → Fin 128 → ℝ)
    (hx : ∀ h' i, x (at128 h' i) = (X h' i : EReal)) (hy : ∀ h' i, y (at128 h' i) = if h = h' then (Y h' i : EReal) else 0) :
    ∑ k, x k * y k = ((∑ i, X h i * Y h i : ℝ) : EReal) := by
  have e := keep128 h y x Y X hy hx
  rw [show ∑ k, x k * y k = ∑ k, y k * x k from Finset.sum_congr rfl fun k _ => mul_comm _ _, e]
  congr 1
  exact Finset.sum_congr rfl fun k _ => mul_comm _ _

/-! ## The products as sums -/

theorem mm_times (x : FVec Ideal S64x256 .f32) (y : FVec Ideal S256x256 .f32) (i j) :
    matmul dot_S64x256_S256x256_S64x256_1_0_0_1_n_n none (truncf .bf16 x bitsLt_bf16_f32) (truncf .bf16 y bitsLt_bf16_f32)
      (constant S64x256 .f32 0x00000000#32) (ix2 i j) = ∑ k, x (ix2 i k) * y (ix2 k j) := by pointwise

theorem mm_both (x : FVec Ideal S128x256 .f32) (y : FVec Ideal S256x256 .f32) (i j) :
    matmul dot_S128x256_S256x256_S128x256_1_0_0_1_n_n none (truncf .bf16 x bitsLt_bf16_f32) (truncf .bf16 y bitsLt_bf16_f32)
      (constant S128x256 .f32 0x00000000#32) (ix2 i j) = ∑ k, x (ix2 i k) * y (ix2 k j) := by pointwise

theorem mm_keys (x : FVec Ideal S128x512 .bf16) (y : FVec Ideal S256x512 .bf16) (i j) :
    matmul dot_S128x512_S256x512_S128x256_1_1_0_0_n_n none x y
      (constant S128x256 .f32 0x00000000#32) (ix2 i j) = ∑ k, x (ix2 i k) * y (ix2 j k) := by pointwise

theorem mm_solved (x : FVec Ideal S256x256 .f32) (y : FVec Ideal S256x256 .f32) (i j) :
    matmul dot_S256x256_S256x256_S256x256_1_0_0_1_n_n none (truncf .bf16 x bitsLt_bf16_f32) (truncf .bf16 y bitsLt_bf16_f32)
      (constant S256x256 .f32 0x00000000#32) (ix2 i j) = ∑ k, x (ix2 i k) * y (ix2 k j) := by pointwise

theorem mm_against (x : FVec Ideal S512x512 .f32) (y : FVec Ideal S512x128 .f32) (i j) :
    matmul dot_S512x512_S512x128_S512x128_1_0_0_1_n_n none (truncf .bf16 x bitsLt_bf16_f32) (truncf .bf16 y bitsLt_bf16_f32)
      (constant S512x128 .f32 0x00000000#32) (ix2 i j) = ∑ k, x (ix2 i k) * y (ix2 k j) := by pointwise

theorem mm_out (x : FVec Ideal S256x256 .f32) (y : FVec Ideal S256x128 .f32) (i j) :
    matmul dot_S256x256_S256x128_S256x128_1_0_0_1_n_n none (truncf .bf16 x bitsLt_bf16_f32) (truncf .bf16 y bitsLt_bf16_f32)
      (constant S256x128 .f32 0x00000000#32) (ix2 i j) = ∑ k, x (ix2 i k) * y (ix2 k j) := by pointwise

theorem top_apply (x : FVec Ideal S128x256 .f32) (i : Fin 64) (l : Fin 256) : topRows x (ix2 i l) = x (ix2 (lo64 i) l) := by
  pointwise
  exact congrArg x (congrArg₂ ix2 (Fin.ext rfl) (Fin.ext rfl))

theorem bot_apply (x : FVec Ideal S128x256 .f32) (i : Fin 64) (l : Fin 256) : botRows x (ix2 i l) = x (ix2 (hi64 i) l) := by
  pointwise
  exact congrArg x (congrArg₂ ix2 (Fin.ext rfl) (Fin.ext rfl))

theorem left_apply (x : FVec Ideal S256x256 .f32) (i : Fin 256) (l : Fin 128) : leftHalf x (ix2 i l) = x (ix2 i (lo128 l)) := by
  pointwise
  exact congrArg x (congrArg₂ ix2 (Fin.ext rfl) (Fin.ext rfl))

theorem right_apply (x : FVec Ideal S256x256 .f32) (i : Fin 256) (l : Fin 128) : rightHalf x (ix2 i l) = x (ix2 i (hi128 l)) := by
  pointwise
  exact congrArg x (congrArg₂ ix2 (Fin.ext rfl) (Fin.ext rfl))

theorem select_one {α : Type} (a b : α) : Scalar.select 1#1 a b = a := rfl
theorem select_zero {α : Type} (a b : α) : Scalar.select 0#1 a b = b := rfl

variable {N : Nums Ideal} (hN : Masks N)
include hN

theorem diag_eq {x : FVec Ideal S64x256 .f32} {X : Fin 4 → Delta.M} (hx : Cat x X) : Diag (diag N x) X := by
  intro h i h' j
  have e : diag N x (ix2 (at64 h i) (at64 h' j)) = Scalar.select (N.same (ix2 (at64 h i) (at64 h' j)))
      (concatenate S256x256 0 [⟨S64x256, x⟩, ⟨S64x256, x⟩, ⟨S64x256, x⟩, ⟨S64x256, x⟩]
        concatenates_S64x256_S64x256_S64x256_S64x256_S256x256_d0 (ix2 (at64 h i) (at64 h' j)))
      (Ideal.ofBits .f32 0x00000000#32) := rfl
  rw [e, hN.same, rows_256x256, hx, Ideal.ofBits_zero_f32]
  by_cases he : h = h'
  · subst he; rw [if_pos rfl, if_pos rfl, select_one]
  · rw [if_neg he, if_neg he, select_zero]

theorem times_eq {x p : FVec Ideal S64x256 .f32} {X P : Fin 4 → Delta.M} (hx : Cat x X) (hp : Cat p P) :
    Cat (times N x p) fun h => X h * P h := by
  intro h i j
  rw [times, mm_times]
  refine Eq.trans ?_ (congrArg Real.toEReal (Matrix.mul_apply (M := X h) (N := P h) (i := i) (k := j)).symm)
  exact keep64' h _ _ (fun h' k => X h' i k) (fun h' k => P h' k j) (fun h' k => hx h' i k) fun h' k => diag_eq hN hp h' k h j

theorem both_top {p t : FVec Ideal S64x256 .f32} {P T : Fin 4 → Delta.M} (hp : Cat p P) (ht : Cat t T) :
    Cat (topRows (both N p t)) fun h => P h * P h := by
  intro h i j
  rw [top_apply, both, mm_both]
  refine Eq.trans ?_ (congrArg Real.toEReal (Matrix.mul_apply (M := P h) (N := P h) (i := i) (k := j)).symm)
  refine keep64' h _ _ (fun h' k => P h' i k) (fun h' k => P h' k j) (fun h' k => ?_) fun h' k => diag_eq hN hp h' k h j
  rw [rows_128x256_lo, hp]

theorem both_bot {p t : FVec Ideal S64x256 .f32} {P T : Fin 4 → Delta.M} (hp : Cat p P) (ht : Cat t T) :
    Cat (botRows (both N p t)) fun h => T h * P h := by
  intro h i j
  rw [bot_apply, both, mm_both]
  refine Eq.trans ?_ (congrArg Real.toEReal (Matrix.mul_apply (M := T h) (N := P h) (i := i) (k := j)).symm)
  refine keep64' h _ _ (fun h' k => T h' i k) (fun h' k => P h' k j) (fun h' k => ?_) fun h' k => diag_eq hN hp h' k h j
  rw [rows_128x256_hi, ht]

omit hN in
theorem add_eq {x y : FVec Ideal S64x256 .f32} {X Y : Fin 4 → Delta.M} (hx : Cat x X) (hy : Cat y Y) :
    Cat (addf x y) fun h => X h + Y h := by
  intro h i j
  have e : addf x y (ix2 i (at64 h j)) = x (ix2 i (at64 h j)) + y (ix2 i (at64 h j)) := rfl
  rw [e, hx, hy, ← EReal.coe_add]
  rfl

theorem doubled_eq {pt : FVec Ideal S64x256 .f32 × FVec Ideal S64x256 .f32} {PT : Fin 4 → Delta.M × Delta.M}
    (h1 : Cat pt.1 fun h => (PT h).1) (h2 : Cat pt.2 fun h => (PT h).2) :
    (Cat (doubled N pt).1 fun h => (Delta.doubled (PT h)).1) ∧ Cat (doubled N pt).2 fun h => (Delta.doubled (PT h)).2 :=
  ⟨both_top hN h1 h2, add_eq h2 (both_bot hN h1 h2)⟩

theorem eye_eq : Cat N.eye fun _ => 1 := by
  intro h i j
  rw [hN.eye]
  refine Eq.trans ?_ (congrArg Real.toEReal (Matrix.one_apply (i := i) (j := j)).symm)
  by_cases e : i = j
  · rw [if_pos e, if_pos e.symm, EReal.coe_one]
  · rw [if_neg e, if_neg (Ne.symm e), EReal.coe_zero]

theorem inverse_eq {p : FVec Ideal S64x256 .f32} {P : Fin 4 → Delta.M} (hp : Cat p P) :
    Cat (inverse N p) fun h => Delta.inverse (P h) := by
  have s1 := doubled_eq hN (pt := (times N p p, addf N.eye p)) (PT := fun h => (P h * P h, 1 + P h))
    (times_eq hN hp hp) (add_eq (eye_eq hN) hp)
  have s2 := doubled_eq hN s1.1 s1.2
  have s3 := doubled_eq hN s2.1 s2.2
  have s4 := doubled_eq hN s3.1 s3.2
  exact add_eq s4.2 (times_eq hN s4.2 s4.1)

theorem wide_eq {x : FVec Ideal S64x512 .bf16} {X : Fin 4 → Fin 64 → Fin 128 → ℝ} (hx : Wide x X) (h : Fin 4) (i : Fin 64)
    (h' : Fin 4) (d : Fin 128) :
    wide N x (ix2 (at64 h i) (at128 h' d)) = if h = h' then ((X h i d : ℝ) : EReal) else 0 := by
  have e : wide N x (ix2 (at64 h i) (at128 h' d)) = Scalar.select (N.headLanes (ix2 (at64 h i) (at128 h' d)))
      (concatenate S256x512 0 [⟨S64x512, x⟩, ⟨S64x512, x⟩, ⟨S64x512, x⟩, ⟨S64x512, x⟩]
        concatenates_S64x512_S64x512_S64x512_S64x512_S256x512_d0 (ix2 (at64 h i) (at128 h' d)))
      (Ideal.ofBits .f32 0x00000000#32) := rfl
  rw [e, hN.headLanes, rows_256x512, hx, Ideal.ofBits_zero_f32]
  by_cases he : h = h'
  · subst he; rw [if_pos rfl, if_pos rfl, select_one]
  · rw [if_neg he, if_neg he, select_zero]

theorem keys_top {k q : FVec Ideal S64x512 .bf16} {K Q : Fin 4 → Fin 64 → Fin 128 → ℝ} (hk : Wide k K) (hq : Wide q Q) :
    Cat (topRows (keyProducts N k q)) fun h i j => ∑ c, K h i c * K h j c := by
  intro h i j
  rw [top_apply, keyProducts, mm_keys]
  refine keep128' h _ _ (fun h' c => K h' i c) (fun h' c => K h j c) (fun h' c => ?_) fun h' c => wide_eq hN hk h j h' c
  rw [rows_128x512_lo, hk]

theorem keys_bot {k q : FVec Ideal S64x512 .bf16} {K Q : Fin 4 → Fin 64 → Fin 128 → ℝ} (hk : Wide k K) (hq : Wide q Q) :
    Cat (botRows (keyProducts N k q)) fun h i j => ∑ c, Q h i c * K h j c := by
  intro h i j
  rw [bot_apply, keyProducts, mm_keys]
  refine keep128' h _ _ (fun h' c => Q h' i c) (fun h' c => K h j c) (fun h' c => ?_) fun h' c => wide_eq hN hk h j h' c
  rw [rows_128x512_hi, hq]

omit hN in
theorem narrow_eq {x : FVec Ideal S64x512 .bf16} {X : Fin 4 → Fin 64 → Fin 128 → ℝ} (hx : Wide x X) (h : Fin 4) (i : Fin 64)
    (d : Fin 128) : narrow x (ix2 (at64 h i) d) = ((X h i d : ℝ) : EReal) := by
  rw [narrow, rows_256x128, ← hx]
  rcases four h with rfl | rfl | rfl | rfl
  all_goals
    dsimp only [Matrix.cons_val]
    pointwise
    exact congrArg x (congrArg₂ ix2 (Fin.ext rfl) (Fin.ext (by simp [at128])))

omit hN in
theorem sides_left {k v : FVec Ideal S64x512 .bf16} {K V : Fin 4 → Fin 64 → Fin 128 → ℝ} {b e : FVec Ideal S256x1 .f32}
    {B E : Fin 4 → Fin 64 → ℝ} (hk : Wide k K) (hv : Wide v V) (hb : Col b B) (he : Col e E) (h : Fin 4) (i : Fin 64) (d : Fin 128) :
    sides k v b e (ix2 (at64 h i) (lo128 d)) = ((V h i d * B h i : ℝ) : EReal) := by
  rw [sides, lanes_256x256_lo]
  pointwise
  rw [narrow_eq hv, hb, EReal.coe_mul]

omit hN in
theorem sides_right {k v : FVec Ideal S64x512 .bf16} {K V : Fin 4 → Fin 64 → Fin 128 → ℝ} {b e : FVec Ideal S256x1 .f32}
    {B E : Fin 4 → Fin 64 → ℝ} (hk : Wide k K) (hv : Wide v V) (hb : Col b B) (he : Col e E) (h : Fin 4) (i : Fin 64) (d : Fin 128) :
    sides k v b e (ix2 (at64 h i) (hi128 d)) = ((K h i d * (B h i * E h i) : ℝ) : EReal) := by
  rw [sides, lanes_256x256_hi]
  pointwise
  rw [narrow_eq hk, hb, he, EReal.coe_mul, EReal.coe_mul]

theorem solved_eq {t : FVec Ideal S64x256 .f32} {T : Fin 4 → Delta.M} (ht : Cat t T) (r : FVec Ideal S256x256 .f32) (l : Fin 256)
    (R : Fin 4 → Fin 64 → ℝ) (hr : ∀ h i, r (ix2 (at64 h i) l) = ((R h i : ℝ) : EReal)) (h : Fin 4) (i : Fin 64) :
    solved N t r (ix2 (at64 h i) l) = ((∑ j, T h i j * R h j : ℝ) : EReal) := by
  rw [solved, mm_solved]
  refine keep64 h _ _ (fun h' j => T h i j) R (fun h' j => ?_) hr
  exact diag_eq hN ht h i h' j

theorem against_lo {w : FVec Ideal S256x128 .f32} {W : Fin 4 → Fin 64 → Fin 128 → ℝ} (hw : Stack w W) {q : FVec Ideal S64x512 .bf16}
    {e : FVec Ideal S256x1 .f32} {s : FVec Ideal S512x128 .f32} {S : Fin 4 → Fin 128 → Fin 128 → ℝ} (hs : State s S)
    (h : Fin 4) (i : Fin 64) (l : Fin 128) :
    against N w q e s (ix2 (lo256 (at64 h i)) l) = ((∑ c, W h i c * S h c l : ℝ) : EReal) := by
  rw [against, mm_against]
  refine keep128 h _ _ (fun h' c => W h i c) (fun h' c => S h' c l) (fun h' c => ?_) fun h' c => hs h' c l
  rw [rows_512x512_lo]
  have e : ∀ y : FVec Ideal S256x512 .f32, select N.headLanes y (zeros S256x512) (ix2 (at64 h i) (at128 h' c))
      = Scalar.select (N.headLanes (ix2 (at64 h i) (at128 h' c))) (y (ix2 (at64 h i) (at128 h' c)))
        (Ideal.ofBits .f32 0x00000000#32) := fun y => rfl
  rw [e, lanes_256x512, hN.headLanes, hw, Ideal.ofBits_zero_f32]
  by_cases he : h = h'
  · rw [if_pos he, if_pos he, select_one]
  · rw [if_neg he, if_neg he, select_zero]

theorem against_hi {w : FVec Ideal S256x128 .f32} {q : FVec Ideal S64x512 .bf16} {Q : Fin 4 → Fin 64 → Fin 128 → ℝ} (hq : Wide q Q)
    {e : FVec Ideal S256x1 .f32} {E : Fin 4 → Fin 64 → ℝ} (he : Col e E) {s : FVec Ideal S512x128 .f32}
    {S : Fin 4 → Fin 128 → Fin 128 → ℝ} (hs : State s S) (h : Fin 4) (i : Fin 64) (l : Fin 128) :
    against N w q e s (ix2 (hi256 (at64 h i)) l) = ((∑ c, Q h i c * E h i * S h c l : ℝ) : EReal) := by
  rw [against, mm_against]
  refine keep128 h _ _ (fun h' c => Q h i c * E h i) (fun h' c => S h' c l) (fun h' c => ?_) fun h' c => hs h' c l
  rw [rows_512x512_hi]
  pointwise
  rw [wide_eq hN hq, he]
  by_cases hh : h = h'
  · rw [if_pos hh, if_pos hh, EReal.coe_mul]
  · rw [if_neg hh, if_neg hh, zero_mul]

omit hN in
theorem fresh_apply (u : FVec Ideal S256x128 .f32) (ws : FVec Ideal S512x128 .f32) (i : Fin 256) (l : Fin 128) :
    fresh u ws (ix2 i l) = u (ix2 i l) - ws (ix2 (lo256 i) l) := by
  pointwise [fresh]
  exact congrArg (fun z => u (ix2 i l) - ws z) (congrArg₂ ix2 (Fin.ext rfl) (Fin.ext rfl))

omit hN in
theorem outStack_apply {a : FVec Ideal S256x256 .f32} {X : Fin 4 → Delta.M} (ha : Diag a X) (ws : FVec Ideal S512x128 .f32)
    {x : FVec Ideal S256x128 .f32} {U : Fin 4 → Fin 64 → Fin 128 → ℝ} (hx : Stack x U) (h : Fin 4) (i : Fin 64) (l : Fin 128) :
    outStack a ws x (ix2 (at64 h i) l) = ws (ix2 (hi256 (at64 h i)) l) + ((∑ j, X h i j * U h j l : ℝ) : EReal) := by
  have e : outStack a ws x (ix2 (at64 h i) l)
      = extractStridedSlice S256x128 ![256, 0] ws slices_S512x128_o256_0_S256x128 (ix2 (at64 h i) l)
        + matmul dot_S256x256_S256x128_S256x128_1_0_0_1_n_n none (truncf .bf16 a bitsLt_bf16_f32) (truncf .bf16 x bitsLt_bf16_f32)
      (constant S256x128 .f32 0x00000000#32) (ix2 (at64 h i) l) := rfl
  rw [e, mm_out]
  congr 1
  · pointwise
    exact congrArg ws (congrArg₂ ix2 (Fin.ext rfl) (Fin.ext rfl))
  · exact keep64 h _ _ (fun h' j => X h i j) (fun h' j => U h' j l) (fun h' j => ha h i h' j) fun h' j => hx h' j l

omit hN in
theorem outRows_eq {o : FVec Ideal S256x128 .f32} {O : Fin 4 → Fin 64 → Fin 128 → ℝ} (ho : Stack o O) (h : Fin 4) (i : Fin 64)
    (d : Fin 128) : outRows o (ix3 0 i (at128 h d)) = ((O h i d : ℝ) : EReal) := by
  have e : outRows o (ix3 0 i (at128 h d)) = concatenate S64x512 1
      [⟨S64x128, extractStridedSlice S64x128 ![0, 0] o slices_S256x128_o0_0_S64x128⟩,
        ⟨S64x128, extractStridedSlice S64x128 ![64, 0] o slices_S256x128_o64_0_S64x128⟩,
        ⟨S64x128, extractStridedSlice S64x128 ![128, 0] o slices_S256x128_o128_0_S64x128⟩,
        ⟨S64x128, extractStridedSlice S64x128 ![192, 0] o slices_S256x128_o192_0_S64x128⟩]
      concatenates_S64x128_S64x128_S64x128_S64x128_S64x512_d1 (ix2 i (at128 h d)) := by
    unfold outRows
    generalize concatenate S64x512 1 _ _ = y
    pointwise
  rw [e, lanes_64x512, ← ho]
  rcases four h with rfl | rfl | rfl | rfl
  all_goals
    dsimp only [Matrix.cons_val]
    pointwise
    exact congrArg o (congrArg₂ ix2 (Fin.ext (by simp [at64])) (Fin.ext rfl))

theorem stateRows_eq {k : FVec Ideal S64x512 .bf16} {K : Fin 4 → Fin 64 → Fin 128 → ℝ} (hk : Wide k K)
    {gam gl : FVec Ideal S256x1 .f32} {Gm : Fin 4 → Fin 64 → ℝ} {T : Fin 4 → ℝ} (hg : Col gam Gm) (hl : Col gl fun h _ => T h)
    {gls : FVec Ideal S512x1 .f32} (hls : ∀ h c, gls (ix2 (at128 h c) 0) = ((T h : ℝ) : EReal))
    {x : FVec Ideal S256x128 .f32} {U : Fin 4 → Fin 64 → Fin 128 → ℝ} (hx : Stack x U)
    {s : FVec Ideal S512x128 .f32} {S : Fin 4 → Fin 128 → Fin 128 → ℝ} (hs : State s S)
    (h : Fin 4) (c : Fin 128) (l : Fin 128) :
    stateRows N k gam gl gls x s (ix4 0 0 (at128 h c) l)
      = ((S h c l * Real.exp (T h) + ∑ j, K h j c * Real.exp (T h - Gm h j) * U h j l : ℝ) : EReal) := by
  pointwise [stateRows]
  rw [hs, hls, EReal.coe_add, EReal.coe_mul]
  congr 1
  refine keep64 h _ _ (fun h' j => K h' j c * Real.exp (T h' - Gm h' j)) (fun h' j => U h' j l) (fun h' j => ?_) fun h' j => hx h' j l
  rw [wide_eq hN hk, hl, hg, ← EReal.coe_sub]
  by_cases hh : h = h'
  · rw [if_pos hh, if_pos hh.symm, EReal.coe_mul]; rfl
  · rw [if_neg hh, if_neg (Ne.symm hh), zero_mul]

/-! ## A chunk -/

/-- What a chunk's gates give, for the tokens from `n` on, the rows in the order `L`. -/
structure GateVals (A : Fin 4 → Delta.Tokens) (n : ℕ) (L : Fin 64 ≃ Fin 64) (G : Gates Ideal) : Prop where
  strict : ∀ i h j, G.strict (ix2 i (at64 h j)) = if L j < L i then 1#1 else 0#1
  gam : Col G.gam fun h i => Delta.upTo (A h) n L i
  beta : Col G.beta fun h i => (A h).b (n + L i)
  betaCat : Cat G.betaCat fun h i _ => (A h).b (n + L i)
  last : Col G.last fun h _ => Delta.total (A h) n 64
  lastWide : ∀ h c, G.lastWide (ix2 (at128 h c) 0) = ((Delta.total (A h) n 64 : ℝ) : EReal)
  dec : Cat G.dec fun h => Delta.low (A h) n L

section

variable {A : Fin 4 → Delta.Tokens} {n : ℕ} {L : Fin 64 ≃ Fin 64} {G : Gates Ideal} (hG : GateVals A n L G)
  {q k v : FVec Ideal S64x512 .bf16} (hq : Wide q fun h i => (A h).q (n + L i)) (hk : Wide k fun h i => (A h).k (n + L i))
  (hv : Wide v fun h i => (A h).v (n + L i)) {s : FVec Ideal S512x128 .f32} (hs : State s fun h => Delta.state (A h) n)

include hG hq hk hv hs

omit hv hs in
theorem pull_eq : Cat (Chain.pull G.strict (topRows (keyProducts N k q)) G.dec G.betaCat) fun h => Delta.pull (A h) n L := by
  intro h i j
  have e : Chain.pull G.strict (topRows (keyProducts N k q)) G.dec G.betaCat (ix2 i (at64 h j))
      = Ideal.ofBits .f32 0x00000000#32 - Scalar.select (G.strict (ix2 i (at64 h j)))
          (topRows (keyProducts N k q) (ix2 i (at64 h j)) * G.dec (ix2 i (at64 h j)) * G.betaCat (ix2 i (at64 h j)))
          (Ideal.ofBits .f32 0x00000000#32) := rfl
  have e' : Delta.pull (A h) n L i j = 0 - if L j < L i then (∑ c, (A h).k (n + L i) c * (A h).k (n + L j) c)
      * Delta.low (A h) n L i j * (A h).b (n + L i) else 0 := rfl
  show _ = ((Delta.pull (A h) n L i j : ℝ) : EReal)
  rw [e, e', hG.strict, keys_top hN hk hq, hG.dec, hG.betaCat, Ideal.ofBits_zero_f32]
  by_cases hl : L j < L i
  · rw [if_pos hl, if_pos hl, select_one, EReal.coe_sub, EReal.coe_mul, EReal.coe_mul, EReal.coe_zero]
  · rw [if_neg hl, if_neg hl, select_zero, EReal.coe_sub, EReal.coe_zero]

omit hs in
theorem solution_left (h : Fin 4) (i : Fin 64) (d : Fin 128) : leftHalf (solution N G q k v) (ix2 (at64 h i) d)
    = ((∑ j, Delta.inverse (Delta.pull (A h) n L) i j * ((A h).v (n + L j) d * (A h).b (n + L j)) : ℝ) : EReal) := by
  rw [left_apply, solution]
  refine solved_eq hN (inverse_eq hN (pull_eq hN hG hq hk)) _ _ (fun h j => (A h).v (n + L j) d * (A h).b (n + L j)) (fun h j => ?_) h i
  exact sides_left hk hv hG.beta (E := fun h i => Real.exp (Delta.upTo (A h) n L i))
    (fun h i => congrArg Ideal.exp (hG.gam h i)) h j d

omit hs in
theorem solution_right : Stack (rightHalf (solution N G q k v)) fun h i d =>
    ∑ j, Delta.inverse (Delta.pull (A h) n L) i j
      * ((A h).k (n + L j) d * ((A h).b (n + L j) * Real.exp (Delta.upTo (A h) n L j))) := by
  intro h i d
  rw [right_apply, solution]
  refine solved_eq hN (inverse_eq hN (pull_eq hN hG hq hk)) _ _
    (fun h j => (A h).k (n + L j) d * ((A h).b (n + L j) * Real.exp (Delta.upTo (A h) n L j))) (fun h j => ?_) h i
  exact sides_right (e := exp G.gam) hk hv hG.beta (E := fun h i => Real.exp (Delta.upTo (A h) n L i)) (fun h i => congrArg Ideal.exp (hG.gam h i)) h j d

theorem written_eq : Stack (written N G q k v s) fun h => Delta.write (A h) n L (Delta.state (A h) n) := by
  intro h i d
  rw [written, fresh_apply, solution_left hN hG hq hk hv, stateProducts, against_lo hN (solution_right hN hG hq hk hv) hs,
    ← EReal.coe_sub]
  rfl

theorem chunkOut_eq (h : Fin 4) (i : Fin 64) (d : Fin 128) :
    chunkOut N G q k v s (ix3 0 i (at128 h d)) = ((Delta.out (A h) (n + L i) d : ℝ) : EReal) := by
  rw [chunkOut]
  refine outRows_eq (O := fun h i d => Delta.out (A h) (n + L i) d) (fun h i d => ?_) h i d
  have hd : Diag (diag N (mulf (botRows (keyProducts N k q)) G.dec)) fun h i j =>
      (∑ c, (A h).q (n + L i) c * (A h).k (n + L j) c) * Delta.low (A h) n L i j := diag_eq hN fun h i j => by
    have e : mulf (botRows (keyProducts N k q)) G.dec (ix2 i (at64 h j))
      = botRows (keyProducts N k q) (ix2 i (at64 h j)) * G.dec (ix2 i (at64 h j)) := rfl
    rw [e, keys_bot hN hk hq, hG.dec, EReal.coe_mul]
  rw [outStack_apply hd _ (written_eq hN hG hq hk hv hs), stateProducts,
    against_hi hN hq (E := fun h i => Real.exp (Delta.upTo (A h) n L i)) (fun h i => congrArg Ideal.exp (hG.gam h i)) hs,
    ← EReal.coe_add, Delta.chunk_out]

theorem chunkState_eq (h : Fin 4) (c d : Fin 128) :
    chunkState N G q k v s (ix4 0 0 (at128 h c) d) = ((Delta.state (A h) (n + 64) c d : ℝ) : EReal) := by
  rw [chunkState, stateRows_eq hN hk hG.gam hG.last hG.lastWide (written_eq hN hG hq hk hv hs) hs, Delta.chunk_state]

end

end Cert.Proof.Head

end
-- ==== Proof.GateVals.lean ====
/-
  What a chunk's gates give at finite entries: the running sums of the log-gates, their differences' exponentials, and the
  write strengths, in both directions.
-/
module

public import proofs.«01_k».proof.Proof.Mat
public import Idealize.ShloMosaic.Lib.WordCmp

@[expose] public section

set_option maxRecDepth 16384

noncomputable section

open Idealize.ShloMosaic Idealize.ShloMosaic.TcCoe
open Cert.KernelIdeal Cert.KernelIdeal.Gen Cert.KernelIdeal.Chain

namespace Cert.Proof.Head

theorem bool_eq (p : Prop) [Decidable p] : BitVec.ofBool (decide p) = if p then 1#1 else 0#1 := by
  by_cases h : p <;> simp [h]

theorem eq_words (a b : ℕ) (ha : a < 512) (hb : b < 512) :
    IntOp.cmpi .eq (BitVec.ofNat 32 a) (BitVec.ofNat 32 b) = if a = b then 1#1 else 0#1 := by
  rw [WordCmp.cmpi_eq_eq_toNat, bool_eq, BitVec.toNat_ofNat, BitVec.toNat_ofNat, Nat.mod_eq_of_lt (by omega), Nat.mod_eq_of_lt (by omega)]

theorem slt_words (a b : ℕ) (ha : a < 512) (hb : b < 512) :
    IntOp.cmpi .slt (BitVec.ofNat 32 a) (BitVec.ofNat 32 b) = if a < b then 1#1 else 0#1 := by
  rw [WordCmp.cmpi_slt_ofNat (by omega) (by omega), bool_eq]

theorem sle_words (a b : ℕ) (ha : a < 512) (hb : b < 512) :
    IntOp.cmpi .sle (BitVec.ofNat 32 a) (BitVec.ofNat 32 b) = if a ≤ b then 1#1 else 0#1 := by
  rw [WordCmp.cmpi_sle_ofNat (by omega) (by omega), bool_eq]

theorem sgt_words (a b : ℕ) (ha : a < 512) (hb : b < 512) :
    IntOp.cmpi .sgt (BitVec.ofNat 32 a) (BitVec.ofNat 32 b) = if b < a then 1#1 else 0#1 := by
  rw [WordCmp.cmpi_sgt_ofNat (by omega) (by omega), bool_eq]

theorem sge_words (a b : ℕ) (ha : a < 512) (hb : b < 512) :
    IntOp.cmpi .sge (BitVec.ofNat 32 a) (BitVec.ofNat 32 b) = if b ≤ a then 1#1 else 0#1 := by
  rw [WordCmp.cmpi_sge_ofNat (by omega) (by omega), bool_eq]

/-- A mask's number. -/
theorem one_of (p : Prop) [Decidable p] :
    ((FloatOps.sitofp FTy.f32 (BitVec.setWidth 32 (if p then 1#1 else 0#1)) : Ideal FTy.f32) : EReal) = if p then ((1 : ℝ) : EReal) else ((0 : ℝ) : EReal) := by
  by_cases h : p
  · rw [if_pos h, if_pos h]
    show ((((BitVec.setWidth 32 1#1).toInt : ℤ) : ℝ) : EReal) = _
    rw [show (BitVec.setWidth 32 1#1).toInt = 1 from by decide, Int.cast_one]
  · rw [if_neg h, if_neg h]
    show ((((BitVec.setWidth 32 0#1).toInt : ℤ) : ℝ) : EReal) = _
    rw [show (BitVec.setWidth 32 0#1).toInt = 0 from by decide, Int.cast_zero]

theorem three (s : ℝ) (z z' : EReal) (hz : z = 0) (hz' : z' = 0) : ((s : ℝ) : EReal) + z + z' = ((s : ℝ) : EReal) := by
  rw [hz, hz', add_zero, add_zero]

theorem rest_zero (x : ℝ) : ((x : ℝ) : EReal) - ((x : ℝ) : EReal) = 0 := by
  rw [← EReal.coe_sub, sub_self, EReal.coe_zero]

variable {N : Nums Ideal} (hN : Masks N) {L : Fin 64 ≃ Fin 64} {m : IVec S64x64 1}
  (hm : ∀ i j, m (ix2 i j) = if L j ≤ L i then 1#1 else 0#1)

theorem upTo_eq (A : Delta.Tokens) (n : ℕ) (γ : Fin 64 → ℝ) (hγ : ∀ j, γ j = A.g (n + L j)) (i : Fin 64) :
    ∑ j, (if L j ≤ L i then (1 : ℝ) else 0) * γ j = Delta.upTo A n L i := by
  rw [Delta.upTo, Delta.total, ← Delta.sum_order_lt L (fun j => A.g (n + j)) _ (L i).isLt]
  refine Finset.sum_congr rfl fun j _ => ?_
  rw [hγ]
  by_cases h : L j ≤ L i
  · rw [if_pos h, if_pos (show (L j).val < (L i).val + 1 from Nat.lt_succ_of_le h), one_mul]
  · rw [if_neg h, if_neg (show ¬(L j).val < (L i).val + 1 from fun h' => h (Nat.le_of_lt_succ h')), zero_mul]

include hm in
theorem sums_eq (A : Delta.Tokens) (n : ℕ) (g : FVec Ideal S64x128 .f32) (l : Fin 128)
    (hg : ∀ j, g (ix2 j l) = ((A.g (n + L j) : ℝ) : EReal)) (i : Fin 64) :
    sums m g (ix2 i l) = ((Delta.upTo A n L i : ℝ) : EReal) := by
  pointwise [sums, ones, partHi, partMid, partLo, restHi]
  simp only [hm, one_of, hg, rest_zero, sub_zero, mul_zero, Finset.sum_const_zero, add_zero]
  rw [← upTo_eq A n (fun j => A.g (n + L j)) (fun _ => rfl) i, coe_sum]
  refine Finset.sum_congr rfl fun j _ => ?_
  rw [EReal.coe_mul]
  split <;> rfl

theorem mm_rows (x : FVec Ideal S8x64 .bf16) (y : FVec Ideal S256x64 .bf16) (i j) :
    matmul dot_S8x64_S256x64_S8x256_1_1_0_0_n_n none x y
      (constant S8x256 .f32 0x00000000#32) (ix2 i j) = ∑ k, x (ix2 i k) * y (ix2 j k) := by pointwise

theorem gateRows_apply (g : FVec Ideal S64x128 .f32) (r : Fin 8) (i : Fin 64) :
    gateRows g (ix2 r i) = g (ix2 i ⟨r.val, by omega⟩) := by
  pointwise [gateRows]

include hm in
theorem sumRows_eq (A : Delta.Tokens) (n : ℕ) (g : FVec Ideal S64x128 .f32) (r : Fin 8)
    (hg : ∀ j, g (ix2 j ⟨r.val, by omega⟩) = ((A.g (n + L j) : ℝ) : EReal)) (h : Fin 4) (i : Fin 64) :
    sumRows m g (ix2 r (at64 h i)) = ((Delta.upTo A n L i : ℝ) : EReal) := by
  have e : sumRows m g (ix2 r (at64 h i)) = matmul dot_S8x64_S256x64_S8x256_1_1_0_0_n_n none (partHi (gateRows g)) (concatenate S256x64 0 [⟨S64x64, ones m⟩, ⟨S64x64, ones m⟩, ⟨S64x64, ones m⟩, ⟨S64x64, ones m⟩]
    concatenates_S64x64_S64x64_S64x64_S64x64_S256x64_d0) (constant S8x256 .f32 0x00000000#32) (ix2 r (at64 h i))
    + matmul dot_S8x64_S256x64_S8x256_1_1_0_0_n_n none (partMid (gateRows g)) (concatenate S256x64 0 [⟨S64x64, ones m⟩, ⟨S64x64, ones m⟩, ⟨S64x64, ones m⟩, ⟨S64x64, ones m⟩]
    concatenates_S64x64_S64x64_S64x64_S64x64_S256x64_d0) (constant S8x256 .f32 0x00000000#32) (ix2 r (at64 h i))
    + matmul dot_S8x64_S256x64_S8x256_1_1_0_0_n_n none (partLo (gateRows g)) (concatenate S256x64 0 [⟨S64x64, ones m⟩, ⟨S64x64, ones m⟩, ⟨S64x64, ones m⟩, ⟨S64x64, ones m⟩]
    concatenates_S64x64_S64x64_S64x64_S64x64_S256x64_d0) (constant S8x256 .f32 0x00000000#32) (ix2 r (at64 h i)) := rfl
  have eh (j : Fin 64) : partHi (gateRows g) (ix2 r j) = ((A.g (n + L j) : ℝ) : EReal) := (gateRows_apply g r j).trans (hg j)
  have em (j : Fin 64) : partMid (gateRows g) (ix2 r j) = 0 := by
    have : partMid (gateRows g) (ix2 r j) = gateRows g (ix2 r j) - gateRows g (ix2 r j) := rfl
    rw [this, gateRows_apply, hg, rest_zero]
  have el (j : Fin 64) : partLo (gateRows g) (ix2 r j) = 0 := by
    have : partLo (gateRows g) (ix2 r j) = (gateRows g (ix2 r j) - gateRows g (ix2 r j)) - (gateRows g (ix2 r j) - gateRows g (ix2 r j)) := rfl
    rw [this, gateRows_apply, hg, rest_zero, sub_zero]
  have eo (j : Fin 64) : (ones m (ix2 i j) : Ideal FTy.bf16) = if L j ≤ L i then ((1 : ℝ) : EReal) else ((0 : ℝ) : EReal) := by
    have : (ones m (ix2 i j) : Ideal FTy.bf16) = (FloatOps.sitofp FTy.f32 (BitVec.setWidth 32 (m (ix2 i j))) : Ideal FTy.f32) := rfl
    rw [this, hm, one_of]
  rw [e, mm_rows, mm_rows, mm_rows]
  simp only [rows_256x64, eh, em, el, eo, zero_mul, Finset.sum_const_zero, add_zero]
  rw [← upTo_eq A n (fun j => A.g (n + L j)) (fun _ => rfl) i, coe_sum]
  refine Finset.sum_congr rfl fun j _ => ?_
  rw [EReal.coe_mul, mul_comm]
  split <;> rfl

include hN

theorem laneCol_eq (l : Fin 128) (x : FVec Ideal S64x128 .f32) (i : Fin 64) (z : Fin 1) :
    laneCol N (BitVec.ofNat 32 l.val) x (ix2 i z) = x (ix2 i l) := by
  pointwise [laneCol]
  rw [Finset.sum_eq_single l]
  · rw [hN.lane, eq_words _ _ (by omega) (by omega), if_pos rfl, select_one]
  · intro j _ hne
    rw [hN.lane, eq_words _ _ (by omega) (by omega), if_neg (fun e => hne (Fin.ext e)), select_zero]
  · intro hn; exact absurd (Finset.mem_univ l) hn

theorem stackCol_eq (l : Fin 4 → Fin 128) (x : FVec Ideal S64x128 .f32) (h : Fin 4) (i : Fin 64) :
    stackCol N (BitVec.ofNat 32 (l 0).val) (BitVec.ofNat 32 (l 1).val) (BitVec.ofNat 32 (l 2).val) (BitVec.ofNat 32 (l 3).val) x
      (ix2 (at64 h i) 0) = x (ix2 i (l h)) := by
  rw [stackCol, rows_256x1]
  rcases four h with rfl | rfl | rfl | rfl
  all_goals exact laneCol_eq hN _ x i 0

theorem catCol_eq (l : Fin 4 → Fin 128) (x : FVec Ideal S64x128 .f32) (h : Fin 4) (i j : Fin 64) :
    catCol N (BitVec.ofNat 32 (l 0).val) (BitVec.ofNat 32 (l 1).val) (BitVec.ofNat 32 (l 2).val) (BitVec.ofNat 32 (l 3).val) x
      (ix2 i (at64 h j)) = x (ix2 i (l h)) := by
  pointwise [catCol]
  simp only [hN.blkCat, laneCol_eq hN]
  rcases four h with rfl | rfl | rfl | rfl
  all_goals rfl

theorem pickRow_eq (r0 r1 r2 r3 : FVec Ideal S1x256 .f32) (h : Fin 4) (j : Fin 64) :
    pickRow N r0 r1 r2 r3 (ix2 0 (at64 h j)) = (![r0, r1, r2, r3] h) (ix2 0 (at64 h j)) := by
  pointwise [pickRow]
  simp only [hN.laneBlk]
  rcases four h with rfl | rfl | rfl | rfl
  all_goals rfl

omit hN in
theorem lasts_eq (x0 x1 x2 x3 : FVec Ideal S1x1 .f32) (h : Fin 4) (i : Fin 64) :
    lasts x0 x1 x2 x3 (ix2 (at64 h i) 0) = (![x0, x1, x2, x3] h) (ix2 0 0) := by
  rw [lasts, rows_256x1]
  rcases four h with rfl | rfl | rfl | rfl
  all_goals
    dsimp only [Matrix.cons_val]
    pointwise [down64]

omit hN in
theorem lastsWide_eq (x0 x1 x2 x3 : FVec Ideal S1x1 .f32) (h : Fin 4) (c : Fin 128) :
    lastsWide x0 x1 x2 x3 (ix2 (at128 h c) 0) = (![x0, x1, x2, x3] h) (ix2 0 0) := by
  rw [lastsWide, rows_512x1]
  rcases four h with rfl | rfl | rfl | rfl
  all_goals
    dsimp only [Matrix.cons_val]
    pointwise [down128]

omit hN in
theorem decay_eq (A : Fin 4 → Delta.Tokens) (n : ℕ) (mc : IVec S64x256 1)
    (hmc : ∀ i h j, mc (ix2 i (at64 h j)) = if L j ≤ L i then 1#1 else 0#1)
    (gc : FVec Ideal S64x256 .f32) (hgc : ∀ h i j, gc (ix2 i (at64 h j)) = ((Delta.upTo (A h) n L i : ℝ) : EReal))
    (gr : FVec Ideal S1x256 .f32) (hgr : ∀ h j, gr (ix2 0 (at64 h j)) = ((Delta.upTo (A h) n L j : ℝ) : EReal)) :
    Cat (decay mc gc gr) fun h => Delta.low (A h) n L := by
  intro h i j
  pointwise [decay]
  rw [hmc, hgc, hgr, Delta.low]
  by_cases hl : L j ≤ L i
  · rw [if_pos hl, if_pos hl, select_one, select_one, ← EReal.coe_sub]; rfl
  · rw [if_neg hl, if_neg hl, select_zero, EReal.coe_zero]

/-! ## The two directions -/

section

variable (A : Fin 4 → Delta.Tokens) (n : ℕ) (g : FVec Ideal S64x128 .f32)

/-- The lanes of the log-gates of a direction, and those of the write strengths. -/
def gateLane (d : Fin 2) (h : Fin 4) : Fin 128 := ⟨4 * d.val + h.val, by omega⟩
def betaLane (h : Fin 4) : Fin 128 := ⟨8 + h.val, by omega⟩

theorem gates0_eq (hg : ∀ h i, g (ix2 i (gateLane 0 h)) = (((A h).g (n + (Equiv.refl (Fin 64)) i) : ℝ) : EReal))
    (hb : ∀ h i, g (ix2 i (betaLane h)) = (((A h).b (n + (Equiv.refl (Fin 64)) i) : ℝ) : EReal)) :
    GateVals A n (Equiv.refl (Fin 64)) (gates0 N g) := by
  have hm : ∀ i j, cmpi .sle N.col N.row (ix2 i j) = if (Equiv.refl (Fin 64)) j ≤ (Equiv.refl (Fin 64)) i then 1#1 else 0#1 := fun i j => by
    show IntOp.cmpi .sle (N.col (ix2 i j)) (N.row (ix2 i j)) = _
    rw [hN.col, hN.row, sle_words _ _ (by omega) (by omega)]; rfl
  have hgam : Col (gates0 N g).gam fun h i => Delta.upTo (A h) n (Equiv.refl (Fin 64)) i := fun h i =>
    (stackCol_eq hN (gateLane 0) _ h i).trans (sums_eq hm (A h) n g (gateLane 0 h) (hg h) i)
  have hlast : ∀ h, (gates0 N g).gam (ix2 (at64 h 63) 0) = ((Delta.total (A h) n 64 : ℝ) : EReal) := fun h => hgam h 63
  refine ⟨fun i h j => ?_, hgam, fun h i => (stackCol_eq hN betaLane g h i).trans (hb h i),
    fun h i j => (catCol_eq hN betaLane g h i j).trans (hb h i), fun h i => ?_, fun h c => ?_, ?_⟩
  · show IntOp.cmpi .slt (N.colCat (ix2 i (at64 h j))) (N.rowCat (ix2 i (at64 h j))) = _
    rw [hN.colCat, hN.rowCat, slt_words _ _ (by omega) (by omega)]; rfl
  · refine (lasts_eq _ _ _ _ h i).trans (Eq.trans ?_ (hlast h))
    rcases four h with rfl | rfl | rfl | rfl
    all_goals
      dsimp only [Matrix.cons_val, gates0]
      pointwise
      exact congrArg _ (congrArg₂ ix2 (Fin.ext rfl) (Fin.ext rfl))
  · refine (lastsWide_eq _ _ _ _ h c).trans (Eq.trans ?_ (hlast h))
    rcases four h with rfl | rfl | rfl | rfl
    all_goals
      dsimp only [Matrix.cons_val, gates0]
      pointwise
      exact congrArg _ (congrArg₂ ix2 (Fin.ext rfl) (Fin.ext rfl))
  · refine decay_eq A n _ (fun i h j => ?_) _ (fun h i j => (catCol_eq hN (gateLane 0) _ h i j).trans
      (sums_eq hm (A h) n g (gateLane 0 h) (hg h) i)) _ fun h j => ?_
    · show IntOp.cmpi .sle (N.colCat (ix2 i (at64 h j))) (N.rowCat (ix2 i (at64 h j))) = _
      rw [hN.colCat, hN.rowCat, sle_words _ _ (by omega) (by omega)]; rfl
    · rw [pickRow_eq hN]
      refine Eq.trans ?_ (sumRows_eq hm (A h) n g ⟨h.val, by omega⟩ (fun j => Eq.trans (congrArg g (congrArg₂ ix2 rfl
        (Fin.ext (show h.val = 4 * 0 + h.val by omega)))) (hg h j)) h j)
      rcases four h with rfl | rfl | rfl | rfl
      all_goals
        dsimp only [Matrix.cons_val]
        generalize sumRows _ g = y
        pointwise

theorem gates1_eq (hg : ∀ h i, g (ix2 i (gateLane 1 h)) = (((A h).g (n + (Fin.revPerm : Equiv.Perm (Fin 64)) i) : ℝ) : EReal))
    (hb : ∀ h i, g (ix2 i (betaLane h)) = (((A h).b (n + (Fin.revPerm : Equiv.Perm (Fin 64)) i) : ℝ) : EReal)) :
    GateVals A n (Fin.revPerm : Equiv.Perm (Fin 64)) (gates1 N g) := by
  have hr : ∀ i : Fin 64, ((Fin.revPerm : Equiv.Perm (Fin 64)) i).val = 63 - i.val := fun i => by
    rw [Fin.revPerm_apply, Fin.val_rev]; omega
  have hle : ∀ i j : Fin 64, ((Fin.revPerm : Equiv.Perm (Fin 64)) j ≤ (Fin.revPerm : Equiv.Perm (Fin 64)) i) ↔ i.val ≤ j.val := fun i j => by
    rw [Fin.le_def, hr, hr]; omega
  have hlt : ∀ i j : Fin 64, ((Fin.revPerm : Equiv.Perm (Fin 64)) j < (Fin.revPerm : Equiv.Perm (Fin 64)) i) ↔ i.val < j.val := fun i j => by
    rw [Fin.lt_def, hr, hr]; omega
  have hm : ∀ i j, cmpi .sge N.col N.row (ix2 i j)
      = if (Fin.revPerm : Equiv.Perm (Fin 64)) j ≤ (Fin.revPerm : Equiv.Perm (Fin 64)) i then 1#1 else 0#1 := fun i j => by
    show IntOp.cmpi .sge (N.col (ix2 i j)) (N.row (ix2 i j)) = _
    rw [hN.col, hN.row, sge_words _ _ (by omega) (by omega)]
    simp only [hle]
  have hgam : Col (gates1 N g).gam fun h i => Delta.upTo (A h) n (Fin.revPerm : Equiv.Perm (Fin 64)) i := fun h i =>
    (stackCol_eq hN (gateLane 1) _ h i).trans (sums_eq hm (A h) n g (gateLane 1 h) (hg h) i)
  have hlast : ∀ h, (gates1 N g).gam (ix2 (at64 h 0) 0) = ((Delta.total (A h) n 64 : ℝ) : EReal) := fun h => hgam h 0
  refine ⟨fun i h j => ?_, hgam, fun h i => (stackCol_eq hN betaLane g h i).trans (hb h i),
    fun h i j => (catCol_eq hN betaLane g h i j).trans (hb h i), fun h i => ?_, fun h c => ?_, ?_⟩
  · show IntOp.cmpi .sgt (N.colCat (ix2 i (at64 h j))) (N.rowCat (ix2 i (at64 h j))) = _
    rw [hN.colCat, hN.rowCat, sgt_words _ _ (by omega) (by omega)]
    simp only [hlt]
  · refine (lasts_eq _ _ _ _ h i).trans (Eq.trans ?_ (hlast h))
    rcases four h with rfl | rfl | rfl | rfl
    all_goals
      dsimp only [Matrix.cons_val, gates1]
      pointwise
      exact congrArg _ (congrArg₂ ix2 (Fin.ext rfl) (Fin.ext rfl))
  · refine (lastsWide_eq _ _ _ _ h c).trans (Eq.trans ?_ (hlast h))
    rcases four h with rfl | rfl | rfl | rfl
    all_goals
      dsimp only [Matrix.cons_val, gates1]
      pointwise
      exact congrArg _ (congrArg₂ ix2 (Fin.ext rfl) (Fin.ext rfl))
  · refine decay_eq A n _ (fun i h j => ?_) _ (fun h i j => (catCol_eq hN (gateLane 1) _ h i j).trans
      (sums_eq hm (A h) n g (gateLane 1 h) (hg h) i)) _ fun h j => ?_
    · show IntOp.cmpi .sge (N.colCat (ix2 i (at64 h j))) (N.rowCat (ix2 i (at64 h j))) = _
      rw [hN.colCat, hN.rowCat, sge_words _ _ (by omega) (by omega)]
      simp only [hle]
    · rw [pickRow_eq hN]
      refine Eq.trans ?_ (sumRows_eq hm (A h) n g ⟨4 + h.val, by omega⟩ (fun j => Eq.trans (congrArg g (congrArg₂ ix2 rfl
        (Fin.ext (show 4 + h.val = 4 * 1 + h.val by omega)))) (hg h j)) h j)
      rcases four h with rfl | rfl | rfl | rfl
      all_goals
        dsimp only [Matrix.cons_val]
        generalize sumRows _ g = y
        pointwise

end

end Cert.Proof.Head

end
-- ==== Proof.Args.lean ====
/-
  The tokens of the argument arrays, by direction, batch row and head, and what the recurrence makes of them: the two
  result arrays. Finite arguments are real numbers.
-/
module

public import proofs.«01_k».proof.Defs
public import proofs.«01_k».proof.Proof.GateVals

@[expose] public section

set_option maxRecDepth 16384

noncomputable section

open Idealize.ShloMosaic Idealize.ShloMosaic.TcCoe
open Cert.Proof.Head

namespace Cert.Proof.Gdn

/-- The tokens by direction, batch row and head. -/
abbrev Toks := Fin 2 → Fin 4 → Fin 4 → Delta.Tokens

/-- The head a lane belongs to, … -/
def headOf (l : Fin 512) : Fin 4 := ⟨l.val / 128, by omega⟩
/-- … and the lane within it. -/
def laneOf (l : Fin 512) : Fin 128 := ⟨l.val % 128, by omega⟩

theorem at128_of (l : Fin 512) : at128 (headOf l) (laneOf l) = l := Fin.ext (by simp only [at128, headOf, laneOf]; omega)

/-- The row token `t` of a direction lies at. -/
def pos (d : Fin 2) (t : Fin 4096) : Fin 4096 := (![t, ⟨4095 - t.val, by omega⟩] : Fin 2 → Fin 4096) d

/-- The token of a number. -/
def tok (t : ℕ) : Fin 4096 := ⟨t % 4096, by omega⟩

theorem tok_val (t : Fin 4096) : tok t.val = t := Fin.ext (Nat.mod_eq_of_lt t.isLt)

abbrev Wide512 : Shape := ⟨3, ![4, 4096, 512]⟩
abbrev Wide128 : Shape := ⟨3, ![4, 4096, 128]⟩

section
variable (q k v : FVec Ideal Wide512 .bf16) (g : FVec Ideal Wide128 .f32)

/-- The tokens of the arguments. -/
def toks : Toks := fun d b h =>
  { q := fun t e => EReal.toReal (q (ix3 b (pos d (tok t)) (at128 h e)))
    k := fun t e => EReal.toReal (k (ix3 b (pos d (tok t)) (at128 h e)))
    v := fun t e => EReal.toReal (v (ix3 b (pos d (tok t)) (at128 h e)))
    b := fun t => EReal.toReal (g (ix3 b (pos d (tok t)) (betaLane h)))
    g := fun t => EReal.toReal (g (ix3 b (pos d (tok t)) (gateLane d h))) }

/-- The arguments are real numbers: of the gates the twelve lanes that are read. -/
structure Finite : Prop where
  q : ∀ i, ((EReal.toReal (q i) : ℝ) : EReal) = q i
  k : ∀ i, ((EReal.toReal (k i) : ℝ) : EReal) = k i
  v : ∀ i, ((EReal.toReal (v i) : ℝ) : EReal) = v i
  g : ∀ b t (l : Fin 12), ((EReal.toReal (g (ix3 b t ⟨l.val, by omega⟩)) : ℝ) : EReal) = g (ix3 b t ⟨l.val, by omega⟩)

/-- The forward direction's result, … -/
def fwd : FVec Ideal Wide512 .f32 := fun y =>
  ((Delta.out (toks q k v g 0 (y 0) (headOf (y 2))) (y 1).val (laneOf (y 2)) : ℝ) : EReal)
/-- … and the backward direction's, the last row first. -/
def bwd : FVec Ideal Wide512 .f32 := fun y =>
  ((Delta.out (toks q k v g 1 (y 0) (headOf (y 2))) (4095 - (y 1).val) (laneOf (y 2)) : ℝ) : EReal)

variable {q k v g}

theorem Finite.toks_q (H : Finite q k v g) (d b h t e) : (((toks q k v g d b h).q t e : ℝ) : EReal) = q (ix3 b (pos d (tok t)) (at128 h e)) := H.q _
theorem Finite.toks_k (H : Finite q k v g) (d b h t e) : (((toks q k v g d b h).k t e : ℝ) : EReal) = k (ix3 b (pos d (tok t)) (at128 h e)) := H.k _
theorem Finite.toks_v (H : Finite q k v g) (d b h t e) : (((toks q k v g d b h).v t e : ℝ) : EReal) = v (ix3 b (pos d (tok t)) (at128 h e)) := H.v _
theorem Finite.toks_b (H : Finite q k v g) (d b h t) : (((toks q k v g d b h).b t : ℝ) : EReal) = g (ix3 b (pos d (tok t)) (betaLane h)) :=
  H.g b (pos d (tok t)) ⟨8 + h.val, by omega⟩
theorem Finite.toks_g (H : Finite q k v g) (d b h t) : (((toks q k v g d b h).g t : ℝ) : EReal) = g (ix3 b (pos d (tok t)) (gateLane d h)) :=
  H.g b (pos d (tok t)) ⟨4 * d.val + h.val, by omega⟩

end

instance preFinite : Cert.Pre_finite.Facts where
  bitsLt_bf16_f32 := by decide
  bcast_S_S4x4096x512 := by decide
  slices_S4x4096x128_S4x4096x12_0_0_0 := by decide
  bcast_S_S4x4096x12 := by decide

/-- A value whose magnitude is below infinity is a real number. -/
theorem real_of_lt (x : EReal) (h : Ideal.cmp .olt (max x (-x)) (Ideal.ofBits .f32 0x7F800000#32) = 1#1) : ((x.toReal : ℝ) : EReal) = x := by
  have e : Ideal.ofBits .f32 0x7F800000#32 = ⊤ := by simp [Ideal.ofBits, Ideal.ieee]
  rw [e] at h
  have hl : max x (-x) < ⊤ := by
    by_contra hn
    rw [Ideal.cmp] at h
    simp only [hn, decide_false] at h
    exact absurd h (by decide)
  refine EReal.coe_toReal (fun hx => ?_) fun hx => ?_
  · rw [hx] at hl; exact absurd hl (by simp)
  · rw [hx] at hl; exact absurd hl (by simp)

/-- The precondition says so of the arguments. -/
theorem finite_of (q k v : FVec Ideal Wide512 .bf16) (g : FVec Ideal Wide128 .f32)
    (hq : (Cert.Pre_finite.fn (F := Ideal) q k v g).1 = fun _ => 1#1)
    (hk : (Cert.Pre_finite.fn (F := Ideal) q k v g).2.1 = fun _ => 1#1)
    (hv : (Cert.Pre_finite.fn (F := Ideal) q k v g).2.2.1 = fun _ => 1#1)
    (hg : (Cert.Pre_finite.fn (F := Ideal) q k v g).2.2.2 = fun _ => 1#1) : Finite q k v g where
  q i := real_of_lt _ (congrFun hq i)
  k i := real_of_lt _ (congrFun hk i)
  v i := real_of_lt _ (congrFun hv i)
  g b t l := by
    let x : FVec Ideal Cert.Pre_finite.S4x4096x12 .f32 := extractStridedSlice Cert.Pre_finite.S4x4096x12 ![0, 0, 0] g
      Cert.Pre_finite.Facts.slices_S4x4096x128_S4x4096x12_0_0_0
    have e : x (ix3 b t l) = g (ix3 b t ⟨l.val, by omega⟩) := by pointwise [x]
    have h : ((EReal.toReal (x (ix3 b t l)) : ℝ) : EReal) = x (ix3 b t l) := real_of_lt _ (congrFun hg (ix3 b t l))
    rw [e] at h
    exact h

end Cert.Proof.Gdn

end
-- ==== Proof.GdnFrames.lean ====
/-
  The recurrence's frames: the kernel, its ideal and the reference end with their arguments unchanged and every
  semaphore counter at zero. The kernel in the machine's words is its ideal's text, so it runs as the ideal does.
-/
module

public import proofs.«01_k».proof.Defs
public import proofs.«01_k».proof.Proof.GdnFrame
public import proofs.«01_k».proof.Proof.Args
public import proofs.«01_k».proof.Proof.Gen.Kernel
public import proofs.«01_k».proof.Proof.Gen.ReferenceIdeal.Run
public import Idealize.ShloMosaic.Lib.Claim

@[expose] public section

noncomputable section

open Idealize.ShloMosaic Idealize.SL.Sem

namespace Cert.Proof.Gdn

set_option maxRecDepth 100000
set_option maxHeartbeats 4000000

theorem kernelIdeal : Cert.quiescent_KernelIdeal := fun m g _ => Cert.KernelIdeal.Gen.frame m g

theorem reference : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run m g)

/-- At finite arguments too. -/
theorem kernelIdealFinite : Cert.quiescent_KernelIdeal_pre_finite := fun m g _ => Cert.KernelIdeal.Gen.frame m g

theorem referenceFinite : Cert.quiescent_ReferenceIdeal_pre_finite := fun m g _ => reference m g trivial

/-- The body of the kernel is its ideal's, … -/
theorem body : @Cert.Kernel.cc0_gdn_scan Bits _ _ = @Cert.KernelIdeal.cc0_gdn_scan Bits _ _ := by rfl

/-- … so the body table is … -/
theorem table : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) =>
    dsimp only
    rw [body]
    rfl

/-- … and the pipeline's table. -/
theorem defs : Cert.Kernel.defs (F := Bits) = Cert.KernelIdeal.defs (F := Bits) :=
  congrArg (Pipeline.defs Cert.KernelIdeal.pcfgs) table

theorem kernel : Cert.quiescent_Kernel := fun m g _ =>
  (congrArg (fun D => θ_run D (onTc (Cert.Kernel.main (F := Bits))) ⟨m, fun _ => 0, g⟩ _) defs).mpr (Cert.KernelIdeal.Gen.frame (F := Bits) m g)

end Cert.Proof.Gdn

end
-- ==== Proof.NumVals.lean ====
/-
  The index arrays the kernel computes before its loop, and what they hold.
-/
module

public import proofs.«01_k».proof.Proof.Trip
public import proofs.«01_k».proof.Proof.GateVals

@[expose] public section

set_option maxRecDepth 16384

noncomputable section

open Idealize.ShloMosaic Idealize.ShloMosaic.TcCoe
open Cert.KernelIdeal Cert.KernelIdeal.Gen Cert.KernelIdeal.Chain

namespace Cert.Proof.Head

/-- The sign of a word, as the kernel computes it. -/
def signWord (x : BitVec 32) : BitVec 32 := IntOp.subi ((IntOp.cmpi .sgt x 0#32).setWidth 32) ((IntOp.cmpi .slt x 0#32).setWidth 32)

/-- A word over a positive word, rounded down, as the kernel computes it. -/
def divWord (x d : BitVec 32) : BitVec 32 :=
  Scalar.select (IntOp.andi (IntOp.cmpi .ne (signWord x) (signWord d)) (IntOp.cmpi .ne (IntOp.remsi .vector x d) 0#32))
    (IntOp.subi (IntOp.divsi .vector x d) 1#32) (IntOp.divsi .vector x d)

/-- The remainder of a word by a positive word, as the kernel computes it. -/
def modWord (x d : BitVec 32) : BitVec 32 :=
  Scalar.select (IntOp.andi (IntOp.xori (IntOp.cmpi .slt (IntOp.remsi .vector x d) 0#32) (IntOp.cmpi .slt d 0#32)) (IntOp.cmpi .ne (IntOp.remsi .vector x d) 0#32))
    (IntOp.addi (IntOp.remsi .vector x d) d) (IntOp.remsi .vector x d)

theorem div64 : ∀ n : Fin 256, divWord (BitVec.ofNat 32 n.val) 64#32 = BitVec.ofNat 32 (n.val / 64) := by decide +kernel
theorem div128 : ∀ n : Fin 512, divWord (BitVec.ofNat 32 n.val) 128#32 = BitVec.ofNat 32 (n.val / 128) := by decide +kernel
theorem mod64 : ∀ n : Fin 256, modWord (BitVec.ofNat 32 n.val) 64#32 = BitVec.ofNat 32 (n.val % 64) := by decide +kernel

/-- The index arrays. -/
def nums : Nums Ideal := numsOf (iota .tc S64x64 32 [0] iota_S64x64_d0_w32) (iota .tc S64x64 32 [1] iota_S64x64_d1_w32)
  (iota .tc S64x128 32 [1] iota_S64x128_d1_w32)
  (k0_pay437 (iota .tc S256x256 32 [1] iota_S256x256_d1_w32) k0_pay434 64#32 k0_pay435 k0_pay436 (Scalar.extui (Scalar.cmpi .sgt 64#32 0#32)) 0#32)
  (k0_pay442 k0_pay438 (iota .tc S256x512 32 [1] iota_S256x512_d1_w32) 128#32 k0_pay439 k0_pay440 k0_pay441) k0_pay443
  (iota .tc S64x256 32 [0] iota_S64x256_d0_w32) (iota .tc S64x256 32 [1] iota_S64x256_d1_w32)
  (Scalar.select (Scalar.cmpi .eq 64#32 0#32) 1#32 64#32)

/-- An array of words over a positive word, rounded down. -/
def divArr {s : Shape} (x : IVec s 32) (d : BitVec 32) : IVec s 32 :=
  select (andi (cmpi .ne (subi (extui 32 (cmpi .sgt x (broadcast s 0#32)) natLt_1_32) (extui 32 (cmpi .slt x (broadcast s 0#32)) natLt_1_32))
      (broadcast s (Scalar.subi (Scalar.extui (Scalar.cmpi .sgt d 0#32)) (Scalar.extui (Scalar.cmpi .slt d 0#32)))))
    (cmpi .ne (remsi x (broadcast s d)) (broadcast s 0#32)))
    (subi (divsi x (broadcast s d)) (broadcast s 1#32)) (divsi x (broadcast s d))

/-- The remainders of an array of words by a positive word. -/
def modArr (x : IVec S64x256 32) (d : BitVec 32) : IVec S64x256 32 :=
  select (andi (xori (cmpi .slt (remsi x (broadcast S64x256 d)) (broadcast S64x256 0#32))
      (broadcastTo S64x256 (broadcast S64x256 (Scalar.cmpi .slt d 0#32)) broadcasts_S64x256_S64x256))
    (cmpi .ne (remsi x (broadcast S64x256 d)) (broadcast S64x256 0#32)))
    (addi (remsi x (broadcast S64x256 d)) (broadcast S64x256 d)) (remsi x (broadcast S64x256 d))

theorem divArr_apply {s : Shape} (x : IVec s 32) (d : BitVec 32) (i : s.Idx) (w : BitVec 32) (h : x i = w) :
    divArr x d i = divWord w d := by subst h; rfl

theorem modArr_apply (x : IVec S64x256 32) (d : BitVec 32) (i : S64x256.Idx) (w : BitVec 32) (h : x i = w) :
    modArr x d i = modWord w d := by subst h; rfl

theorem iota0 {a b : ℕ} (h) (i : Fin a) (j : Fin b) : iota .tc ⟨2, ![a, b]⟩ 32 [0] h (ix2 i j) = BitVec.ofNat 32 i.val := by
  show BitVec.ofNat 32 (0 * _ + i.val) = _
  rw [zero_mul, zero_add]

theorem iota1 {a b : ℕ} (h) (i : Fin a) (j : Fin b) : iota .tc ⟨2, ![a, b]⟩ 32 [1] h (ix2 i j) = BitVec.ofNat 32 j.val := by
  show BitVec.ofNat 32 (0 * _ + j.val) = _
  rw [zero_mul, zero_add]

theorem same_eq : nums.same = cmpi .eq (divArr (iota .tc S256x256 32 [0] iota_S256x256_d0_w32) 64#32)
    (divArr (iota .tc S256x256 32 [1] iota_S256x256_d1_w32) 64#32) := rfl
theorem headLanes_eq : nums.headLanes = cmpi .eq (divArr (iota .tc S256x512 32 [0] iota_S256x512_d0_w32) 64#32)
    (divArr (iota .tc S256x512 32 [1] iota_S256x512_d1_w32) 128#32) := rfl
theorem laneBlk_eq : nums.laneBlk = divArr (iota .tc S1x256 32 [1] iota_S1x256_d1_w32) 64#32 := rfl
theorem colCat_eq : nums.colCat = modArr (iota .tc S64x256 32 [1] iota_S64x256_d1_w32) (Scalar.select (Scalar.cmpi .eq 64#32 0#32) 1#32 64#32) := rfl
theorem blkCat_eq : nums.blkCat = divArr (iota .tc S64x256 32 [1] iota_S64x256_d1_w32) 64#32 := rfl
theorem eyeArr_eq : nums.eye = (sitofp .f32 (extui 32 (cmpi .eq nums.colCat nums.rowCat) natLt_1_32) : FVec Ideal S64x256 .f32) := rfl

theorem colCat_apply (i : Fin 64) (h : Fin 4) (j : Fin 64) : nums.colCat (ix2 i (at64 h j)) = BitVec.ofNat 32 j.val := by
  rw [colCat_eq, show (Scalar.select (Scalar.cmpi .eq 64#32 0#32) 1#32 64#32) = 64#32 by decide,
    modArr_apply _ _ _ _ (iota1 iota_S64x256_d1_w32 i (at64 h j)), mod64, show (at64 h j).val % 64 = j.val by simp only [at64]; omega]

theorem masks : Masks nums where
  row i j := iota0 iota_S64x64_d0_w32 i j
  col i j := iota1 iota_S64x64_d1_w32 i j
  lane i j := iota1 iota_S64x128_d1_w32 i j
  same h i h' j := by
    rw [same_eq]
    show IntOp.cmpi .eq (divArr _ _ _) (divArr _ _ _) = _
    rw [divArr_apply _ _ _ _ (iota0 _ (at64 h i) (at64 h' j)), divArr_apply _ _ _ _ (iota1 _ (at64 h i) (at64 h' j)), div64, div64,
      eq_words _ _ (by omega) (by omega)]
    rw [show (at64 h i).val / 64 = h.val by simp only [at64]; omega, show (at64 h' j).val / 64 = h'.val by simp only [at64]; omega]
    simp only [Fin.ext_iff]
  headLanes h i h' d := by
    rw [headLanes_eq]
    show IntOp.cmpi .eq (divArr _ _ _) (divArr _ _ _) = _
    rw [divArr_apply _ _ _ _ (iota0 _ (at64 h i) (at128 h' d)), divArr_apply _ _ _ _ (iota1 _ (at64 h i) (at128 h' d)), div64, div128,
      eq_words _ _ (by omega) (by omega)]
    rw [show (at64 h i).val / 64 = h.val by simp only [at64]; omega, show (at128 h' d).val / 128 = h'.val by simp only [at128]; omega]
    simp only [Fin.ext_iff]
  laneBlk z h j := by
    rw [laneBlk_eq, divArr_apply _ _ _ _ (iota1 _ z (at64 h j)), div64, show (at64 h j).val / 64 = h.val by simp only [at64]; omega]
  rowCat i j := iota0 iota_S64x256_d0_w32 i j
  colCat := colCat_apply
  blkCat i h j := by
    rw [blkCat_eq, divArr_apply _ _ _ _ (iota1 _ i (at64 h j)), div64, show (at64 h j).val / 64 = h.val by simp only [at64]; omega]
  eye i h j := by
    rw [eyeArr_eq]
    show (FloatOps.sitofp FTy.f32 (BitVec.setWidth 32 (IntOp.cmpi .eq (nums.colCat (ix2 i (at64 h j))) (nums.rowCat (ix2 i (at64 h j))))) : Ideal FTy.f32) = _
    rw [colCat_apply, show nums.rowCat (ix2 i (at64 h j)) = BitVec.ofNat 32 i.val from iota0 iota_S64x256_d0_w32 i (at64 h j), eq_words _ _ (by omega) (by omega), one_of]
    simp only [← Fin.ext_iff, EReal.coe_one, EReal.coe_zero]

end Cert.Proof.Head

end
-- ==== Proof.GdnPoint.lean ====
/-
  One point of the recurrence's kernel at finite blocks: the two outputs are the recurrence's, and the carried states are
  the recurrence's states 128 tokens on.
-/
module

public import proofs.«01_k».proof.Proof.NumVals
public import proofs.«01_k».proof.Proof.Args
public import proofs.«01_k».proof.Proof.GdnFrame

@[expose] public section

set_option maxRecDepth 16384

noncomputable section

open Idealize.ShloMosaic Idealize.ShloMosaic.TcCoe
open Cert.KernelIdeal Cert.KernelIdeal.Gen Cert.KernelIdeal.Chain Cert.Proof.Head

namespace Cert.Proof.Gdn

/-- The order of a chunk's rows in time: the backward direction runs from the last row to the first. -/
def ord (d : Fin 2) : Equiv.Perm (Fin 64) := (![Equiv.refl _, Fin.revPerm] : Fin 2 → Equiv.Perm (Fin 64)) d

/-- The chunks hold the sixty-four tokens from `n` on. -/
structure Reads (C : Chunks Ideal) (A : Toks) (n : ℕ) : Prop where
  q : ∀ b d, Wide (C b d).q fun h i => (A d b h).q (n + ord d i)
  k : ∀ b d, Wide (C b d).k fun h i => (A d b h).k (n + ord d i)
  v : ∀ b d, Wide (C b d).v fun h i => (A d b h).v (n + ord d i)
  g : ∀ b d h i, (C b d).gates (ix2 i (gateLane d h)) = (((A d b h).g (n + ord d i) : ℝ) : EReal)
  b : ∀ b d h i, (C b d).gates (ix2 i (betaLane h)) = (((A d b h).b (n + ord d i) : ℝ) : EReal)

/-- The slabs hold the states before token `n`. -/
def Holds (S : Slabs Ideal) (A : Toks) (n : ℕ) : Prop := ∀ b d, State (flatS (S b d)) fun h => Delta.state (A d b h) n

section
variable {C : Chunks Ideal} {S : Slabs Ideal} {A : Toks} {n : ℕ}

theorem gateVals (H : Reads C A n) (b : Fin 4) (d : Fin 2) : GateVals (A d b) n (ord d) (gatesOf nums d (C b d).gates) := by
  match d with
  | 0 => exact gates0_eq masks (A 0 b) n (C b 0).gates (H.g b 0) (H.b b 0)
  | 1 => exact gates1_eq masks (A 1 b) n (C b 1).gates (H.g b 1) (H.b b 1)

theorem out_eq (H : Reads C A n) (hS : Holds S A n) (b : Fin 4) (d : Fin 2) (h : Fin 4) (i : Fin 64) (e : Fin 128) :
    outOf nums C S b d (ix3 0 i (at128 h e)) = ((Delta.out (A d b h) (n + ord d i) e : ℝ) : EReal) :=
  chunkOut_eq masks (gateVals H b d) (H.q b d) (H.k b d) (H.v b d) (hS b d) h i e

theorem flatS_apply (x : Vec Ideal S1x1x512x128 .f32) (r : Fin 512) (e : Fin 128) : flatS x (ix2 r e) = x (ix4 0 0 r e) := by
  pointwise

theorem next_holds (H : Reads C A n) (hS : Holds S A n) : Holds (nextOf nums C S) A (n + 64) := fun b d h c e =>
  (flatS_apply _ _ _).trans (chunkState_eq masks (gateVals H b d) (H.q b d) (H.k b d) (H.v b d) (hS b d) h c e)

end

/-- The forward block's outputs from token `n` on, … -/
def outF (A : Toks) (n : ℕ) (y : S4x128x512.Idx) : EReal :=
  ((Delta.out (A 0 (y 0) (headOf (y 2))) (n + (y 1).val) (laneOf (y 2)) : ℝ) : EReal)
/-- … and the backward block's, last row first. -/
def outB (A : Toks) (n : ℕ) (y : S4x128x512.Idx) : EReal :=
  ((Delta.out (A 1 (y 0) (headOf (y 2))) (n + (127 - (y 1).val)) (laneOf (y 2)) : ℝ) : EReal)

theorem offF_eq : ∀ b k, offF b k = ![b.val, 64 * k.val, 0] := by decide +kernel
theorem offB_eq : ∀ b k, offB b k = ![b.val, 64 * (1 - k.val), 0] := by decide +kernel
theorem offFG_eq : ∀ b k, offFG b k = ![b.val, 64 * k.val, 0] := by decide +kernel
theorem offBG_eq : ∀ b k, offBG b k = ![b.val, 64 * (1 - k.val), 0] := by decide +kernel
theorem trips_eq : k0_t1_loop.trips = 2 := by decide +kernel

theorem rectF_emb (b : Fin 4) (k : Fin k0_t1_loop.trips) (z : Fin 1) (i : Fin 64) (l : Fin 512) (R : Fin 128) (hR : R.val = 64 * k.val + i.val) :
    (rectF b k).emb (show (rectF b k).shape.Idx from (ix3 z i l : S1x64x512.Idx)) = (ix3 b R l : S4x128x512.Idx) := by
  funext a; apply Fin.ext
  have e := offF_eq b k
  match a with
  | ⟨0, _⟩ => show offF b k 0 + 1 * z.val = b.val; rw [e]; show b.val + 1 * z.val = b.val; omega
  | ⟨1, _⟩ => show offF b k 1 + 1 * i.val = R.val; rw [e]; show 64 * k.val + 1 * i.val = R.val; omega
  | ⟨2, _⟩ => show offF b k 2 + 1 * l.val = l.val; rw [e]; show 0 + 1 * l.val = l.val; omega

theorem rectB_emb (b : Fin 4) (k : Fin k0_t1_loop.trips) (z : Fin 1) (i : Fin 64) (l : Fin 512) (R : Fin 128) (hR : R.val = 64 * (1 - k.val) + i.val) :
    (rectB b k).emb (show (rectB b k).shape.Idx from (ix3 z i l : S1x64x512.Idx)) = (ix3 b R l : S4x128x512.Idx) := by
  funext a; apply Fin.ext
  have e := offB_eq b k
  match a with
  | ⟨0, _⟩ => show offB b k 0 + 1 * z.val = b.val; rw [e]; show b.val + 1 * z.val = b.val; omega
  | ⟨1, _⟩ => show offB b k 1 + 1 * i.val = R.val; rw [e]; show 64 * (1 - k.val) + 1 * i.val = R.val; omega
  | ⟨2, _⟩ => show offB b k 2 + 1 * l.val = l.val; rw [e]; show 0 + 1 * l.val = l.val; omega

theorem rectFG_emb (b : Fin 4) (k : Fin k0_t1_loop.trips) (z : Fin 1) (i : Fin 64) (l : Fin 128) (R : Fin 128) (hR : R.val = 64 * k.val + i.val) :
    (rectFG b k).emb (show (rectFG b k).shape.Idx from (ix3 z i l : S1x64x128.Idx)) = (ix3 b R l : S4x128x128.Idx) := by
  funext a; apply Fin.ext
  have e := offFG_eq b k
  match a with
  | ⟨0, _⟩ => show offFG b k 0 + 1 * z.val = b.val; rw [e]; show b.val + 1 * z.val = b.val; omega
  | ⟨1, _⟩ => show offFG b k 1 + 1 * i.val = R.val; rw [e]; show 64 * k.val + 1 * i.val = R.val; omega
  | ⟨2, _⟩ => show offFG b k 2 + 1 * l.val = l.val; rw [e]; show 0 + 1 * l.val = l.val; omega

theorem rectBG_emb (b : Fin 4) (k : Fin k0_t1_loop.trips) (z : Fin 1) (i : Fin 64) (l : Fin 128) (R : Fin 128) (hR : R.val = 64 * (1 - k.val) + i.val) :
    (rectBG b k).emb (show (rectBG b k).shape.Idx from (ix3 z i l : S1x64x128.Idx)) = (ix3 b R l : S4x128x128.Idx) := by
  funext a; apply Fin.ext
  have e := offBG_eq b k
  match a with
  | ⟨0, _⟩ => show offBG b k 0 + 1 * z.val = b.val; rw [e]; show b.val + 1 * z.val = b.val; omega
  | ⟨1, _⟩ => show offBG b k 1 + 1 * i.val = R.val; rw [e]; show 64 * (1 - k.val) + 1 * i.val = R.val; omega
  | ⟨2, _⟩ => show offBG b k 2 + 1 * l.val = l.val; rw [e]; show 0 + 1 * l.val = l.val; omega

theorem rectS_emb (b : Fin 4) (d : Fin 2) (z z' : Fin 1) (r : Fin 512) (l : Fin 128) :
    (rectS b d).emb (show (rectS b d).shape.Idx from (ix4 z z' r l : S1x1x512x128.Idx)) = (ix4 b d r l : S4x2x512x128.Idx) := by
  funext a; apply Fin.ext
  match a with
  | ⟨0, _⟩ => show b.val + 1 * z.val = b.val; omega
  | ⟨1, _⟩ => show d.val + 1 * z'.val = d.val; omega
  | ⟨2, _⟩ => show 0 + 1 * r.val = r.val; omega
  | ⟨3, _⟩ => show 0 + 1 * l.val = l.val; omega

/-- Pieces that agree with one function, read back where they cover, read that function. -/
theorem read_pieces {s : Shape} {e : EltTy} (v : View sig .tc .vmem s e) (f : v.ty.Contents (Elt Ideal)) (g : s.Idx → Elt Ideal e) (y : s.Idx) :
    ∀ L : List (View.Piece (Elt Ideal) s e), (∀ p ∈ L, ∀ x : p.1.shape.Idx, p.2 x = g (p.1.emb x)) → (∃ p ∈ L, y ∈ p.1.set) →
      v.read (Elt Ideal) (v.writes (Elt Ideal) f L) y = g y
  | [], _, h => by obtain ⟨_, hm, _⟩ := h; exact absurd hm List.not_mem_nil
  | p :: L, hP, h => by
    by_cases hy : y ∈ p.1.set
    · obtain ⟨x, rfl⟩ : ∃ x, p.1.emb x = y := p.1.exists_idx_of_mem hy
      rw [View.read_writes_cons_emb]
      exact hP p List.mem_cons_self x
    · have hy' : y ∉ Finset.univ.map p.1.emb := by rwa [Rect.map_emb_univ]
      rw [View.writes_cons, View.read_slice_write_of_not_mem p.1 _ _ _ hy']
      refine read_pieces v f g y L (fun q hq => hP q (List.mem_cons_of_mem _ hq)) ?_
      obtain ⟨q, hq, hyq⟩ := h
      rcases List.mem_cons.mp hq with rfl | hq'
      · exact absurd hyq hy
      · exact ⟨q, hq', hyq⟩

section
variable {C : Chunks Ideal} {S : Slabs Ideal} {A : Toks} {m n : ℕ}

theorem pieceF (k : Fin k0_t1_loop.trips) (hn : n = m + 64 * k.val) (H : Reads C A n) (hS : Holds S A n) (b : Fin 4) (x : S1x64x512.Idx) :
    outOf nums C S b 0 x = outF A m ((rectF b k).emb (show (rectF b k).shape.Idx from x)) := by
  have hk : k.val < 2 := lt_of_lt_of_eq k.isLt trips_eq
  obtain ⟨z, i, l, rfl⟩ : ∃ (z : Fin 1) (i : Fin 64) (l : Fin 512), x = ix3 z i l := ⟨x 0, x 1, x 2, eq_ix3 x⟩
  rw [rectF_emb b k z i l ⟨64 * k.val + i.val, by omega⟩ rfl]
  have e := out_eq H hS b 0 (headOf l) i (laneOf l)
  rw [at128_of] at e
  rw [show z = 0 from Subsingleton.elim _ _, e]
  show _ = ((Delta.out (A 0 b (headOf l)) (m + (64 * k.val + i.val)) (laneOf l) : ℝ) : EReal)
  rw [hn, ← Nat.add_assoc]
  rfl

theorem pieceB (k : Fin k0_t1_loop.trips) (hn : n = m + 64 * k.val) (H : Reads C A n) (hS : Holds S A n) (b : Fin 4) (x : S1x64x512.Idx) :
    outOf nums C S b 1 x = outB A m ((rectB b k).emb (show (rectB b k).shape.Idx from x)) := by
  have hk : k.val < 2 := lt_of_lt_of_eq k.isLt trips_eq
  obtain ⟨z, i, l, rfl⟩ : ∃ (z : Fin 1) (i : Fin 64) (l : Fin 512), x = ix3 z i l := ⟨x 0, x 1, x 2, eq_ix3 x⟩
  rw [rectB_emb b k z i l ⟨64 * (1 - k.val) + i.val, by omega⟩ rfl]
  have e := out_eq H hS b 1 (headOf l) i (laneOf l)
  rw [at128_of] at e
  rw [show z = 0 from Subsingleton.elim _ _, e]
  show ((Delta.out (A 1 b (headOf l)) (n + (ord 1 i).val) (laneOf l) : ℝ) : EReal)
    = ((Delta.out (A 1 b (headOf l)) (m + (127 - (64 * (1 - k.val) + i.val))) (laneOf l) : ℝ) : EReal)
  have ho : (ord 1 i).val = 63 - i.val := by
    show ((Fin.revPerm : Equiv.Perm (Fin 64)) i).val = _
    rw [Fin.revPerm_apply, Fin.val_rev]; omega
  rw [hn, ho, show m + 64 * k.val + (63 - i.val) = m + (127 - (64 * (1 - k.val) + i.val)) by omega]

theorem piecesF_agree (k : Fin k0_t1_loop.trips) (hn : n = m + 64 * k.val) (H : Reads C A n) (hS : Holds S A n) :
    ∀ p ∈ piecesF nums C S k, ∀ x : p.1.shape.Idx, p.2 x = outF A m (p.1.emb x) := by
  intro p hp
  simp only [piecesF, List.mem_cons, List.not_mem_nil, or_false] at hp
  rcases hp with rfl | rfl | rfl | rfl
  · exact pieceF k hn H hS 3
  · exact pieceF k hn H hS 2
  · exact pieceF k hn H hS 1
  · exact pieceF k hn H hS 0

theorem piecesB_agree (k : Fin k0_t1_loop.trips) (hn : n = m + 64 * k.val) (H : Reads C A n) (hS : Holds S A n) :
    ∀ p ∈ piecesB nums C S k, ∀ x : p.1.shape.Idx, p.2 x = outB A m (p.1.emb x) := by
  intro p hp
  simp only [piecesB, List.mem_cons, List.not_mem_nil, or_false] at hp
  rcases hp with rfl | rfl | rfl | rfl
  · exact pieceB k hn H hS 3
  · exact pieceB k hn H hS 2
  · exact pieceB k hn H hS 1
  · exact pieceB k hn H hS 0

end

section
variable {C : Fin k0_t1_loop.trips → Chunks Ideal} {S : Slabs Ideal} {A : Toks} {n : ℕ}

theorem blockF_agree (H : ∀ k, Reads (C k) A (n + 64 * k.val)) (hS : Holds S A n) :
    ∀ p ∈ blockF nums C S, ∀ x : p.1.shape.Idx, p.2 x = outF A n (p.1.emb x) := by
  intro p hp
  have h0 : Reads (C trip0) A n := H trip0
  rcases List.mem_append.mp hp with hp | hp
  · exact piecesF_agree trip1 rfl (H trip1) (next_holds h0 hS) p hp
  · exact piecesF_agree trip0 rfl (H trip0) hS p hp

theorem blockB_agree (H : ∀ k, Reads (C k) A (n + 64 * k.val)) (hS : Holds S A n) :
    ∀ p ∈ blockB nums C S, ∀ x : p.1.shape.Idx, p.2 x = outB A n (p.1.emb x) := by
  intro p hp
  have h0 : Reads (C trip0) A n := H trip0
  rcases List.mem_append.mp hp with hp | hp
  · exact piecesB_agree trip1 rfl (H trip1) (next_holds h0 hS) p hp
  · exact piecesB_agree trip0 rfl (H trip0) hS p hp

/-- A scratch buffer holding the states before token `n`. -/
def HoldsX (x : Vec Ideal S4x2x512x128 .f32) (A : Toks) (n : ℕ) : Prop :=
  ∀ b d h c e, x (ix4 b d (at128 h c) e) = ((Delta.state (A d b h) n c e : ℝ) : EReal)

theorem slabs_apply (M : Memref sig .tc .vmem S4x2x512x128 .f32) (f : BufTy.Contents (Elt Ideal) M.view.ty) (b : Fin 4) (d : Fin 2) (r : Fin 512) (e : Fin 128) :
    slabs M f b d (ix4 0 0 r e) = M.view.read (Elt Ideal) f (ix4 b d r e) :=
  congrArg (M.view.read (Elt Ideal) f) (rectS_emb b d 0 0 r e)

theorem holds_of (M : Memref sig .tc .vmem S4x2x512x128 .f32) (f : BufTy.Contents (Elt Ideal) M.view.ty)
    (h : HoldsX (M.view.read (Elt Ideal) f) A n) : Holds (slabs M f) A n := fun b d h' c e =>
  (flatS_apply _ _ _).trans ((slabs_apply M f b d _ e).trans (h b d h' c e))

theorem holdsX_of (M : Memref sig .tc .vmem S4x2x512x128 .f32) (f : BufTy.Contents (Elt Ideal) M.view.ty)
    (h : Holds (slabs M f) A n) : HoldsX (M.view.read (Elt Ideal) f) A n := fun b d h' c e =>
  (slabs_apply M f b d _ e).symm.trans ((flatS_apply _ _ _).symm.trans (h b d h' c e))

theorem blockS_holds (M : Memref sig .tc .vmem S4x2x512x128 .f32) (f : BufTy.Contents (Elt Ideal) M.view.ty) (L)
    (H : ∀ k, Reads (C k) A (n + 64 * k.val)) (hS : Holds S A n) :
    HoldsX (M.view.read (Elt Ideal) (M.view.writes (Elt Ideal) f (blockS nums C S ++ L))) A (n + 128) := by
  refine holdsX_of M _ ?_
  have h0 : Reads (C trip0) A n := H trip0
  have e : slabs M (M.view.writes (Elt Ideal) f (blockS nums C S ++ L)) = nextOf nums (C trip1) (nextOf nums (C trip0) S) := by
    rw [blockS, List.append_assoc, View.writes_append, slabs_writes]
  rw [e]
  exact next_holds (n := n + 64) (H trip1) (next_holds h0 hS)

theorem zero_holds (M : Memref sig .tc .vmem S4x2x512x128 .f32) (f : BufTy.Contents (Elt Ideal) M.view.ty) :
    Holds (slabs M (M.view.writes (Elt Ideal) f
      [⟨Rect.unit ![0, 0, 0, 0] S4x2x512x128.size inb_S4x2x512x128_S4x2x512x128_0_0_0_0, (k0_pay433 : FVec Ideal S4x2x512x128 .f32)⟩])) A 0 := by
  refine holds_of M _ fun b d h c e => ?_
  refine (read_pieces M.view f (fun _ => Ideal.ofBits .f32 0x00000000#32) (ix4 b d (at128 h c) e) _ (fun p hp x => ?_) ?_).trans
    (Ideal.ofBits_zero_f32.trans EReal.coe_zero.symm)
  · rw [List.mem_singleton] at hp
    subst hp
    rfl
  · refine ⟨_, List.mem_singleton_self _, ?_⟩
    rw [Rect.mem_set_unit]
    intro a
    refine ⟨?_, ?_⟩
    · match a with
      | ⟨0, _⟩ => exact Nat.zero_le _
      | ⟨1, _⟩ => exact Nat.zero_le _
      | ⟨2, _⟩ => exact Nat.zero_le _
      | ⟨3, _⟩ => exact Nat.zero_le _
    · match a with
      | ⟨0, _⟩ => show b.val < 0 + 4; omega
      | ⟨1, _⟩ => show d.val < 0 + 2; omega
      | ⟨2, _⟩ => show (at128 h c).val < 0 + 512; omega
      | ⟨3, _⟩ => show e.val < 0 + 128; omega

end

/-- The eight blocks hold the 128 tokens from `n` on. -/
structure Blocks (x0 : Vec Ideal S4x128x512 .bf16) (x1 : Vec Ideal S4x128x512 .bf16) (x2 : Vec Ideal S4x128x512 .bf16) (x3 : Vec Ideal S4x128x128 .f32) (x4 : Vec Ideal S4x128x512 .bf16) (x5 : Vec Ideal S4x128x512 .bf16) (x6 : Vec Ideal S4x128x512 .bf16) (x7 : Vec Ideal S4x128x128 .f32) (A : Toks) (n : ℕ) : Prop where
  q0 : ∀ (b : Fin 4) (r : Fin 128) h e, x0 (ix3 b r (at128 h e)) = (((A 0 b h).q (n + r.val) e : ℝ) : EReal)
  k0 : ∀ (b : Fin 4) (r : Fin 128) h e, x1 (ix3 b r (at128 h e)) = (((A 0 b h).k (n + r.val) e : ℝ) : EReal)
  v0 : ∀ (b : Fin 4) (r : Fin 128) h e, x2 (ix3 b r (at128 h e)) = (((A 0 b h).v (n + r.val) e : ℝ) : EReal)
  g0 : ∀ (b : Fin 4) (r : Fin 128) h, x3 (ix3 b r (gateLane 0 h)) = (((A 0 b h).g (n + r.val) : ℝ) : EReal)
  b0 : ∀ (b : Fin 4) (r : Fin 128) h, x3 (ix3 b r (betaLane h)) = (((A 0 b h).b (n + r.val) : ℝ) : EReal)
  q1 : ∀ (b : Fin 4) (r : Fin 128) h e, x4 (ix3 b r (at128 h e)) = (((A 1 b h).q (n + (127 - r.val)) e : ℝ) : EReal)
  k1 : ∀ (b : Fin 4) (r : Fin 128) h e, x5 (ix3 b r (at128 h e)) = (((A 1 b h).k (n + (127 - r.val)) e : ℝ) : EReal)
  v1 : ∀ (b : Fin 4) (r : Fin 128) h e, x6 (ix3 b r (at128 h e)) = (((A 1 b h).v (n + (127 - r.val)) e : ℝ) : EReal)
  g1 : ∀ (b : Fin 4) (r : Fin 128) h, x7 (ix3 b r (gateLane 1 h)) = (((A 1 b h).g (n + (127 - r.val)) : ℝ) : EReal)
  b1 : ∀ (b : Fin 4) (r : Fin 128) h, x7 (ix3 b r (betaLane h)) = (((A 1 b h).b (n + (127 - r.val)) : ℝ) : EReal)

theorem flat_apply (x : Vec Ideal S1x64x512 .bf16) (i : Fin 64) (l : Fin 512) : flat x (ix2 i l) = x (ix3 0 i l) := by
  pointwise
theorem flatG_apply (x : Vec Ideal S1x64x128 .f32) (i : Fin 64) (l : Fin 128) : flatG x (ix2 i l) = x (ix3 0 i l) := by
  pointwise

theorem readF (M : Memref sig .tc .vmem S4x128x512 .bf16) (hM : M.IsWhole) (x : Vec Ideal S4x128x512 .bf16) (b : Fin 4)
    (k : Fin k0_t1_loop.trips) (i : Fin 64) (l : Fin 512) (R : Fin 128) (hR : R.val = 64 * k.val + i.val) :
    flat (View.readAt (Elt Ideal) M.view (rectF b k).toLoadRect (hM.unread x)) (ix2 i l) = x (ix3 b R l) := by
  refine (flat_apply _ i l).trans ((congrArg (M.view.read (Elt Ideal) (hM.unread x)) (rectF_emb b k 0 i l R hR)).trans ?_)
  rw [hM.read_unread]
theorem readB (M : Memref sig .tc .vmem S4x128x512 .bf16) (hM : M.IsWhole) (x : Vec Ideal S4x128x512 .bf16) (b : Fin 4)
    (k : Fin k0_t1_loop.trips) (i : Fin 64) (l : Fin 512) (R : Fin 128) (hR : R.val = 64 * (1 - k.val) + i.val) :
    flat (View.readAt (Elt Ideal) M.view (rectB b k).toLoadRect (hM.unread x)) (ix2 i l) = x (ix3 b R l) := by
  refine (flat_apply _ i l).trans ((congrArg (M.view.read (Elt Ideal) (hM.unread x)) (rectB_emb b k 0 i l R hR)).trans ?_)
  rw [hM.read_unread]
theorem readFG (M : Memref sig .tc .vmem S4x128x128 .f32) (hM : M.IsWhole) (x : Vec Ideal S4x128x128 .f32) (b : Fin 4)
    (k : Fin k0_t1_loop.trips) (i : Fin 64) (l : Fin 128) (R : Fin 128) (hR : R.val = 64 * k.val + i.val) :
    flatG (View.readAt (Elt Ideal) M.view (rectFG b k).toLoadRect (hM.unread x)) (ix2 i l) = x (ix3 b R l) := by
  refine (flatG_apply _ i l).trans ((congrArg (M.view.read (Elt Ideal) (hM.unread x)) (rectFG_emb b k 0 i l R hR)).trans ?_)
  rw [hM.read_unread]
theorem readBG (M : Memref sig .tc .vmem S4x128x128 .f32) (hM : M.IsWhole) (x : Vec Ideal S4x128x128 .f32) (b : Fin 4)
    (k : Fin k0_t1_loop.trips) (i : Fin 64) (l : Fin 128) (R : Fin 128) (hR : R.val = 64 * (1 - k.val) + i.val) :
    flatG (View.readAt (Elt Ideal) M.view (rectBG b k).toLoadRect (hM.unread x)) (ix2 i l) = x (ix3 b R l) := by
  refine (flatG_apply _ i l).trans ((congrArg (M.view.read (Elt Ideal) (hM.unread x)) (rectBG_emb b k 0 i l R hR)).trans ?_)
  rw [hM.read_unread]

section
variable (arg2 : Memref sig .tc .vmem S4x128x512 .bf16) (harg2 : arg2.IsWhole) (arg3 : Memref sig .tc .vmem S4x128x512 .bf16) (harg3 : arg3.IsWhole) (arg4 : Memref sig .tc .vmem S4x128x512 .bf16) (harg4 : arg4.IsWhole) (arg5 : Memref sig .tc .vmem S4x128x128 .f32) (harg5 : arg5.IsWhole) (arg6 : Memref sig .tc .vmem S4x128x512 .bf16) (harg6 : arg6.IsWhole) (arg7 : Memref sig .tc .vmem S4x128x512 .bf16) (harg7 : arg7.IsWhole) (arg8 : Memref sig .tc .vmem S4x128x512 .bf16) (harg8 : arg8.IsWhole) (arg9 : Memref sig .tc .vmem S4x128x128 .f32) (harg9 : arg9.IsWhole) (arg10 : Memref sig .tc .vmem S4x128x512 .f32) (harg10 : arg10.IsWhole) (arg11 : Memref sig .tc .vmem S4x128x512 .f32) (harg11 : arg11.IsWhole) (arg12 : Memref sig .tc .vmem S4x2x512x128 .f32) (harg12 : arg12.IsWhole)
  {A : Toks} {n : ℕ} {x0 : Vec Ideal S4x128x512 .bf16} {x1 : Vec Ideal S4x128x512 .bf16} {x2 : Vec Ideal S4x128x512 .bf16} {x3 : Vec Ideal S4x128x128 .f32} {x4 : Vec Ideal S4x128x512 .bf16} {x5 : Vec Ideal S4x128x512 .bf16} {x6 : Vec Ideal S4x128x512 .bf16} {x7 : Vec Ideal S4x128x128 .f32} (xs0 : Vec Ideal S4x2x512x128 .f32)

theorem ord0 (k : Fin k0_t1_loop.trips) (i : Fin 64) (R : Fin 128) (hR : R.val = 64 * k.val + i.val) :
    n + 64 * k.val + (ord 0 i).val = n + R.val := by
  rw [hR, show (ord 0 i).val = i.val from rfl]; omega
theorem ord1 (k : Fin k0_t1_loop.trips) (i : Fin 64) (R : Fin 128) (hR : R.val = 64 * (1 - k.val) + i.val) :
    n + 64 * k.val + (ord 1 i).val = n + (127 - R.val) := by
  have hk : k.val < 2 := lt_of_lt_of_eq k.isLt trips_eq
  have ho : (ord 1 i).val = 63 - i.val := by
    show ((Fin.revPerm : Equiv.Perm (Fin 64)) i).val = _
    rw [Fin.revPerm_apply, Fin.val_rev]; omega
  omega

theorem reads (H : Blocks x0 x1 x2 x3 x4 x5 x6 x7 A n) (k : Fin k0_t1_loop.trips) : Reads ((chunks arg2 arg3 arg4 arg5 arg6 arg7 arg8 arg9 (harg2.unread x0) (harg3.unread x1) (harg4.unread x2) (harg5.unread x3) (harg6.unread x4) (harg7.unread x5) (harg8.unread x6) (harg9.unread x7)) k) A (n + 64 * k.val) := by
  have hk : k.val < 2 := lt_of_lt_of_eq k.isLt trips_eq
  have rF : ∀ i : Fin 64, ∃ R : Fin 128, R.val = 64 * k.val + i.val := fun i => ⟨⟨_, by omega⟩, rfl⟩
  have rB : ∀ i : Fin 64, ∃ R : Fin 128, R.val = 64 * (1 - k.val) + i.val := fun i => ⟨⟨_, by omega⟩, rfl⟩
  refine ⟨fun b d h i e => ?_, fun b d h i e => ?_, fun b d h i e => ?_, fun b d h i => ?_, fun b d h i => ?_⟩
  · match d with
    | 0 =>
      obtain ⟨R, hR⟩ := rF i
      refine (readF arg2 harg2 x0 b k i _ R hR).trans ((H.q0 b R h e).trans ?_)
      dsimp only
      rw [ord0 k i R hR]
    | 1 =>
      obtain ⟨R, hR⟩ := rB i
      refine (readB arg6 harg6 x4 b k i _ R hR).trans ((H.q1 b R h e).trans ?_)
      dsimp only
      rw [ord1 k i R hR]
  · match d with
    | 0 =>
      obtain ⟨R, hR⟩ := rF i
      refine (readF arg3 harg3 x1 b k i _ R hR).trans ((H.k0 b R h e).trans ?_)
      dsimp only
      rw [ord0 k i R hR]
    | 1 =>
      obtain ⟨R, hR⟩ := rB i
      refine (readB arg7 harg7 x5 b k i _ R hR).trans ((H.k1 b R h e).trans ?_)
      dsimp only
      rw [ord1 k i R hR]
  · match d with
    | 0 =>
      obtain ⟨R, hR⟩ := rF i
      refine (readF arg4 harg4 x2 b k i _ R hR).trans ((H.v0 b R h e).trans ?_)
      dsimp only
      rw [ord0 k i R hR]
    | 1 =>
      obtain ⟨R, hR⟩ := rB i
      refine (readB arg8 harg8 x6 b k i _ R hR).trans ((H.v1 b R h e).trans ?_)
      dsimp only
      rw [ord1 k i R hR]
  · match d with
    | 0 =>
      obtain ⟨R, hR⟩ := rF i
      refine (readFG arg5 harg5 x3 b k i _ R hR).trans ((H.g0 b R h).trans ?_)
      rw [ord0 k i R hR]
    | 1 =>
      obtain ⟨R, hR⟩ := rB i
      refine (readBG arg9 harg9 x7 b k i _ R hR).trans ((H.g1 b R h).trans ?_)
      rw [ord1 k i R hR]
  · match d with
    | 0 =>
      obtain ⟨R, hR⟩ := rF i
      refine (readFG arg5 harg5 x3 b k i _ R hR).trans ((H.b0 b R h).trans ?_)
      rw [ord0 k i R hR]
    | 1 =>
      obtain ⟨R, hR⟩ := rB i
      refine (readBG arg9 harg9 x7 b k i _ R hR).trans ((H.b1 b R h).trans ?_)
      rw [ord1 k i R hR]

theorem runA_F (c : Dev nD) (i : grid0.Coords) (hc0) : (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7).1
    = blockF nums (chunks arg2 arg3 arg4 arg5 arg6 arg7 arg8 arg9 (harg2.unread x0) (harg3.unread x1) (harg4.unread x2) (harg5.unread x3) (harg6.unread x4) (harg7.unread x5) (harg8.unread x6) (harg9.unread x7)) (slabs arg12 (arg12.view.writes (Elt Ideal) arg12.view.junk
      [⟨Rect.unit ![0, 0, 0, 0] S4x2x512x128.size inb_S4x2x512x128_S4x2x512x128_0_0_0_0, (k0_pay433 : FVec Ideal S4x2x512x128 .f32)⟩])) := by
  with_unfolding_all rfl
theorem runA_B (c : Dev nD) (i : grid0.Coords) (hc0) : (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7).2.1
    = blockB nums (chunks arg2 arg3 arg4 arg5 arg6 arg7 arg8 arg9 (harg2.unread x0) (harg3.unread x1) (harg4.unread x2) (harg5.unread x3) (harg6.unread x4) (harg7.unread x5) (harg8.unread x6) (harg9.unread x7)) (slabs arg12 (arg12.view.writes (Elt Ideal) arg12.view.junk
      [⟨Rect.unit ![0, 0, 0, 0] S4x2x512x128.size inb_S4x2x512x128_S4x2x512x128_0_0_0_0, (k0_pay433 : FVec Ideal S4x2x512x128 .f32)⟩])) := by
  with_unfolding_all rfl
theorem runA_S (c : Dev nD) (i : grid0.Coords) (hc0) : (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7).2.2.1
    = blockS nums (chunks arg2 arg3 arg4 arg5 arg6 arg7 arg8 arg9 (harg2.unread x0) (harg3.unread x1) (harg4.unread x2) (harg5.unread x3) (harg6.unread x4) (harg7.unread x5) (harg8.unread x6) (harg9.unread x7)) (slabs arg12 (arg12.view.writes (Elt Ideal) arg12.view.junk
      [⟨Rect.unit ![0, 0, 0, 0] S4x2x512x128.size inb_S4x2x512x128_S4x2x512x128_0_0_0_0, (k0_pay433 : FVec Ideal S4x2x512x128 .f32)⟩]))
      ++ [⟨Rect.unit ![0, 0, 0, 0] S4x2x512x128.size inb_S4x2x512x128_S4x2x512x128_0_0_0_0, (k0_pay433 : FVec Ideal S4x2x512x128 .f32)⟩] := by
  with_unfolding_all rfl

theorem runB_F (c : Dev nD) (i : grid0.Coords) (hc0) : (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xs0).1
    = blockF nums (chunks arg2 arg3 arg4 arg5 arg6 arg7 arg8 arg9 (harg2.unread x0) (harg3.unread x1) (harg4.unread x2) (harg5.unread x3) (harg6.unread x4) (harg7.unread x5) (harg8.unread x6) (harg9.unread x7)) (slabs arg12 (harg12.unread xs0)) := by with_unfolding_all rfl
theorem runB_B (c : Dev nD) (i : grid0.Coords) (hc0) : (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xs0).2.1
    = blockB nums (chunks arg2 arg3 arg4 arg5 arg6 arg7 arg8 arg9 (harg2.unread x0) (harg3.unread x1) (harg4.unread x2) (harg5.unread x3) (harg6.unread x4) (harg7.unread x5) (harg8.unread x6) (harg9.unread x7)) (slabs arg12 (harg12.unread xs0)) := by with_unfolding_all rfl
theorem runB_S (c : Dev nD) (i : grid0.Coords) (hc0) : (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xs0).2.2.1
    = blockS nums (chunks arg2 arg3 arg4 arg5 arg6 arg7 arg8 arg9 (harg2.unread x0) (harg3.unread x1) (harg4.unread x2) (harg5.unread x3) (harg6.unread x4) (harg7.unread x5) (harg8.unread x6) (harg9.unread x7)) (slabs arg12 (harg12.unread xs0)) := by with_unfolding_all rfl

/-- The first point: its states before are zero. -/
theorem pointA_F (c : Dev nD) (i : grid0.Coords) (hc0) (H : Blocks x0 x1 x2 x3 x4 x5 x6 x7 A 0) (y : S4x128x512.Idx) :
    out0_A_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 y = outF A 0 y := by
  have hc := cover0_A_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 y
  rw [out0_A_8]
  rw [runA_F] at hc ⊢
  exact read_pieces _ _ _ _ _ (blockF_agree (reads arg2 harg2 arg3 harg3 arg4 harg4 arg5 harg5 arg6 harg6 arg7 harg7 arg8 harg8 arg9 harg9 H) (zero_holds arg12 _)) hc
theorem pointA_B (c : Dev nD) (i : grid0.Coords) (hc0) (H : Blocks x0 x1 x2 x3 x4 x5 x6 x7 A 0) (y : S4x128x512.Idx) :
    out0_A_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 y = outB A 0 y := by
  have hc := cover0_A_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 y
  rw [out0_A_9]
  rw [runA_B] at hc ⊢
  exact read_pieces _ _ _ _ _ (blockB_agree (reads arg2 harg2 arg3 harg3 arg4 harg4 arg5 harg5 arg6 harg6 arg7 harg7 arg8 harg8 arg9 harg9 H) (zero_holds arg12 _)) hc
theorem pointA_S (c : Dev nD) (i : grid0.Coords) (hc0) (H : Blocks x0 x1 x2 x3 x4 x5 x6 x7 A 0) :
    HoldsX (sout0_A_0 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7) A 128 := by
  rw [sout0_A_0, runA_S]
  have h := blockS_holds (n := 0) scM0_0 (View.junk VS0_0)
    [⟨Rect.unit ![0, 0, 0, 0] S4x2x512x128.size inb_S4x2x512x128_S4x2x512x128_0_0_0_0, (k0_pay433 : FVec Ideal S4x2x512x128 .f32)⟩]
    (reads arg2 harg2 arg3 harg3 arg4 harg4 arg5 harg5 arg6 harg6 arg7 harg7 arg8 harg8 arg9 harg9 H) (zero_holds arg12 arg12.view.junk)
  exact h

/-- A later point, from the states the point before left. -/
theorem pointB_F (c : Dev nD) (i : grid0.Coords) (hc0) (H : Blocks x0 x1 x2 x3 x4 x5 x6 x7 A n) (hS : HoldsX xs0 A n) (y : S4x128x512.Idx) :
    out0_B_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xs0 y = outF A n y := by
  have hc := cover0_B_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xs0 y
  rw [out0_B_8]
  rw [runB_F] at hc ⊢
  exact read_pieces _ _ _ _ _ (blockF_agree (reads arg2 harg2 arg3 harg3 arg4 harg4 arg5 harg5 arg6 harg6 arg7 harg7 arg8 harg8 arg9 harg9 H) (holds_of arg12 _ (by rw [harg12.read_unread]; exact hS))) hc
theorem pointB_B (c : Dev nD) (i : grid0.Coords) (hc0) (H : Blocks x0 x1 x2 x3 x4 x5 x6 x7 A n) (hS : HoldsX xs0 A n) (y : S4x128x512.Idx) :
    out0_B_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xs0 y = outB A n y := by
  have hc := cover0_B_9 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xs0 y
  rw [out0_B_9]
  rw [runB_B] at hc ⊢
  exact read_pieces _ _ _ _ _ (blockB_agree (reads arg2 harg2 arg3 harg3 arg4 harg4 arg5 harg5 arg6 harg6 arg7 harg7 arg8 harg8 arg9 harg9 H) (holds_of arg12 _ (by rw [harg12.read_unread]; exact hS))) hc
theorem pointB_S (c : Dev nD) (i : grid0.Coords) (hc0) (H : Blocks x0 x1 x2 x3 x4 x5 x6 x7 A n) (hS : HoldsX xs0 A n) :
    HoldsX (sout0_B_0 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xs0) A (n + 128) := by
  rw [sout0_B_0, runB_S]
  have h := blockS_holds scM0_0 (View.junk VS0_0) [] (reads arg2 harg2 arg3 harg3 arg4 harg4 arg5 harg5 arg6 harg6 arg7 harg7 arg8 harg8 arg9 harg9 H) (holds_of arg12 (harg12.unread xs0) (by rw [harg12.read_unread]; exact hS))
  rw [List.append_nil] at h
  exact h

end

end Cert.Proof.Gdn

end
-- ==== Proof.RefLoop.lean ====
/-
  The reference's loop over the tokens: a trip's state and output, and what all the trips leave.
-/
module

public import proofs.«01_k».proof.Proof.Gen.ReferenceIdeal.Run
public import proofs.«01_k».proof.Proof.Delta
public import Idealize.ShloMosaic.Lib.DynamicIndex
public import Idealize.ShloMosaic.Lib.WordCmp
public import Idealize.ShloMosaic.Lib.Pipeline.ValueKit

@[expose] public section

set_option maxRecDepth 16384

noncomputable section

open Idealize.ShloMosaic Idealize.ShloMosaic.TcCoe
open Cert.ReferenceIdeal Cert.ReferenceIdeal.Gen

namespace Cert.Proof.RefLoop

/-- The start of a token's row. -/
def start5 (n : IVec S_ 32) : Fin 5 → Int := fun k =>
  ((![n, constantI S_ 32 0#32, constantI S_ 32 0#32, constantI S_ 32 0#32, constantI S_ 32 0#32] : Fin 5 → IVec S_ 32) k (Shape.Idx.first h_S_)).toInt

def start4 (n : IVec S_ 32) : Fin 4 → Int := fun k =>
  ((![n, constantI S_ 32 0#32, constantI S_ 32 0#32, constantI S_ 32 0#32] : Fin 4 → IVec S_ 32) k (Shape.Idx.first h_S_)).toInt

/-- A token's row of the five-axis arrays. -/
def row5 (x : FVec Ideal S4096x2x4x4x128 .f32) (n : IVec S_ 32) : FVec Ideal S2x4x4x128 .f32 :=
  shapeCast S2x4x4x128 (Host.dynamicSlice S1x2x4x4x128 x (start5 n) sliceFits_S4096x2x4x4x128_S1x2x4x4x128) shapeCasts_S1x2x4x4x128_S2x4x4x128

/-- A token's row of the four-axis arrays. -/
def row4 (x : FVec Ideal S4096x2x4x4 .f32) (n : IVec S_ 32) : FVec Ideal S2x4x4 .f32 :=
  shapeCast S2x4x4 (Host.dynamicSlice S1x2x4x4 x (start4 n) sliceFits_S4096x2x4x4_S1x2x4x4) shapeCasts_S1x2x4x4_S2x4x4

/-- The product of a row with the state. -/
def dotState (x : FVec Ideal S2x4x4x128 .f32) (S : FVec Ideal S2x4x4x128x128 .f32) : FVec Ideal S2x4x4x128 .f32 :=
  Host.dotGeneral dot_S2x4x4x128_S2x4x4x128x128_S2x4x4x128_3_3_n_4_012_012 none x S

/-- The keys, scaled by the write strengths, across the state's columns. -/
def scaled (k : FVec Ideal S2x4x4x128 .f32) (b : FVec Ideal S2x4x4 .f32) : FVec Ideal S2x4x4x128x128 .f32 :=
  broadcastInDim S2x4x4x128x128 ![0, 1, 2, 3, 4] bcast_S2x4x4x128x1_S2x4x4x128x128_0_1_2_3_4 (mulf (broadcastInDim S2x4x4x128x1 ![0, 1, 2, 3, 4] bcast_S2x4x4x1x1_S2x4x4x128x1_0_1_2_3_4 (broadcastInDim S2x4x4x1x1 ![0, 1, 2] bcast_S2x4x4_S2x4x4x1x1_0_1_2 b)) (broadcastInDim S2x4x4x128x1 ![0, 1, 2, 3] bcast_S2x4x4x128_S2x4x4x128x1_0_1_2_3 k))

/-- A row across the state's rows. -/
def across (x : FVec Ideal S2x4x4x128 .f32) : FVec Ideal S2x4x4x128x128 .f32 :=
  broadcastInDim S2x4x4x128x128 ![0, 1, 2, 3, 4] bcast_S2x4x4x1x128_S2x4x4x128x128_0_1_2_3_4 (broadcastInDim S2x4x4x1x128 ![0, 1, 2, 4] bcast_S2x4x4x128_S2x4x4x1x128_0_1_2_4 x)

/-- The state after a token. -/
def after1 (k v : FVec Ideal S2x4x4x128 .f32) (b g : FVec Ideal S2x4x4 .f32) (S : FVec Ideal S2x4x4x128x128 .f32) : FVec Ideal S2x4x4x128x128 .f32 :=
  addf (mulf (broadcastInDim S2x4x4x128x128 ![0, 1, 2, 3, 4] bcast_S2x4x4x1x1_S2x4x4x128x128_0_1_2_3_4 (broadcastInDim S2x4x4x1x1 ![0, 1, 2] bcast_S2x4x4_S2x4x4x1x1_0_1_2 (Host.exp g)))
    (subf S (mulf (scaled k b) (across (dotState k S))))) (mulf (scaled k b) (across v))

/-- The outputs with a token's row written. -/
def put (O : FVec Ideal S4096x2x4x4x128 .f32) (x : FVec Ideal S2x4x4x128 .f32) (n : IVec S_ 32) : FVec Ideal S4096x2x4x4x128 .f32 :=
  Host.dynamicUpdateSlice O (broadcastInDim S1x2x4x4x128 ![1, 2, 3, 4] bcast_S2x4x4x128_S1x2x4x4x128_1_2_3_4 x) (start5 n) updateFits_S4096x2x4x4x128_S1x2x4x4x128

theorem v75_eq (V0 : Valuation τ sig (Elt Ideal)) : Value.res_main_while0b_v75 V0
    = after1 (row5 (V0 (Proc.devRef .tc main_v40_1)) (V0 (Proc.devRef .tc main_v40_5))) (row5 (V0 (Proc.devRef .tc main_v40_2)) (V0 (Proc.devRef .tc main_v40_5)))
      (row4 (V0 (Proc.devRef .tc main_v40_3)) (V0 (Proc.devRef .tc main_v40_5))) (row4 (V0 (Proc.devRef .tc main_v40_4)) (V0 (Proc.devRef .tc main_v40_5)))
      (V0 (Proc.devRef .tc main_v40_6)) := by
  unfold Value.res_main_while0b_v75 after1 scaled across dotState Value.res_main_while0b_v49 Value.res_main_while0b_v51 row5 row4 start5 start4
  rfl

theorem v7_eq (V0 : Valuation τ sig (Elt Ideal)) : Value.step_main_v40_7 V0
    = put (V0 (Proc.devRef .tc main_v40_7)) (dotState (row5 (V0 (Proc.devRef .tc main_v40_0)) (V0 (Proc.devRef .tc main_v40_5))) (Value.res_main_while0b_v75 V0))
      (V0 (Proc.devRef .tc main_v40_5)) := by
  unfold Value.step_main_v40_7 put dotState row5 start5
  rfl

theorem start5_eq (t : Fin 4096) : ∀ a, start5 (fun _ => BitVec.ofNat 32 t.val) a = ((![t.val, 0, 0, 0, 0] : Fin 5 → ℕ) a : Int) := by
  intro a
  fin_cases a
  · exact toInt_ofNat_of_lt (by omega)
  all_goals rfl

theorem start4_eq (t : Fin 4096) : ∀ a, start4 (fun _ => BitVec.ofNat 32 t.val) a = ((![t.val, 0, 0, 0] : Fin 4 → ℕ) a : Int) := by
  intro a
  fin_cases a
  · exact toInt_ofNat_of_lt (by omega)
  all_goals rfl

theorem fits5 (t : Fin 4096) : S4096x2x4x4x128.Slices (![t.val, 0, 0, 0, 0] : Fin 5 → ℕ) S1x2x4x4x128 :=
  ⟨rfl, fun a => by fin_cases a; exacts [t.isLt, le_refl _, le_refl _, le_refl _, le_refl _]⟩

theorem fits4 (t : Fin 4096) : S4096x2x4x4.Slices (![t.val, 0, 0, 0] : Fin 4 → ℕ) S1x2x4x4 :=
  ⟨rfl, fun a => by fin_cases a; exacts [t.isLt, le_refl _, le_refl _, le_refl _]⟩

theorem row5_apply (x : FVec Ideal S4096x2x4x4x128 .f32) (t : Fin 4096) (d b h e) :
    row5 x (fun _ => BitVec.ofNat 32 t.val) (ix4 d b h e) = x (ix5 t d b h e) := by
  rw [row5, Host.dynamicSlice_eq_extractStridedSlice _ x _ _ _ (fits5 t) (start5_eq t)]
  pointwise

theorem row4_apply (x : FVec Ideal S4096x2x4x4 .f32) (t : Fin 4096) (d b h) :
    row4 x (fun _ => BitVec.ofNat 32 t.val) (ix3 d b h) = x (ix4 t d b h) := by
  rw [row4, Host.dynamicSlice_eq_extractStridedSlice _ x _ _ _ (fits4 t) (start4_eq t)]
  pointwise

theorem dotState_apply (x : FVec Ideal S2x4x4x128 .f32) (S : FVec Ideal S2x4x4x128x128 .f32) (d b h e) :
    dotState x S (ix4 d b h e) = ∑ c, x (ix4 d b h c) * S (ix5 d b h c e) := by
  pointwise [dotState]

theorem after1_apply (k v : FVec Ideal S2x4x4x128 .f32) (b g : FVec Ideal S2x4x4 .f32) (S : FVec Ideal S2x4x4x128x128 .f32) (d z h c e) :
    after1 k v b g S (ix5 d z h c e) = Ideal.exp (g (ix3 d z h)) * (S (ix5 d z h c e) - b (ix3 d z h) * k (ix4 d z h c) * dotState k S (ix4 d z h e))
      + b (ix3 d z h) * k (ix4 d z h c) * v (ix4 d z h e) := by
  generalize hx : dotState k S = y
  unfold after1
  rw [hx]
  pointwise [scaled, across]

theorem put_apply (O : FVec Ideal S4096x2x4x4x128 .f32) (x : FVec Ideal S2x4x4x128 .f32) (n t : Fin 4096) (d b h e) :
    put O x (fun _ => BitVec.ofNat 32 n.val) (ix5 t d b h e) = if t = n then x (ix4 d b h e) else O (ix5 t d b h e) := by
  rw [put, WordCmp.dynamicUpdateSlice_eq_update _ _ _ _ _ (fits5 n) (start5_eq n)]
  pointwise
  by_cases h' : t = n
  · subst h'
    rw [dif_pos (by omega), if_pos rfl]
  · rw [dif_neg (fun hh => h' (Fin.ext (by omega))), if_neg h']

end Cert.Proof.RefLoop

end
-- ==== Proof.RefIter.lean ====
/-
  What the reference's loop holds before each token.
-/
module

public import proofs.«01_k».proof.Proof.RefLoop
public import Idealize.ShloMosaic.Lib.DynamicIndex
public import Idealize.ShloMosaic.Lib.WordCmp
public import Idealize.ShloMosaic.Lib.Pipeline.ValueKit

@[expose] public section

set_option maxRecDepth 16384

noncomputable section

open Idealize.ShloMosaic Idealize.ShloMosaic.TcCoe
open Cert.ReferenceIdeal Cert.ReferenceIdeal.Gen

namespace Cert.Proof.RefLoop

/-- What the loop starts from: the rows of real tokens, in the order of time for each direction, batch row and head. -/
structure Entry (E : Valuation τ sig (Elt Ideal)) (A : Fin 2 → Fin 4 → Fin 4 → Delta.Tokens) : Prop where
  q : ∀ t d b h e, (show FVec Ideal S4096x2x4x4x128 .f32 from E (Proc.devRef .tc main_v40_0)) (ix5 t d b h e) = (((A d b h).q t.val e : ℝ) : EReal)
  k : ∀ t d b h e, (show FVec Ideal S4096x2x4x4x128 .f32 from E (Proc.devRef .tc main_v40_1)) (ix5 t d b h e) = (((A d b h).k t.val e : ℝ) : EReal)
  v : ∀ t d b h e, (show FVec Ideal S4096x2x4x4x128 .f32 from E (Proc.devRef .tc main_v40_2)) (ix5 t d b h e) = (((A d b h).v t.val e : ℝ) : EReal)
  b : ∀ t d b h, (show FVec Ideal S4096x2x4x4 .f32 from E (Proc.devRef .tc main_v40_3)) (ix4 t d b h) = (((A d b h).b t.val : ℝ) : EReal)
  g : ∀ t d b h, (show FVec Ideal S4096x2x4x4 .f32 from E (Proc.devRef .tc main_v40_4)) (ix4 t d b h) = (((A d b h).g t.val : ℝ) : EReal)
  ctr : (show IVec S_ 32 from E (Proc.devRef .tc main_v40_5)) = fun _ => BitVec.ofNat 32 0
  state : ∀ d b h c e, (show FVec Ideal S2x4x4x128x128 .f32 from E (Proc.devRef .tc main_v40_6)) (ix5 d b h c e) = 0

/-- What the loop holds before token `n`. -/
structure At (A : Fin 2 → Fin 4 → Fin 4 → Delta.Tokens) (n : ℕ) (V : Valuation τ sig (Elt Ideal)) : Prop where
  q : ∀ t d b h e, (show FVec Ideal S4096x2x4x4x128 .f32 from V (Proc.devRef .tc main_v40_0)) (ix5 t d b h e) = (((A d b h).q t.val e : ℝ) : EReal)
  k : ∀ t d b h e, (show FVec Ideal S4096x2x4x4x128 .f32 from V (Proc.devRef .tc main_v40_1)) (ix5 t d b h e) = (((A d b h).k t.val e : ℝ) : EReal)
  v : ∀ t d b h e, (show FVec Ideal S4096x2x4x4x128 .f32 from V (Proc.devRef .tc main_v40_2)) (ix5 t d b h e) = (((A d b h).v t.val e : ℝ) : EReal)
  b : ∀ t d b h, (show FVec Ideal S4096x2x4x4 .f32 from V (Proc.devRef .tc main_v40_3)) (ix4 t d b h) = (((A d b h).b t.val : ℝ) : EReal)
  g : ∀ t d b h, (show FVec Ideal S4096x2x4x4 .f32 from V (Proc.devRef .tc main_v40_4)) (ix4 t d b h) = (((A d b h).g t.val : ℝ) : EReal)
  ctr : (show IVec S_ 32 from V (Proc.devRef .tc main_v40_5)) = fun _ => BitVec.ofNat 32 n
  state : ∀ d b h c e, (show FVec Ideal S2x4x4x128x128 .f32 from V (Proc.devRef .tc main_v40_6)) (ix5 d b h c e) = ((Delta.state (A d b h) n c e : ℝ) : EReal)
  out : ∀ t : Fin 4096, t.val < n → ∀ d b h e, (show FVec Ideal S4096x2x4x4x128 .f32 from V (Proc.devRef .tc main_v40_7)) (ix5 t d b h e) = ((Delta.out (A d b h) t.val e : ℝ) : EReal)

theorem coe_sum {ι : Type} (s : Finset ι) (f : ι → ℝ) : ((∑ i ∈ s, f i : ℝ) : EReal) = ∑ i ∈ s, ((f i : ℝ) : EReal) := by
  classical
  induction s using Finset.induction_on with
  | empty => rfl
  | insert a s ha ih => rw [Finset.sum_insert ha, Finset.sum_insert ha, EReal.coe_add, ih]

theorem step (A : Fin 2 → Fin 4 → Fin 4 → Delta.Tokens) (n : Fin 4096) (V : Valuation τ sig (Elt Ideal)) (H : At A n.val V) :
    At A (n.val + 1) (Value.STEP V) := by
  have hs : ∀ d b h c e, (show FVec Ideal S2x4x4x128x128 .f32 from Value.res_main_while0b_v75 V) (ix5 d b h c e)
      = ((Delta.state (A d b h) (n.val + 1) c e : ℝ) : EReal) := by
    intro d b h c e
    rw [v75_eq]
    refine (after1_apply _ _ _ _ _ d b h c e).trans ?_
    have hc : (V (Proc.devRef .tc main_v40_5) : IVec S_ 32) = fun _ => BitVec.ofNat 32 n.val := H.ctr
    rw [hc, dotState_apply]
    have f1 : row4 (V (Proc.devRef .tc main_v40_4)) (fun _ => BitVec.ofNat 32 n.val) (ix3 d b h) = (((A d b h).g n.val : ℝ) : EReal) := (row4_apply _ n d b h).trans (H.g n d b h)
    have f2 : row4 (V (Proc.devRef .tc main_v40_3)) (fun _ => BitVec.ofNat 32 n.val) (ix3 d b h) = (((A d b h).b n.val : ℝ) : EReal) := (row4_apply _ n d b h).trans (H.b n d b h)
    have f3 : ∀ c, row5 (V (Proc.devRef .tc main_v40_1)) (fun _ => BitVec.ofNat 32 n.val) (ix4 d b h c) = (((A d b h).k n.val c : ℝ) : EReal) := fun c => (row5_apply _ n d b h c).trans (H.k n d b h c)
    have f4 : row5 (V (Proc.devRef .tc main_v40_2)) (fun _ => BitVec.ofNat 32 n.val) (ix4 d b h e) = (((A d b h).v n.val e : ℝ) : EReal) := (row5_apply _ n d b h e).trans (H.v n d b h e)
    have f5 : ∀ c, (V (Proc.devRef .tc main_v40_6) : FVec Ideal S2x4x4x128x128 .f32) (ix5 d b h c e) = ((Delta.state (A d b h) n.val c e : ℝ) : EReal) := fun c => H.state d b h c e
    have es' : ∑ x, row5 (V (Proc.devRef .tc main_v40_1)) (fun _ => BitVec.ofNat 32 n.val) (ix4 d b h x) * (V (Proc.devRef .tc main_v40_6) : FVec Ideal S2x4x4x128x128 .f32) (ix5 d b h x e)
        = ∑ x, (((A d b h).k n.val x : ℝ) : EReal) * ((Delta.state (A d b h) n.val x e : ℝ) : EReal) :=
      Finset.sum_congr rfl fun x _ => congrArg₂ (· * ·) (f3 x) (f5 x)
    refine Eq.trans (congrArg₂ (· + ·) (congrArg₂ (· * ·) (congrArg Ideal.exp f1) (congrArg₂ (· - ·) (f5 c)
      (congrArg₂ (· * ·) (congrArg₂ (· * ·) f2 (f3 c)) es'))) (congrArg₂ (· * ·) (congrArg₂ (· * ·) f2 (f3 c)) f4)) ?_
    have es : ∑ x, (((A d b h).k n.val x : ℝ) : EReal) * ((Delta.state (A d b h) n.val x e : ℝ) : EReal)
        = ((∑ x, (A d b h).k n.val x * Delta.state (A d b h) n.val x e : ℝ) : EReal) := by
      rw [coe_sum]; exact Finset.sum_congr rfl fun x _ => (EReal.coe_mul _ _).symm
    rw [es]
    have ee : Ideal.exp (((A d b h).g n.val : ℝ) : EReal) = ((Real.exp ((A d b h).g n.val) : ℝ) : EReal) := rfl

    rw [ee, ← EReal.coe_mul, ← EReal.coe_mul, ← EReal.coe_mul, ← EReal.coe_sub, ← EReal.coe_mul, ← EReal.coe_add]
    rfl
  refine ⟨?_, ?_, ?_, ?_, ?_, ?_, ?_, ?_⟩
  · rw [Value.STEP_main_v40_0]; exact H.q
  · rw [Value.STEP_main_v40_1]; exact H.k
  · rw [Value.STEP_main_v40_2]; exact H.v
  · rw [Value.STEP_main_v40_3]; exact H.b
  · rw [Value.STEP_main_v40_4]; exact H.g
  · rw [Value.STEP_main_v40_5]
    have e : Value.step_main_v40_5 V = addi (show IVec S_ 32 from V (Proc.devRef .tc main_v40_5)) (constantI S_ 32 1#32) := rfl
    rw [e, H.ctr]
    funext i
    show BitVec.ofNat 32 n.val + 1#32 = _
    rw [BitVec.ofNat_add]
  · rw [Value.STEP_main_v40_6]; exact hs
  · intro t ht d b h e
    rw [Value.STEP_main_v40_7, v7_eq]
    have hc : (V (Proc.devRef .tc main_v40_5) : IVec S_ 32) = fun _ => BitVec.ofNat 32 n.val := H.ctr
    rw [hc]
    refine (put_apply _ _ n t d b h e).trans ?_
    by_cases hn : t = n
    · subst hn
      rw [if_pos rfl, dotState_apply]
      rw [Delta.out, coe_sum]
      exact Finset.sum_congr rfl fun x _ => (congrArg₂ (· * ·) ((row5_apply _ t d b h x).trans (H.q t d b h x)) (hs d b h x e)).trans (EReal.coe_mul _ _).symm
    · rw [if_neg hn]
      exact H.out t (by have : t.val ≠ n.val := fun e => hn (Fin.ext e); omega) d b h e

theorem iter (A : Fin 2 → Fin 4 → Fin 4 → Delta.Tokens) (E : Valuation τ sig (Elt Ideal)) (H : Entry E A) :
    ∀ n ≤ 4096, At A n (Value.STEP^[n] E) := by
  intro n
  induction n with
  | zero => exact fun _ => ⟨H.q, H.k, H.v, H.b, H.g, H.ctr, fun d b h c e => (H.state d b h c e).trans EReal.coe_zero.symm, fun t ht => absurd ht (Nat.not_lt_zero _)⟩
  | succ n ih =>
    intro hn
    rw [Function.iterate_succ_apply']
    exact step A ⟨n, by omega⟩ _ (ih (by omega))

end Cert.Proof.RefLoop

end
-- ==== Proof.RefEntry.lean ====
/-
  What the reference's loop starts from, and its results, at finite arguments.
-/
module

public import proofs.«01_k».proof.Proof.RefIter
public import proofs.«01_k».proof.Proof.Args
public import Idealize.ShloMosaic.Lib.Claim

@[expose] public section

set_option maxRecDepth 16384

noncomputable section

open Idealize.ShloMosaic Idealize.ShloMosaic.TcCoe
open Cert.ReferenceIdeal Cert.ReferenceIdeal.Gen

namespace Cert.Proof.RefLoop

/-- An array of the reference in both directions, token by token. -/
def both5 (x : FVec Ideal S4x4096x4x128 .f32) : FVec Ideal S4096x2x4x4x128 .f32 :=
  transpose S4096x2x4x4x128 [2, 0, 1, 3, 4] (concatenate S2x4x4096x4x128 0
    [⟨S1x4x4096x4x128, broadcastInDim S1x4x4096x4x128 ![1, 2, 3, 4] bcast_S4x4096x4x128_S1x4x4096x4x128_1_2_3_4 x⟩,
     ⟨S1x4x4096x4x128, broadcastInDim S1x4x4096x4x128 ![1, 2, 3, 4] bcast_S4x4096x4x128_S1x4x4096x4x128_1_2_3_4 (Host.reverse [1] x)⟩]
    concatenates_S1x4x4096x4x128_S1x4x4096x4x128_S2x4x4096x4x128_d0) transposes_S2x4x4096x4x128_S4096x2x4x4x128_2_0_1_3_4

/-- The same of one number per token, from an array per direction. -/
def both4 (x y : FVec Ideal S4x4096x4 .f32) : FVec Ideal S4096x2x4x4 .f32 :=
  transpose S4096x2x4x4 [2, 0, 1, 3] (concatenate S2x4x4096x4 0
    [⟨S1x4x4096x4, broadcastInDim S1x4x4096x4 ![1, 2, 3] bcast_S4x4096x4_S1x4x4096x4_1_2_3 x⟩,
     ⟨S1x4x4096x4, broadcastInDim S1x4x4096x4 ![1, 2, 3] bcast_S4x4096x4_S1x4x4096x4_1_2_3 (Host.reverse [1] y)⟩]
    concatenates_S1x4x4096x4_S1x4x4096x4_S2x4x4096x4_d0) transposes_S2x4x4096x4_S4096x2x4x4_2_0_1_3

/-- Heads of an array. -/
def heads (x : FVec Ideal S4x4096x512 .bf16) : FVec Ideal S4x4096x4x128 .f32 :=
  shapeCast S4x4096x4x128 ((extf .f32 · bitsLt_bf16_f32) x) shapeCasts_S4x4096x512_S4x4096x4x128

/-- The log-gates by direction and head. -/
def logs (x : FVec Ideal S4x4096x128 .f32) : FVec Ideal S4x4096x2x4 .f32 :=
  shapeCast S4x4096x2x4 (extractStridedSlice S4x4096x8 ![0, 0, 0] x slices_S4x4096x128_S4x4096x8_0_0_0) shapeCasts_S4x4096x8_S4x4096x2x4
def logs0 (x : FVec Ideal S4x4096x128 .f32) : FVec Ideal S4x4096x4 .f32 :=
  shapeCast S4x4096x4 (extractStridedSlice S4x4096x1x4 ![0, 0, 0, 0] (logs x) slices_S4x4096x2x4_S4x4096x1x4_0_0_0_0) shapeCasts_S4x4096x1x4_S4x4096x4
def logs1 (x : FVec Ideal S4x4096x128 .f32) : FVec Ideal S4x4096x4 .f32 :=
  shapeCast S4x4096x4 (extractStridedSlice S4x4096x1x4 ![0, 0, 1, 0] (logs x) slices_S4x4096x2x4_S4x4096x1x4_0_0_1_0) shapeCasts_S4x4096x1x4_S4x4096x4
/-- The write strengths. -/
def strengths (x : FVec Ideal S4x4096x128 .f32) : FVec Ideal S4x4096x4 .f32 :=
  extractStridedSlice S4x4096x4 ![0, 0, 8] x slices_S4x4096x128_S4x4096x4_0_0_8

section
variable (m : (ℓ : Loc nD τ sig) → Buf (Elt Ideal) ℓ) (c : Dev nD)

open Value StableHlo

set_option maxHeartbeats 4000000 in
theorem entry_q : entryContents preI m c (Proc.devRef .tc main_v40_0) = both5 (heads (m ((c.tc : Thread nD τ).loc main_arg0))) := by
  simp only [entryContents, afterL_cons, afterL_nil]
  after_reads_simp
  rfl
set_option maxHeartbeats 4000000 in
theorem entry_k : entryContents preI m c (Proc.devRef .tc main_v40_1) = both5 (heads (m ((c.tc : Thread nD τ).loc main_arg1))) := by
  simp only [entryContents, afterL_cons, afterL_nil]
  after_reads_simp
  rfl
set_option maxHeartbeats 4000000 in
theorem entry_v : entryContents preI m c (Proc.devRef .tc main_v40_2) = both5 (heads (m ((c.tc : Thread nD τ).loc main_arg2))) := by
  simp only [entryContents, afterL_cons, afterL_nil]
  after_reads_simp
  rfl
set_option maxHeartbeats 4000000 in
theorem entry_b : entryContents preI m c (Proc.devRef .tc main_v40_3)
    = both4 (strengths (m ((c.tc : Thread nD τ).loc main_arg3))) (strengths (m ((c.tc : Thread nD τ).loc main_arg3))) := by
  simp only [entryContents, afterL_cons, afterL_nil]
  after_reads_simp
  rfl
set_option maxHeartbeats 4000000 in
theorem entry_g : entryContents preI m c (Proc.devRef .tc main_v40_4)
    = both4 (logs0 (m ((c.tc : Thread nD τ).loc main_arg3))) (logs1 (m ((c.tc : Thread nD τ).loc main_arg3))) := by
  simp only [entryContents, afterL_cons, afterL_nil]
  after_reads_simp
  rfl
theorem entry_state : entryContents preI m c (Proc.devRef .tc main_v40_6)
    = (broadcastInDim S2x4x4x128x128 ![] bcast_S_S2x4x4x128x128 (constant S_ .f32 0x00000000#32) : FVec Ideal S2x4x4x128x128 .f32) := by
  simp only [entryContents, afterL_cons, afterL_nil]
  after_reads_simp
  rfl

end

theorem rev_eq (t : Fin 4096) : t.rev = (⟨4095 - t.val, by omega⟩ : Fin 4096) := Fin.ext ((Fin.val_rev t).trans (show 4096 - (t.val + 1) = 4095 - t.val by omega))

theorem both5_apply (x : FVec Ideal S4x4096x4x128 .f32) (t : Fin 4096) (d : Fin 2) (b h : Fin 4) (e : Fin 128) :
    both5 x (ix5 t d b h e) = x (ix4 b (Gdn.pos d t) h e) := by
  match d with
  | 0 => pointwise [both5, Gdn.pos]
  | 1 =>
    pointwise [both5, Gdn.pos]
    show x (ix4 b t.rev h e) = _
    rw [rev_eq]

theorem both4_apply (x y : FVec Ideal S4x4096x4 .f32) (t : Fin 4096) (d : Fin 2) (b h : Fin 4) :
    both4 x y (ix4 t d b h) = (![x, y] : Fin 2 → FVec Ideal S4x4096x4 .f32) d (ix3 b (Gdn.pos d t) h) := by
  match d with
  | 0 => pointwise [both4, Gdn.pos]
  | 1 =>
    pointwise [both4, Gdn.pos]
    show y (ix3 b t.rev h) = _
    rw [rev_eq]

theorem heads_apply (x : FVec Ideal S4x4096x512 .bf16) (b : Fin 4) (t : Fin 4096) (h : Fin 4) (e : Fin 128) :
    heads x (ix4 b t h e) = x (ix3 b t (Head.at128 h e)) := by
  pointwise [heads, Head.at128]
  exact congrArg (fun l => x (ix3 b t l)) (Fin.ext (by dsimp only; omega))

theorem logs0_apply (x : FVec Ideal S4x4096x128 .f32) (b : Fin 4) (t : Fin 4096) (h : Fin 4) :
    logs0 x (ix3 b t h) = x (ix3 b t (Head.gateLane 0 h)) := by
  pointwise [logs0, logs, Head.gateLane]
theorem logs1_apply (x : FVec Ideal S4x4096x128 .f32) (b : Fin 4) (t : Fin 4096) (h : Fin 4) :
    logs1 x (ix3 b t h) = x (ix3 b t (Head.gateLane 1 h)) := by
  pointwise [logs1, logs, Head.gateLane]
theorem strengths_apply (x : FVec Ideal S4x4096x128 .f32) (b : Fin 4) (t : Fin 4096) (h : Fin 4) :
    strengths x (ix3 b t h) = x (ix3 b t (Head.betaLane h)) := by
  pointwise [strengths, Head.betaLane]

theorem v44_apply (V : Valuation τ sig (Elt Ideal)) (b : Fin 4) (t : Fin 4096) (l : Fin 512) (h : Fin 4) (e : Fin 128) (hl : l = Head.at128 h e) :
    (show FVec Ideal S4x4096x512 .f32 from Value.out_main_v44 V) (ix3 b t l)
      = (show FVec Ideal S4096x2x4x4x128 .f32 from V (Proc.devRef .tc main_v40_7)) (ix5 t 0 b h e) := by
  subst hl
  pointwise [Value.out_main_v44, Head.at128]
theorem v47_apply (V : Valuation τ sig (Elt Ideal)) (b : Fin 4) (t : Fin 4096) (l : Fin 512) (h : Fin 4) (e : Fin 128) (hl : l = Head.at128 h e) :
    (show FVec Ideal S4x4096x512 .f32 from Value.out_main_v47 V) (ix3 b t l)
      = (show FVec Ideal S4096x2x4x4x128 .f32 from V (Proc.devRef .tc main_v40_7)) (ix5 ⟨4095 - t.val, by omega⟩ 1 b h e) := by
  subst hl
  pointwise [Value.out_main_v47, Head.at128]
  show (show FVec Ideal S4096x2x4x4x128 .f32 from V (Proc.devRef .tc main_v40_7)) (ix5 t.rev 1 b ⟨(128 * h.val + e.val) / 128, by omega⟩ ⟨(128 * h.val + e.val) % 128, by omega⟩) = _
  rw [rev_eq]
  exact congrArg₂ (fun p q => (show FVec Ideal S4096x2x4x4x128 .f32 from V (Proc.devRef .tc main_v40_7)) (ix5 ⟨4095 - t.val, by omega⟩ 1 b p q))
    (Fin.ext (by dsimp only; omega)) (Fin.ext (by dsimp only; omega))

section
variable (m : (ℓ : Loc nD τ sig) → Buf (Elt Ideal) ℓ) (c : Dev nD)
variable (q k v : FVec Ideal S4x4096x512 .bf16) (g : FVec Ideal S4x4096x128 .f32)

/-- At finite arguments the loop starts from their tokens. -/
theorem entry (hq : m ((c.tc : Thread nD τ).loc main_arg0) = q) (hk : m ((c.tc : Thread nD τ).loc main_arg1) = k)
    (hv : m ((c.tc : Thread nD τ).loc main_arg2) = v) (hg : m ((c.tc : Thread nD τ).loc main_arg3) = g) (H : Gdn.Finite q k v g) :
    Entry (StableHlo.entryContents Value.preI m c) (Gdn.toks q k v g) where
  q t d b h e := by
    rw [entry_q, hq]
    refine (both5_apply _ t d b h e).trans ((heads_apply q b (Gdn.pos d t) h e).trans ?_)
    rw [H.toks_q, Gdn.tok_val]
  k t d b h e := by
    rw [entry_k, hk]
    refine (both5_apply _ t d b h e).trans ((heads_apply k b (Gdn.pos d t) h e).trans ?_)
    rw [H.toks_k, Gdn.tok_val]
  v t d b h e := by
    rw [entry_v, hv]
    refine (both5_apply _ t d b h e).trans ((heads_apply v b (Gdn.pos d t) h e).trans ?_)
    rw [H.toks_v, Gdn.tok_val]
  b t d b h := by
    rw [entry_b, hg, H.toks_b, Gdn.tok_val]
    refine (both4_apply _ _ t d b h).trans ?_
    match d with
    | 0 => exact strengths_apply g b (Gdn.pos 0 t) h
    | 1 => exact strengths_apply g b (Gdn.pos 1 t) h
  g t d b h := by
    rw [entry_g, hg, H.toks_g, Gdn.tok_val]
    refine (both4_apply _ _ t d b h).trans ?_
    match d with
    | 0 => exact logs0_apply g b (Gdn.pos 0 t) h
    | 1 => exact logs1_apply g b (Gdn.pos 1 t) h
  ctr := Value.ctr_entry m c
  state d b h c e := by
    rw [entry_state]
    exact Ideal.ofBits_zero_f32

/-- So the first result is the forward direction's, … -/
theorem result44 (hq : m ((c.tc : Thread nD τ).loc main_arg0) = q) (hk : m ((c.tc : Thread nD τ).loc main_arg1) = k)
    (hv : m ((c.tc : Thread nD τ).loc main_arg2) = v) (hg : m ((c.tc : Thread nD τ).loc main_arg3) = g) (H : Gdn.Finite q k v g) :
    Value.out_main_v44 (Value.STEP^[4096] (StableHlo.entryContents Value.preI m c)) = Gdn.fwd q k v g := by
  funext y
  refine (congrArg _ (eq_ix3 y)).trans ((v44_apply _ (y 0) (y 1) (y 2) (Gdn.headOf (y 2)) (Gdn.laneOf (y 2)) (Gdn.at128_of (y 2)).symm).trans ?_)
  exact (iter _ _ (entry m c q k v g hq hk hv hg H) 4096 le_rfl).out (y 1) (y 1).isLt 0 (y 0) (Gdn.headOf (y 2)) (Gdn.laneOf (y 2))

/-- … and the second the backward direction's. -/
theorem result47 (hq : m ((c.tc : Thread nD τ).loc main_arg0) = q) (hk : m ((c.tc : Thread nD τ).loc main_arg1) = k)
    (hv : m ((c.tc : Thread nD τ).loc main_arg2) = v) (hg : m ((c.tc : Thread nD τ).loc main_arg3) = g) (H : Gdn.Finite q k v g) :
    Value.out_main_v47 (Value.STEP^[4096] (StableHlo.entryContents Value.preI m c)) = Gdn.bwd q k v g := by
  funext y
  refine (congrArg _ (eq_ix3 y)).trans ((v47_apply _ (y 0) (y 1) (y 2) (Gdn.headOf (y 2)) (Gdn.laneOf (y 2)) (Gdn.at128_of (y 2)).symm).trans ?_)
  have hy : (y 1).val < 4096 := (y 1).isLt
  exact (iter _ _ (entry m c q k v g hq hk hv hg H) 4096 le_rfl).out ⟨4095 - (y 1).val, by omega⟩ (by dsimp only; omega) 1 (y 0) (Gdn.headOf (y 2)) (Gdn.laneOf (y 2))

end

end Cert.Proof.RefLoop

end
-- ==== Proof.Gdn.lean ====
/-
  The gated delta recurrence's kernel at finite arguments: point `t` of the grid computes tokens `128 t …` of the forward
  direction and of the backward one, whose tokens run from the last row; the two result arrays are the recurrence's.
-/
module

public import proofs.«01_k».proof.Proof.GdnPoint
public import proofs.«01_k».proof.Proof.RefEntry
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Gdn

open Cert.KernelIdeal Cert.KernelIdeal.Gen Cert.Proof.Head

variable (m : (ℓ : Loc nD τ sig) → Buf (Elt Ideal) ℓ)

/-- The forward windows take block `t`, the backward ones block `31 - t`. -/
theorem index_maps : ∀ t : Fin cfg0.N, win0_0.index t = ![0, t.val, 0] ∧ win0_1.index t = ![0, t.val, 0]
    ∧ win0_2.index t = ![0, t.val, 0] ∧ win0_3.index t = ![0, t.val, 0]
    ∧ win0_4.index t = ![0, 31 - t.val, 0] ∧ win0_5.index t = ![0, 31 - t.val, 0]
    ∧ win0_6.index t = ![0, 31 - t.val, 0] ∧ win0_7.index t = ![0, 31 - t.val, 0]
    ∧ win0_8.index t = ![0, t.val, 0] ∧ win0_9.index t = ![0, 31 - t.val, 0] :=
  (by decide +kernel : ∀ t : Fin grid0.N, _)

theorem blk0 (c : Dev nD) (t : Fin cfg0.N) (b : Fin 4) (r : Fin 128) (l : Fin 512) (R : Fin 4096) (hR : R.val = t.val * 128 + r.val) :
    (show FVec Ideal S4x128x512 .bf16 from iblk m c 0 t) (ix3 b r l)
      = (show FVec Ideal S4x4096x512 .bf16 from m ((c : Thread nD τ).loc main_arg0)) (ix3 b R l) := by
  blk_ext [iblk, V, index_maps t]
theorem blk1 (c : Dev nD) (t : Fin cfg0.N) (b : Fin 4) (r : Fin 128) (l : Fin 512) (R : Fin 4096) (hR : R.val = t.val * 128 + r.val) :
    (show FVec Ideal S4x128x512 .bf16 from iblk m c 1 t) (ix3 b r l)
      = (show FVec Ideal S4x4096x512 .bf16 from m ((c : Thread nD τ).loc main_arg1)) (ix3 b R l) := by
  blk_ext [iblk, V, index_maps t]
theorem blk2 (c : Dev nD) (t : Fin cfg0.N) (b : Fin 4) (r : Fin 128) (l : Fin 512) (R : Fin 4096) (hR : R.val = t.val * 128 + r.val) :
    (show FVec Ideal S4x128x512 .bf16 from iblk m c 2 t) (ix3 b r l)
      = (show FVec Ideal S4x4096x512 .bf16 from m ((c : Thread nD τ).loc main_arg2)) (ix3 b R l) := by
  blk_ext [iblk, V, index_maps t]
theorem blk3 (c : Dev nD) (t : Fin cfg0.N) (b : Fin 4) (r : Fin 128) (l : Fin 128) (R : Fin 4096) (hR : R.val = t.val * 128 + r.val) :
    (show FVec Ideal S4x128x128 .f32 from iblk m c 3 t) (ix3 b r l)
      = (show FVec Ideal S4x4096x128 .f32 from m ((c : Thread nD τ).loc main_arg3)) (ix3 b R l) := by
  blk_ext [iblk, V, index_maps t]
theorem blk4 (c : Dev nD) (t : Fin cfg0.N) (b : Fin 4) (r : Fin 128) (l : Fin 512) (R : Fin 4096) (hR : R.val = (31 - t.val) * 128 + r.val) :
    (show FVec Ideal S4x128x512 .bf16 from iblk m c 4 t) (ix3 b r l)
      = (show FVec Ideal S4x4096x512 .bf16 from m ((c : Thread nD τ).loc main_arg0)) (ix3 b R l) := by
  blk_ext [iblk, V, index_maps t]
theorem blk5 (c : Dev nD) (t : Fin cfg0.N) (b : Fin 4) (r : Fin 128) (l : Fin 512) (R : Fin 4096) (hR : R.val = (31 - t.val) * 128 + r.val) :
    (show FVec Ideal S4x128x512 .bf16 from iblk m c 5 t) (ix3 b r l)
      = (show FVec Ideal S4x4096x512 .bf16 from m ((c : Thread nD τ).loc main_arg1)) (ix3 b R l) := by
  blk_ext [iblk, V, index_maps t]
theorem blk6 (c : Dev nD) (t : Fin cfg0.N) (b : Fin 4) (r : Fin 128) (l : Fin 512) (R : Fin 4096) (hR : R.val = (31 - t.val) * 128 + r.val) :
    (show FVec Ideal S4x128x512 .bf16 from iblk m c 6 t) (ix3 b r l)
      = (show FVec Ideal S4x4096x512 .bf16 from m ((c : Thread nD τ).loc main_arg2)) (ix3 b R l) := by
  blk_ext [iblk, V, index_maps t]
theorem blk7 (c : Dev nD) (t : Fin cfg0.N) (b : Fin 4) (r : Fin 128) (l : Fin 128) (R : Fin 4096) (hR : R.val = (31 - t.val) * 128 + r.val) :
    (show FVec Ideal S4x128x128 .f32 from iblk m c 7 t) (ix3 b r l)
      = (show FVec Ideal S4x4096x128 .f32 from m ((c : Thread nD τ).loc main_arg3)) (ix3 b R l) := by
  blk_ext [iblk, V, index_maps t]

theorem pos0_val (n : ℕ) (h : n < 4096) : (pos 0 (tok n)).val = n := Nat.mod_eq_of_lt h
theorem pos1_val (n : ℕ) (h : n < 4096) : (pos 1 (tok n)).val = 4095 - n := congrArg (4095 - ·) (Nat.mod_eq_of_lt h)

section
variable (c : Dev nD)

/-- The tokens of the kernel's arguments. -/
abbrev args : Toks := toks (m ((c : Thread nD τ).loc main_arg0)) (m ((c : Thread nD τ).loc main_arg1))
  (m ((c : Thread nD τ).loc main_arg2)) (m ((c : Thread nD τ).loc main_arg3))

/-- The arguments are finite. -/
abbrev FiniteArgs : Prop := Finite (m ((c : Thread nD τ).loc main_arg0)) (m ((c : Thread nD τ).loc main_arg1))
  (m ((c : Thread nD τ).loc main_arg2)) (m ((c : Thread nD τ).loc main_arg3))

variable {m c}

/-- Point `t` reads tokens `128 t …` of both directions. -/
theorem blocks (H : FiniteArgs m c) (t : Fin cfg0.N) : Blocks (iblk m c 0 t) (iblk m c 1 t) (iblk m c 2 t) (iblk m c 3 t)
    (iblk m c 4 t) (iblk m c 5 t) (iblk m c 6 t) (iblk m c 7 t) (args m c) (128 * t.val) := by
  have ht : t.val < 32 := lt_of_lt_of_eq t.isLt N_0
  have h0 : ∀ r : Fin 128, (pos 0 (tok (128 * t.val + r.val))).val = t.val * 128 + r.val := fun r => by
    rw [pos0_val _ (by omega)]; omega
  have h1 : ∀ r : Fin 128, (pos 1 (tok (128 * t.val + (127 - r.val)))).val = (31 - t.val) * 128 + r.val := fun r => by
    rw [pos1_val _ (by omega)]; omega
  exact {
    q0 := fun b r h e => (blk0 m c t b r _ _ (h0 r)).trans (H.toks_q 0 b h _ e).symm
    k0 := fun b r h e => (blk1 m c t b r _ _ (h0 r)).trans (H.toks_k 0 b h _ e).symm
    v0 := fun b r h e => (blk2 m c t b r _ _ (h0 r)).trans (H.toks_v 0 b h _ e).symm
    g0 := fun b r h => (blk3 m c t b r _ _ (h0 r)).trans (H.toks_g 0 b h _).symm
    b0 := fun b r h => (blk3 m c t b r _ _ (h0 r)).trans (H.toks_b 0 b h _).symm
    q1 := fun b r h e => (blk4 m c t b r _ _ (h1 r)).trans (H.toks_q 1 b h _ e).symm
    k1 := fun b r h e => (blk5 m c t b r _ _ (h1 r)).trans (H.toks_k 1 b h _ e).symm
    v1 := fun b r h e => (blk6 m c t b r _ _ (h1 r)).trans (H.toks_v 1 b h _ e).symm
    g1 := fun b r h => (blk7 m c t b r _ _ (h1 r)).trans (H.toks_g 1 b h _).symm
    b1 := fun b r h => (blk7 m c t b r _ _ (h1 r)).trans (H.toks_b 1 b h _).symm }

set_option maxHeartbeats 4000000

/-- What the first point leaves, … -/
theorem first (H : FiniteArgs m c) (t : Fin cfg0.N) (h : t.val = 0) :
    (∀ y, (outsAt0 m c t.val t.isLt).1 y = outF (args m c) 0 y) ∧ (∀ y, (outsAt0 m c t.val t.isLt).2.1 y = outB (args m c) 0 y)
      ∧ HoldsX (outsAt0 m c t.val t.isLt).2.2 (args m c) 128 := by
  have B := blocks H t
  rw [h, Nat.mul_zero] at B
  have e := outsAt0_A m c t (by rw [h])
  have e1 := congrArg Prod.fst e
  have e2 := congrArg (fun p => p.2.1) e
  have e3 := congrArg (fun p => p.2.2) e
  dsimp only at e1 e2 e3
  refine ⟨fun y => ?_, fun y => ?_, ?_⟩
  · rw [e1]; exact pointA_F (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) c (grid0.coords t) _ B y
  · rw [e2]; exact pointA_B (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) c (grid0.coords t) _ B y
  · rw [e3]; exact pointA_S (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) c (grid0.coords t) _ B

/-- … and a later one, from the states before its tokens. -/
theorem later (H : FiniteArgs m c) (t : Fin cfg0.N) (h : ¬t.val % 32 = 0)
    (hS : HoldsX (outsAt0 m c (t.val - 1) (Nat.lt_of_le_of_lt (Nat.sub_le _ _) t.isLt)).2.2 (args m c) (128 * t.val)) :
    (∀ y, (outsAt0 m c t.val t.isLt).1 y = outF (args m c) (128 * t.val) y) ∧ (∀ y, (outsAt0 m c t.val t.isLt).2.1 y = outB (args m c) (128 * t.val) y)
      ∧ HoldsX (outsAt0 m c t.val t.isLt).2.2 (args m c) (128 * t.val + 128) := by
  have B := blocks H t
  have e := outsAt0_B m c t h
  have e1 := congrArg Prod.fst e
  have e2 := congrArg (fun p => p.2.1) e
  have e3 := congrArg (fun p => p.2.2) e
  dsimp only at e1 e2 e3
  refine ⟨fun y => ?_, fun y => ?_, ?_⟩
  · rw [e1]; exact pointB_F (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) _ c (grid0.coords t) _ B hS y
  · rw [e2]; exact pointB_B (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) _ c (grid0.coords t) _ B hS y
  · rw [e3]; exact pointB_S (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) _ c (grid0.coords t) _ B hS

/-- What a point leaves: its tokens' outputs, and the states after them. -/
theorem points (H : FiniteArgs m c) : ∀ n (hn : n < cfg0.N),
    (∀ y, (outsAt0 m c n hn).1 y = outF (args m c) (128 * n) y) ∧ (∀ y, (outsAt0 m c n hn).2.1 y = outB (args m c) (128 * n) y)
      ∧ HoldsX (outsAt0 m c n hn).2.2 (args m c) (128 * n + 128) := by
  intro n
  induction n with
  | zero =>
    intro hn
    rw [Nat.mul_zero, Nat.zero_add]
    exact first H ⟨0, hn⟩ rfl
  | succ n ih =>
    intro hn
    have h32 : n + 1 < 32 := lt_of_lt_of_eq hn N_0
    exact later H ⟨n + 1, hn⟩ (by dsimp only; omega) (ih (Nat.lt_of_succ_lt hn)).2.2

/-- So the first result array ends at the forward direction's outputs, … -/
theorem result8 (H : FiniteArgs m c) : (dats m 0 c).arrAt 8 (cfgs 0).N
    = fwd (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]
  have ht : t.val < 32 := lt_of_lt_of_eq t.isLt N_0
  have hr : (y 1).val < 128 := (y 1).isLt
  obtain ⟨R, hR⟩ : ∃ R : Fin 4096, R.val = 128 * t.val + (y 1).val := ⟨⟨_, by omega⟩, rfl⟩
  have he : ((cfg0.win 8).blk t).view.emb y = ix3 (y 0) R (y 2) := by
    blk_ext [index_maps t]
  refine ((points H t.val t.isLt).1 y).trans (Eq.trans ?_ (congrArg _ he.symm))
  show _ = fwd _ _ _ _ (ix3 (y 0) R (y 2))
  show (((Delta.out (args m c 0 (y 0) (headOf (y 2))) (128 * t.val + (y 1).val) (laneOf (y 2)) : ℝ)) : EReal)
    = ((Delta.out (args m c 0 (y 0) (headOf (y 2))) R.val (laneOf (y 2)) : ℝ) : EReal)
  rw [hR]

/-- … and the second at the backward direction's. -/
theorem result9 (H : FiniteArgs m c) : (dats m 0 c).arrAt 9 (cfgs 0).N
    = bwd (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t _ y => ?_
  blk_simp
  rw [after0_9]
  have ht : t.val < 32 := lt_of_lt_of_eq t.isLt N_0
  have hr : (y 1).val < 128 := (y 1).isLt
  obtain ⟨R, hR⟩ : ∃ R : Fin 4096, R.val = 128 * (31 - t.val) + (y 1).val := ⟨⟨_, by omega⟩, rfl⟩
  have he : ((cfg0.win 9).blk t).view.emb y = ix3 (y 0) R (y 2) := by
    blk_ext [index_maps t]
  refine ((points H t.val t.isLt).2.1 y).trans (Eq.trans ?_ (congrArg _ he.symm))
  show (((Delta.out (args m c 1 (y 0) (headOf (y 2))) (128 * t.val + (127 - (y 1).val)) (laneOf (y 2)) : ℝ)) : EReal)
    = ((Delta.out (args m c 1 (y 0) (headOf (y 2))) (4095 - R.val) (laneOf (y 2)) : ℝ) : EReal)
  rw [show 128 * t.val + (127 - (y 1).val) = 4095 - R.val by omega]

end

end Cert.Proof.Gdn

/-- At finite arguments the kernel's results are the reference's: both are the gated delta recurrence's outputs in the two
    directions, the kernel's by chunks of 64 tokens and the reference's token by token. -/
theorem Cert.Proof.Gdn.algebraic : Cert.algebraic_KernelIdeal_ReferenceIdeal_pre_finite := by
  intro m g m' g' hpre hargs
  have H : ∀ c, Cert.Proof.Gdn.FiniteArgs m c := fun c =>
    Cert.Proof.Gdn.finite_of _ _ _ _ (hpre c).1 (hpre c).2.1 (hpre c).2.2.1 (hpre c).2.2.2
  refine ⟨fun c => Cert.Proof.Gdn.fwd _ _ _ _, fun c => Cert.Proof.Gdn.bwd _ _ _ _,
    (θ_run Cert.KernelIdeal.defs _ _).mono (fun r h c => ⟨((h.1 c).1 8).trans (Cert.Proof.Gdn.result8 (H c)),
      ((h.1 c).1 9).trans (Cert.Proof.Gdn.result9 (H c)), h.2 c⟩)
      (θ_run_and (Cert.KernelIdeal.Gen.run_main m g) (Cert.KernelIdeal.Gen.unchanged m g)),
    (θ_run Cert.ReferenceIdeal.defs _ _).mono (fun r h c => ⟨(h c).1.trans
        (Cert.Proof.RefLoop.result44 m' c _ _ _ _ (hargs c).1 (hargs c).2.1 (hargs c).2.2.1 (hargs c).2.2.2 (H c)),
      (h c).2.1.trans (Cert.Proof.RefLoop.result47 m' c _ _ _ _ (hargs c).1 (hargs c).2.1 (hargs c).2.2.1 (hargs c).2.2.2 (H c)),
      (h c).2.2⟩) (Cert.ReferenceIdeal.Value.run m' g')⟩

end
-- ==== Proof.Proj.lean ====
/-
  The projection of the odd layers: a tiled product of the tokens (512 rows at a time) with the whole weight matrix is
  the product of the two arrays. Every point writes its own 512 rows, and an element of a product needs one row of the
  left factor only.
-/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Proj

open Cert.Kernel2Ideal Cert.Kernel2Ideal.Gen

variable (m : (ℓ : Loc nD τ sig) → Buf (Elt Ideal) ℓ)

/-- The product of the tokens with the weights: what the reference computes. -/
abbrev product (X : FVec Ideal S16384x1024 .f32) (W : FVec Ideal S1024x4352 .f32) : FVec Ideal S16384x4352 .f32 :=
  Host.dotGeneral (F := Ideal) (φ₁ := .f32) (φ₂ := .f32)
    Cert.Reference2Ideal.dot_S16384x1024_S1024x4352_S16384x4352_1_0_0_1_n_n none X W

/-- Point `t` reads rows `512 t …` of the tokens and all the weights, and writes rows `512 t …` of the result. -/
theorem index_maps : ∀ t : Fin cfg0.N, win0_0.index t = ![t.val, 0] ∧ win0_1.index t = ![0, 0]
    ∧ win0_2.index t = ![t.val, 0] :=
  (by decide +kernel : ∀ t : Fin grid0.N, _)

/-- What point `t` stores at `y` is the product at the place of `y` in the whole array. -/
theorem stored (c : Dev nD) (t : Fin cfg0.N) (y) :
    k0_pay1 (F := Ideal) (iblk m c 0 t) (iblk m c 1 t) y
      = product (m ((c : Thread nD τ).loc main_arg0)) (m ((c : Thread nD τ).loc main_arg1))
          (((cfg0.win 2).blk t).view.emb y) := by
  pointwise [k0_pay1, product]
  blk_point [iblk, V, index_maps t]

/-- So the result array ends at the product. -/
theorem result (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact stored m c t y

end Cert.Proof.Proj

/-- The projection of the odd layers is the reference's product. -/
theorem Cert.Proof.Proj.algebraic : Cert.algebraic_Kernel2Ideal_Reference2Ideal := by
  pair_intro
  · run_from Cert.Kernel2Ideal.Gen.run_main m g
  · hlo_run
    exact (Cert.Proof.Proj.result m c).symm

end
-- ==== Proof.ProjT.lean ====
/-
  The projection of the even layers: the product of the tokens with the weights, split into the 2060 columns after the
  first 1536 (padded to 2176 with zeros) and the first 1536 columns transposed. The kernel computes both tile by tile,
  the second as weights times tokens, from weights the host has padded and transposed.
-/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.ProjT

open Cert.Kernel3Ideal Cert.Kernel3Ideal.Gen

variable (m : (ℓ : Loc nD τ sig) → Buf (Elt Ideal) ℓ)

/-- The product of the tokens with the weights. -/
abbrev product (X : FVec Ideal S16384x1024 .f32) (W : FVec Ideal S1024x3596 .f32) : FVec Ideal Cert.Reference3Ideal.S16384x3596 .f32 :=
  Host.dotGeneral (F := Ideal) (φ₁ := .f32) (φ₂ := .f32)
    Cert.Reference3Ideal.dot_S16384x1024_S1024x3596_S16384x3596_1_0_0_1_n_n none X W

/-- The columns from 1536 on, padded with zeros: the reference's first result. -/
abbrev after (X : FVec Ideal S16384x1024 .f32) (W : FVec Ideal S1024x3596 .f32) : FVec Ideal S16384x2176 .f32 :=
  pad Cert.Reference3Ideal.S16384x2176 ![0, 0] ![0, 116] ![0, 0]
    (extractStridedSlice Cert.Reference3Ideal.S16384x2060 ![0, 1536] (product X W)
      Cert.Reference3Ideal.Gen.slices_S16384x3596_S16384x2060_0_1536)
    (sitofp (F := Ideal) .f32 (constantI Cert.Reference3Ideal.S_ 32 0#32))
    Cert.Reference3Ideal.Gen.pads_S16384x2060_S16384x2176_000_01160 Cert.Reference3Ideal.Gen.h_S_

/-- The first 1536 columns, transposed: the reference's second result. -/
abbrev before (X : FVec Ideal S16384x1024 .f32) (W : FVec Ideal S1024x3596 .f32) : FVec Ideal S1536x16384 .bf16 :=
  truncf .bf16 (transpose Cert.Reference3Ideal.S1536x16384 [1, 0]
    (extractStridedSlice Cert.Reference3Ideal.S16384x1536 ![0, 0] (product X W)
      Cert.Reference3Ideal.Gen.slices_S16384x3596_S16384x1536_0_0)
    Cert.Reference3Ideal.Gen.transposes_S16384x1536_S1536x16384_1_0) Cert.Reference3Ideal.Gen.bitsLt_bf16_f32

/-- Point `t` reads rows `512 t …` of the tokens and all the weights; it writes rows `512 t …` of the first result and
    columns `512 t …` of the second. -/
theorem index_maps : ∀ t : Fin cfg0.N, win0_0.index t = ![t.val, 0] ∧ win0_1.index t = ![0, 0]
    ∧ win0_2.index t = ![0, 0] ∧ win0_3.index t = ![t.val, 0] ∧ win0_4.index t = ![0, t.val] :=
  (by decide +kernel : ∀ t : Fin grid0.N, _)

/-- The tokens' block. -/
theorem tokens (c : Dev nD) (t : Fin cfg0.N) (r : Fin 512) (k : Fin 1024) (R : Fin 16384) (hR : R.val = t.val * 512 + r.val) :
    (show FVec Ideal S512x1024 .f32 from iblk m c 0 t) (ix2 r k)
      = (show FVec Ideal S16384x1024 .f32 from m ((c : Thread nD τ).loc main_arg0)) (ix2 R k) := by
  blk_ext [iblk, V, index_maps t]

/-- The weights' first block: the columns from 1536 on, then zeros. -/
theorem weights (c : Dev nD) (t : Fin cfg0.N) (k : Fin 1024) (l : Fin 2176) :
    (show FVec Ideal S1024x2176 .bf16 from iblk m c 1 t) (ix2 k l)
      = if h : l.val < 2060 then
          (show FVec Ideal S1024x3596 .f32 from m ((c : Thread nD τ).loc main_arg1)) (ix2 k ⟨1536 + l.val, by omega⟩)
        else 0 := by
  have e : (show FVec Ideal S1024x2176 .bf16 from iblk m c 1 t) (ix2 k l)
      = (show FVec Ideal S1024x2176 .bf16 from V m c main_v3) (ix2 k l) := by
    blk_ext [iblk, index_maps t]
  rw [e]
  entry_read
  pointwise

/-- The weights' second block: the first 1536 columns, transposed. -/
theorem weightsT (c : Dev nD) (t : Fin cfg0.N) (j : Fin 1536) (k : Fin 1024) :
    (show FVec Ideal S1536x1024 .bf16 from iblk m c 2 t) (ix2 j k)
      = (show FVec Ideal S1024x3596 .f32 from m ((c : Thread nD τ).loc main_arg1)) (ix2 k ⟨j.val, by omega⟩) := by
  have e : (show FVec Ideal S1536x1024 .bf16 from iblk m c 2 t) (ix2 j k)
      = (show FVec Ideal S1536x1024 .bf16 from V m c main_v6) (ix2 j k) := by
    blk_ext [iblk, index_maps t]
  rw [e]
  entry_read
  pointwise

/-- What point `t` stores in the first result at row `r`, column `l`. -/
theorem stored3 (c : Dev nD) (t : Fin cfg0.N) (r : Fin 512) (l : Fin 2176) (R : Fin 16384)
    (hR : R.val = t.val * 512 + r.val) :
    k0_pay2 (F := Ideal) (iblk m c 0 t) (iblk m c 1 t) (ix2 r l)
      = after (m ((c : Thread nD τ).loc main_arg0)) (m ((c : Thread nD τ).loc main_arg1)) (ix2 R l) := by
  have hx := fun k => tokens m c t r k R hR
  have hw := fun k => weights m c t k l
  pointwise [k0_pay2, k0_pay1, after, product]
  refine (Finset.sum_congr rfl fun k _ => congrArg₂ (· * ·) (hx k) (hw k)).trans ?_
  by_cases h : l.val < 2060
  · simp only [h, dif_pos]
  · simp only [h, dif_neg, not_false_eq_true]
    refine (Finset.sum_eq_zero fun k _ => mul_zero _).trans ?_
    show (0 : EReal) = (((0#32).toInt : ℝ) : EReal)
    simp

/-- What point `t` stores in the second result at row `j`, column `r`. -/
theorem stored4 (c : Dev nD) (t : Fin cfg0.N) (j : Fin 1536) (r : Fin 512) (R : Fin 16384)
    (hR : R.val = t.val * 512 + r.val) :
    k0_pay3 (F := Ideal) (iblk m c 0 t) (iblk m c 2 t) (ix2 j r)
      = before (m ((c : Thread nD τ).loc main_arg0)) (m ((c : Thread nD τ).loc main_arg1)) (ix2 j R) := by
  have hx := fun k => tokens m c t r k R hR
  have hw := fun k => weightsT m c t j k
  pointwise [k0_pay3, k0_pay1, before, product]
  exact Finset.sum_congr rfl fun k _ => (congrArg₂ (· * ·) (hw k) (hx k)).trans (mul_comm _ _)

/-- So the first result array ends at the reference's, -/
theorem result3 (c : Dev nD) : (dats m 0 c).arrAt 3 (cfgs 0).N
    = after (m ((c : Thread nD τ).loc main_arg0)) (m ((c : Thread nD τ).loc main_arg1)) := by
  refine (dats m 0 c).arrAt_eq_of_covers 3 _ (by decide +kernel) fun t _ y => ?_
  blk_simp
  rw [after0_3]; frame_out
  have ht : t.val < 32 := lt_of_lt_of_eq t.isLt N_0
  have hr : (y 0).val < 512 := (y 0).isLt
  obtain ⟨R, hR⟩ : ∃ R : Fin 16384, R.val = t.val * 512 + (y 0).val := ⟨⟨_, by omega⟩, rfl⟩
  have he : ((cfg0.win 3).blk t).view.emb y = ix2 R (y 1) := by
    blk_ext [index_maps t]
  refine (congrArg _ (eq_ix2 y)).trans ((stored3 m c t (y 0) (y 1) R hR).trans (congrArg _ he.symm))

/-- and the second. -/
theorem result4 (c : Dev nD) : (dats m 0 c).arrAt 4 (cfgs 0).N
    = before (m ((c : Thread nD τ).loc main_arg0)) (m ((c : Thread nD τ).loc main_arg1)) := by
  refine (dats m 0 c).arrAt_eq_of_covers 4 _ (by decide +kernel) fun t _ y => ?_
  blk_simp
  rw [after0_4]; frame_out
  have ht : t.val < 32 := lt_of_lt_of_eq t.isLt N_0
  have hr : (y 1).val < 512 := (y 1).isLt
  obtain ⟨R, hR⟩ : ∃ R : Fin 16384, R.val = t.val * 512 + (y 1).val := ⟨⟨_, by omega⟩, rfl⟩
  have he : ((cfg0.win 4).blk t).view.emb y = ix2 (y 0) R := by
    blk_ext [index_maps t]
  refine (congrArg _ (eq_ix2 y)).trans ((stored4 m c t (y 0) (y 1) R hR).trans (congrArg _ he.symm))

end Cert.Proof.ProjT

/-- The projection of the even layers is the reference's product, cut, padded and transposed as it cuts it. -/
theorem Cert.Proof.ProjT.algebraic : Cert.algebraic_Kernel3Ideal_Reference3Ideal := by
  pair_intro
  · run_from Cert.Kernel3Ideal.Gen.run_main m g
  · hlo_run
    · exact (Cert.Proof.ProjT.result3 m c).symm
    · exact (Cert.Proof.ProjT.result4 m c).symm

end
-- ==== Proof.Rows.lean ====
/-
  One row of the layer's closing calls, as plain functions over the extended reals: the layer norm, the gated
  root-mean-square norm of a mixer's head, the squared-ReLU block, and how they compose. Both programs compute these
  functions row by row; the modules that read the programs' results compare them at these.
-/
module

public import Idealize.ShloMosaic.Lib.Pipeline.ValueKit

@[expose] public section

noncomputable section

open Idealize.ShloMosaic

namespace Cert.Proof.Rows

/-- A constant of the programs, given by its word. -/
abbrev word (b : BitVec 32) : EReal := Ideal.ofBits .f32 b

/-- A row less its mean. -/
def centred (x : Fin 1024 → EReal) (l : Fin 1024) : EReal :=
  x l - Ideal.div (∑ k, x k) (word 0x44800000#32)

/-- A centred row, scaled to variance one, then by `g` and shifted by `b`. -/
def scaled (x g b : Fin 1024 → EReal) (l : Fin 1024) : EReal :=
  x l * Ideal.rsqrt (Ideal.div (∑ k, x k * x k) (word 0x44800000#32) + word 0x3727C5AC#32) * g l + b l

/-- The layer norm of a row. -/
def norm (x g b : Fin 1024 → EReal) : Fin 1024 → EReal := scaled (centred x) g b

/-- A residual row: the row times the residual weight, plus what the branch adds. -/
def residual (x y : Fin 1024 → EReal) (l : Fin 1024) : EReal := word 0x3FB504F3#32 * x l + y l

/-- The hidden units of the squared-ReLU block, before the square. -/
def hidden (x : Fin 1024 → EReal) (W : Fin 1024 → Fin 4096 → EReal) (j : Fin 4096) : EReal :=
  max (∑ k, x k * W k j) 0

/-- The squared-ReLU block. -/
def block (x : Fin 1024 → EReal) (W₁ : Fin 1024 → Fin 4096 → EReal) (W₂ : Fin 4096 → Fin 1024 → EReal) (l : Fin 1024) :
    EReal :=
  ∑ j, hidden x W₁ j * hidden x W₁ j * W₂ j l

/-- What follows the mixers in a layer. -/
def rest (x mix g₀ b₀ g₁ b₁ : Fin 1024 → EReal) (W₁ : Fin 1024 → Fin 4096 → EReal) (W₂ : Fin 4096 → Fin 1024 → EReal) :
    Fin 1024 → EReal :=
  norm (residual (norm (residual x mix) g₀ b₀) (block (norm (residual x mix) g₀ b₀) W₁ W₂)) g₁ b₁

/-- The gate `z / (1 + e^(-z))`. -/
def gate (z : EReal) : EReal := z * Ideal.div 1 (1 + Ideal.exp (-z))

/-- One head of a mixer: root-mean-square norm with weights `w`, times the gate of `z`. -/
def head (o w z : Fin 128 → EReal) (k : Fin 128) : EReal :=
  o k * Ideal.rsqrt (Ideal.div (∑ j, o j * o j) (word 0x43000000#32) + word 0x358637BD#32) * w k * gate (z k)

/-- Column `k` of head `h` among the 512 columns of four heads. -/
def col (h : Fin 4) (k : Fin 128) : Fin 512 := ⟨h.val * 128 + k.val, by omega⟩

/-- What head `h` adds to the output row. -/
def added (o w z : Fin 512 → EReal) (nw : Fin 128 → EReal) (h : Fin 4) : EReal :=
  ∑ k : Fin 128, head (fun k => o (col h k)) nw (fun k => z (col h k)) k * w (col h k)

/-- The mixers' outputs times the output weights, at one column. -/
def mixed (y wy o z w : Fin 512 → EReal) (nw : Fin 128 → EReal) : EReal :=
  (∑ k, y k * wy k) + added o w z nw 0 + added o w z nw 1 + added o w z nw 2 + added o w z nw 3

theorem col_div (h : Fin 4) (k : Fin 128) (p) : (⟨(col h k).val / 128, p⟩ : Fin 4) = h := by
  apply Fin.ext; simp only [col]; omega

theorem col_mod (h : Fin 4) (k : Fin 128) (p) : (⟨(col h k).val % 128, p⟩ : Fin 128) = k := by
  apply Fin.ext; simp only [col]; omega

/-- A sum over 512 columns, head by head. -/
theorem sum_heads (f : Fin 512 → EReal) :
    ∑ k, f k = (∑ k, f (col 0 k)) + (∑ k, f (col 1 k)) + (∑ k, f (col 2 k)) + ∑ k, f (col 3 k) := by
  have e : ∑ k, f k = ∑ p : Fin 4 × Fin 128, f (col p.1 p.2) := by
    refine (Fintype.sum_equiv ⟨fun p : Fin 4 × Fin 128 => col p.1 p.2,
      fun k => (⟨k.val / 128, by omega⟩, ⟨k.val % 128, by omega⟩), fun p => ?_, fun k => ?_⟩ _ _ fun p => rfl).symm
    · apply Prod.ext <;> apply Fin.ext <;> simp only [col] <;> omega
    · apply Fin.ext; simp only [col]; omega
  rw [e, Fintype.sum_prod_type, Fin.sum_univ_four]

/-- A sum over 1024 columns as the sum over the first 512 plus the sum over the others. -/
theorem sum_halves (f : Fin 1024 → EReal) :
    ∑ k, f k = (∑ k : Fin 512, f ⟨k.val, by omega⟩) + ∑ k : Fin 512, f ⟨512 + k.val, by omega⟩ :=
  Fin.sum_univ_add (M := EReal) (a := 512) (b := 512) f

end Cert.Proof.Rows

end
-- ==== Proof.RefEven.lean ====
/-
  The reference of the call that closes an even layer, at a row and a column: the row function of `Rows` of that row of
  the arrays.
-/
module

public import proofs.«01_k».proof.Proof.Gen.Reference4Ideal.Run
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Cert.Proof.Rows

namespace Cert.Proof.RefEven

open Cert.Reference4Ideal Cert.Reference4Ideal.Gen Cert.Reference4Ideal.Value

variable (V0 : Valuation τ sig (Elt Ideal))

/-- The two directions' outputs added, head by head. -/
theorem v1_at (R : Fin 16384) (h : Fin 4) (k : Fin 128) :
    (show FVec Ideal S16384x4x128 .f32 from res_main_v1 V0) (ix3 R h k)
      = (show FVec Ideal S16384x512 .f32 from V0 (Proc.devRef .tc main_arg2)) (ix2 R (col h k))
        + (show FVec Ideal S16384x512 .f32 from V0 (Proc.devRef .tc main_arg3)) (ix2 R (col h k)) := by
  pointwise [res_main_v1]
  rfl

/-- The gate's argument, head by head. -/
theorem v16_at (R : Fin 16384) (h : Fin 4) (k : Fin 128) :
    (show FVec Ideal S16384x4x128 .f32 from res_main_v16 V0) (ix3 R h k)
      = (show FVec Ideal S16384x2176 .f32 from V0 (Proc.devRef .tc main_arg4)) (ix2 R ⟨1536 + (col h k).val, by omega⟩) := by
  pointwise [res_main_v16]
  rfl

/-- The row the first norm takes: the residual plus the mixers' outputs times the output weights. -/
theorem v32_at (R : Fin 16384) (l : Fin 1024) :
    (show FVec Ideal S16384x1024 .f32 from res_main_v32 V0) (ix2 R l)
      = residual (fun l => (show FVec Ideal S16384x1024 .f32 from V0 (Proc.devRef .tc main_arg0)) (ix2 R l))
          (fun l => mixed
            (fun k => (show FVec Ideal S512x16384 .bf16 from V0 (Proc.devRef .tc main_arg1)) (ix2 k R))
            (fun k => (show FVec Ideal S1024x1024 .f32 from V0 (Proc.devRef .tc main_arg6)) (ix2 ⟨k.val, by omega⟩ l))
            (fun k => (show FVec Ideal S16384x512 .f32 from V0 (Proc.devRef .tc main_arg2)) (ix2 R k)
              + (show FVec Ideal S16384x512 .f32 from V0 (Proc.devRef .tc main_arg3)) (ix2 R k))
            (fun k => (show FVec Ideal S16384x2176 .f32 from V0 (Proc.devRef .tc main_arg4)) (ix2 R ⟨1536 + k.val, by omega⟩))
            (fun k => (show FVec Ideal S1024x1024 .f32 from V0 (Proc.devRef .tc main_arg6)) (ix2 ⟨512 + k.val, by omega⟩ l))
            (fun k => (show FVec Ideal S128 .f32 from V0 (Proc.devRef .tc main_arg5)) (ix1 k))) l := by
  have h₁ := v1_at V0 R
  have h₂ := v16_at V0 R
  pointwise [res_main_v32]
  refine (congrArg (fun s => _ + (_ + s)) (sum_heads _)).trans ?_
  simp only [col_div, col_mod, h₁, h₂]
  simp only [Rows.residual, mixed, added, head, gate, add_assoc]

theorem v42_at (R : Fin 16384) (l : Fin 1024) :
    (show FVec Ideal S16384x1024 .f32 from res_main_v42 V0) (ix2 R l)
      = centred (fun l => (show FVec Ideal S16384x1024 .f32 from res_main_v32 V0) (ix2 R l)) l := by
  pointwise [res_main_v42]
  rfl

theorem v58_at (R : Fin 16384) (l : Fin 1024) :
    (show FVec Ideal S16384x1024 .f32 from res_main_v58 V0) (ix2 R l)
      = norm (fun l => (show FVec Ideal S16384x1024 .f32 from res_main_v32 V0) (ix2 R l))
          (fun l => (show FVec Ideal S2x1024 .f32 from V0 (Proc.devRef .tc main_arg7)) (ix2 0 l))
          (fun l => (show FVec Ideal S2x1024 .f32 from V0 (Proc.devRef .tc main_arg8)) (ix2 0 l)) l := by
  have h := v42_at V0 R
  pointwise [res_main_v58]
  simp only [h]
  rfl

theorem v66_at (R : Fin 16384) (l : Fin 1024) :
    (show FVec Ideal S16384x1024 .f32 from res_main_v66 V0) (ix2 R l)
      = residual (fun l => (show FVec Ideal S16384x1024 .f32 from res_main_v58 V0) (ix2 R l))
          (block (fun l => (show FVec Ideal S16384x1024 .f32 from res_main_v58 V0) (ix2 R l))
            (fun k j => (show FVec Ideal S1024x4096 .f32 from V0 (Proc.devRef .tc main_arg9)) (ix2 k j))
            (fun j l => (show FVec Ideal S4096x1024 .f32 from V0 (Proc.devRef .tc main_arg10)) (ix2 j l))) l := by
  pointwise [res_main_v66, res_main_v63]
  rfl

theorem v76_at (R : Fin 16384) (l : Fin 1024) :
    (show FVec Ideal S16384x1024 .f32 from res_main_v76 V0) (ix2 R l)
      = centred (fun l => (show FVec Ideal S16384x1024 .f32 from res_main_v66 V0) (ix2 R l)) l := by
  pointwise [res_main_v76]
  rfl

/-- The reference's result. -/
abbrev last : FVec Ideal S16384x1024 .f32 :=
  addf (mulf (mulf (res_main_v76 V0) (broadcastInDim S16384x1024 ![0, 1] bcast_S16384x1_S16384x1024_0_1 (Host.rsqrt (addf (Host.divf (broadcastInDim S16384x1 ![0] bcast_S16384_S16384x1_0 (Host.reduceAdd (mulf (res_main_v76 V0) (res_main_v76 V0)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 (shapeCast _ (extractStridedSlice S1x1024 ![1, 0] (V0 (Proc.devRef .tc main_arg7)) slices_S2x1024_S1x1024_1_0) shapeCasts_S1x1024_S1024)))) (broadcastInDim S16384x1024 ![0, 1] bcast_S1x1024_S16384x1024_0_1 (broadcastInDim S1x1024 ![1] bcast_S1024_S1x1024_1 (shapeCast _ (extractStridedSlice S1x1024 ![1, 0] (V0 (Proc.devRef .tc main_arg8)) slices_S2x1024_S1x1024_1_0) shapeCasts_S1x1024_S1024)))

theorem last_at (R : Fin 16384) (l : Fin 1024) :
    last V0 (ix2 R l)
      = norm (fun l => (show FVec Ideal S16384x1024 .f32 from res_main_v66 V0) (ix2 R l))
          (fun l => (show FVec Ideal S2x1024 .f32 from V0 (Proc.devRef .tc main_arg7)) (ix2 1 l))
          (fun l => (show FVec Ideal S2x1024 .f32 from V0 (Proc.devRef .tc main_arg8)) (ix2 1 l)) l := by
  have h := v76_at V0 R
  pointwise
  simp only [h]
  rfl

end Cert.Proof.RefEven

namespace Cert.Proof.RefEven

open Cert.Reference4Ideal Cert.Reference4Ideal.Gen Cert.Reference4Ideal.Value

/-- The layer's output at row `R`, column `l`, from the arrays. -/
def even (x : FVec Ideal S16384x1024 .f32) (y : FVec Ideal S512x16384 .bf16) (o o' : FVec Ideal S16384x512 .f32)
    (z : FVec Ideal S16384x2176 .f32) (nw : FVec Ideal S128 .f32) (w : FVec Ideal S1024x1024 .f32)
    (g b : FVec Ideal S2x1024 .f32) (W₁ : FVec Ideal S1024x4096 .f32) (W₂ : FVec Ideal S4096x1024 .f32)
    (R : Fin 16384) : Fin 1024 → EReal :=
  rest (fun l => x (ix2 R l))
    (fun l => mixed (fun k => y (ix2 k R)) (fun k => w (ix2 ⟨k.val, by omega⟩ l)) (fun k => o (ix2 R k) + o' (ix2 R k))
      (fun k => z (ix2 R ⟨1536 + k.val, by omega⟩)) (fun k => w (ix2 ⟨512 + k.val, by omega⟩ l)) (fun k => nw (ix1 k)))
    (fun l => g (ix2 0 l)) (fun l => b (ix2 0 l)) (fun l => g (ix2 1 l)) (fun l => b (ix2 1 l))
    (fun k j => W₁ (ix2 k j)) (fun j l => W₂ (ix2 j l))

theorem last_eq (V0 : Valuation τ sig (Elt Ideal)) (R : Fin 16384) (l : Fin 1024) :
    last V0 (ix2 R l) = even (V0 (Proc.devRef .tc main_arg0)) (V0 (Proc.devRef .tc main_arg1))
      (V0 (Proc.devRef .tc main_arg2)) (V0 (Proc.devRef .tc main_arg3)) (V0 (Proc.devRef .tc main_arg4))
      (V0 (Proc.devRef .tc main_arg5)) (V0 (Proc.devRef .tc main_arg6)) (V0 (Proc.devRef .tc main_arg7))
      (V0 (Proc.devRef .tc main_arg8)) (V0 (Proc.devRef .tc main_arg9)) (V0 (Proc.devRef .tc main_arg10)) R l := by
  have h₃ := funext (v32_at V0 R)
  have h₅ := funext (v58_at V0 R)
  have h₆ := funext (v66_at V0 R)
  rw [last_at, h₆, h₅, h₃]
  rfl

end Cert.Proof.RefEven

end
-- ==== Proof.OutEven.lean ====
/-
  The call that closes an even layer, one block of 512 rows: what the body stores at a row and a column is the row
  function of `Rows` of that row of its blocks.
-/
module

public import proofs.«01_k».proof.Defs
public import proofs.«01_k».proof.Proof.Gen.Kernel4Ideal.Value
public import proofs.«01_k».proof.Proof.Gen.Reference4Ideal.Run
public import proofs.«01_k».proof.Proof.Rows
public import proofs.«01_k».proof.Proof.RefEven
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Proof.Rows

namespace Cert.Proof.OutEven

open Cert.Kernel4Ideal Cert.Kernel4Ideal.Gen

/-! ## The kernel's payloads at an index -/

theorem pay3_at (v0 : Vec Ideal S512x512 .bf16) (v1 : Vec Ideal S512x1024 .bf16) (v4 : Vec Ideal S1x128 .f32)
    (v6 v7 v21 : Vec Ideal S512x128 .f32) (v31 : Vec Ideal S128x1024 .bf16) (r : Fin 512) (l : Fin 1024) :
    k0_pay3 v0 v1 v4 v6 v7 v21 v31 (ix2 r l)
      = (∑ k : Fin 512, v0 (ix2 k r) * v1 (ix2 k l))
        + ∑ k : Fin 128, head (fun k => v6 (ix2 r k) + v7 (ix2 r k)) (fun k => v4 (ix2 0 k)) (fun k => v21 (ix2 r k)) k
            * v31 (ix2 k l) := by
  pointwise [k0_pay3, k0_pay2, head, gate, zero_sub]

theorem pay4_at (v4 : Vec Ideal S1x128 .f32) (v35 : Vec Ideal S512x1024 .f32)
    (v36 v37 v51 : Vec Ideal S512x128 .f32) (v61 : Vec Ideal S128x1024 .bf16) (r : Fin 512) (l : Fin 1024) :
    k0_pay4 (k0_pay2 v4) v35 v36 v37 v51 v61 (ix2 r l)
      = v35 (ix2 r l)
        + ∑ k : Fin 128, head (fun k => v36 (ix2 r k) + v37 (ix2 r k)) (fun k => v4 (ix2 0 k)) (fun k => v51 (ix2 r k)) k
            * v61 (ix2 k l) := by
  pointwise [k0_pay4, k0_pay2, head, gate, zero_sub]

theorem pay8_at (v4 : Vec Ideal S1x128 .f32) (v65 : Vec Ideal S512x1024 .f32)
    (v66 v67 v81 : Vec Ideal S512x128 .f32) (v91 : Vec Ideal S128x1024 .bf16) (r : Fin 512) (l : Fin 1024) :
    k0_pay8 (k0_pay2 v4) v65 (k0_pay5 v66 v67) (k0_pay6 v66 v67) k0_pay7 v81 v91 (ix2 r l)
      = v65 (ix2 r l)
        + ∑ k : Fin 128, head (fun k => v66 (ix2 r k) + v67 (ix2 r k)) (fun k => v4 (ix2 0 k)) (fun k => v81 (ix2 r k)) k
            * v91 (ix2 k l) := by
  pointwise [k0_pay8, k0_pay5, k0_pay6, k0_pay7, k0_pay2, head, gate, zero_sub]

/-- The last head, as the three payloads give it. -/
theorem head_at (v4 : Vec Ideal S1x128 .f32) (v96 v97 v111 : Vec Ideal S512x128 .f32) (r : Fin 512) (k : Fin 128) :
    k0_pay9 (k0_pay2 v4) v96 v97 (ix2 r k)
        * (v111 (ix2 r k) * Ideal.div 1 (k0_pay11 (F := Ideal) (ix2 r k) + k0_pay10 v111 (ix2 r k)))
      = head (fun k => v96 (ix2 r k) + v97 (ix2 r k)) (fun k => v4 (ix2 0 k)) (fun k => v111 (ix2 r k)) k := by
  pointwise [k0_pay9, k0_pay10, k0_pay11, k0_pay2, head, gate, zero_sub]

theorem pay12_at (v95 : FVec Ideal S512x1024 .f32) (v110 : FVec Ideal S512x128 .f32) (v111 : Vec Ideal S512x128 .f32)
    (v114 v115 : FVec Ideal S512x128 .f32) (v121 : Vec Ideal S128x1024 .bf16) (v126 : Vec Ideal S512x1024 .f32)
    (v130 v132 : Vec Ideal S1x1024 .f32) (r : Fin 512) (l : Fin 1024) :
    k0_pay12 v95 v110 v111 v114 v115 v121 v126 v130 v132 (ix2 r l)
      = norm (residual (fun l => v126 (ix2 r l)) (fun l => v95 (ix2 r l)
          + ∑ k : Fin 128, v110 (ix2 r k) * (v111 (ix2 r k) * Ideal.div 1 (v115 (ix2 r k) + v114 (ix2 r k)))
              * v121 (ix2 k l))) (fun l => v130 (ix2 0 l)) (fun l => v132 (ix2 0 l)) l := by
  pointwise [k0_pay12]
  rfl

theorem pay1_at (v153 : FVec Ideal S512x1024 .f32) (v154 : Vec Ideal S1024x4096 .bf16) (v156 : FVec Ideal S512x1024 .bf16)
    (v163 : Vec Ideal S4096x1024 .bf16) (v168 v170 : Vec Ideal S1x1024 .f32) (r : Fin 512) (l : Fin 1024) :
    k0_pay1 v153 (k0_pay13 v154) v156 (constant S512x4096 .f32 0x00000000#32) v163 v168 v170 (ix2 r l)
      = norm (residual (fun l => v153 (ix2 r l))
          (block (fun l => v156 (ix2 r l)) (fun k j => v154 (ix2 k j)) (fun j l => v163 (ix2 j l))))
        (fun l => v168 (ix2 0 l)) (fun l => v170 (ix2 0 l)) l := by
  pointwise [k0_pay1, k0_pay13]
  rfl

/-! ## A slice of a block at an index -/

theorem cols0 (x : Vec Ideal S512x512 .f32) (v : Vec Ideal S512x128 .f32)
    (hv : v = View.ld x (Rect.unit ![0, 0] ![512, 128] inb_S512x512_S512x128_0_0)) (r : Fin 512) (k : Fin 128) :
    v (ix2 r k) = x (ix2 r (col 0 k)) := by
  subst hv
  pointwise
  blk_ext [col]

theorem rows0 (x : Vec Ideal S512x1024 .bf16) (v : Vec Ideal S128x1024 .bf16)
    (hv : v = View.ld x (Rect.unit ![0, 0] ![128, 1024] inb_S512x1024_S128x1024_0_0)) (k : Fin 128) (l : Fin 1024) :
    v (ix2 k l) = x (ix2 (col 0 k) l) := by
  subst hv
  pointwise
  blk_ext [col]

theorem cols1 (x : Vec Ideal S512x512 .f32) (v : Vec Ideal S512x128 .f32)
    (hv : v = View.ld x (Rect.unit ![0, 128] ![512, 128] inb_S512x512_S512x128_0_128)) (r : Fin 512) (k : Fin 128) :
    v (ix2 r k) = x (ix2 r (col 1 k)) := by
  subst hv
  pointwise
  blk_ext [col]

theorem rows1 (x : Vec Ideal S512x1024 .bf16) (v : Vec Ideal S128x1024 .bf16)
    (hv : v = View.ld x (Rect.unit ![128, 0] ![128, 1024] inb_S512x1024_S128x1024_128_0)) (k : Fin 128) (l : Fin 1024) :
    v (ix2 k l) = x (ix2 (col 1 k) l) := by
  subst hv
  pointwise
  blk_ext [col]

theorem cols2 (x : Vec Ideal S512x512 .f32) (v : Vec Ideal S512x128 .f32)
    (hv : v = View.ld x (Rect.unit ![0, 256] ![512, 128] inb_S512x512_S512x128_0_256)) (r : Fin 512) (k : Fin 128) :
    v (ix2 r k) = x (ix2 r (col 2 k)) := by
  subst hv
  pointwise
  blk_ext [col]

theorem rows2 (x : Vec Ideal S512x1024 .bf16) (v : Vec Ideal S128x1024 .bf16)
    (hv : v = View.ld x (Rect.unit ![256, 0] ![128, 1024] inb_S512x1024_S128x1024_256_0)) (k : Fin 128) (l : Fin 1024) :
    v (ix2 k l) = x (ix2 (col 2 k) l) := by
  subst hv
  pointwise
  blk_ext [col]

theorem cols3 (x : Vec Ideal S512x512 .f32) (v : Vec Ideal S512x128 .f32)
    (hv : v = View.ld x (Rect.unit ![0, 384] ![512, 128] inb_S512x512_S512x128_0_384)) (r : Fin 512) (k : Fin 128) :
    v (ix2 r k) = x (ix2 r (col 3 k)) := by
  subst hv
  pointwise
  blk_ext [col]

theorem rows3 (x : Vec Ideal S512x1024 .bf16) (v : Vec Ideal S128x1024 .bf16)
    (hv : v = View.ld x (Rect.unit ![384, 0] ![128, 1024] inb_S512x1024_S128x1024_384_0)) (k : Fin 128) (l : Fin 1024) :
    v (ix2 k l) = x (ix2 (col 3 k) l) := by
  subst hv
  pointwise
  blk_ext [col]

/-! ## What the body stores -/

/-- The row after the first layer norm, as the body computes it. -/
def first (x0 : Vec Ideal S512x1024 .f32) (x1 : Vec Ideal S512x512 .bf16) (x2 x3 x4 : Vec Ideal S512x512 .f32) (x5 : Vec Ideal S1x128 .f32)
    (x6 x7 : Vec Ideal S512x1024 .bf16) (x8 x9 : Vec Ideal S1x1024 .f32) : FVec Ideal S512x1024 .f32 :=
  k0_pay12
        (k0_pay8 (k0_pay2 x5)
          (k0_pay4 (k0_pay2 x5)
            (k0_pay3 x1 x6 x5 (View.ld x2 (Rect.unit ![0, 0] ![512, 128] inb_S512x512_S512x128_0_0)) (View.ld x3 (Rect.unit ![0, 0] ![512, 128] inb_S512x512_S512x128_0_0))
              (View.ld x4 (Rect.unit ![0, 0] ![512, 128] inb_S512x512_S512x128_0_0)) (View.ld x7 (Rect.unit ![0, 0] ![128, 1024] inb_S512x1024_S128x1024_0_0)))
            (View.ld x2 (Rect.unit ![0, 128] ![512, 128] inb_S512x512_S512x128_0_128)) (View.ld x3 (Rect.unit ![0, 128] ![512, 128] inb_S512x512_S512x128_0_128))
            (View.ld x4 (Rect.unit ![0, 128] ![512, 128] inb_S512x512_S512x128_0_128)) (View.ld x7 (Rect.unit ![128, 0] ![128, 1024] inb_S512x1024_S128x1024_128_0)))
          (k0_pay5 (View.ld x2 (Rect.unit ![0, 256] ![512, 128] inb_S512x512_S512x128_0_256)) (View.ld x3 (Rect.unit ![0, 256] ![512, 128] inb_S512x512_S512x128_0_256)))
          (k0_pay6 (View.ld x2 (Rect.unit ![0, 256] ![512, 128] inb_S512x512_S512x128_0_256)) (View.ld x3 (Rect.unit ![0, 256] ![512, 128] inb_S512x512_S512x128_0_256)))
          k0_pay7 (View.ld x4 (Rect.unit ![0, 256] ![512, 128] inb_S512x512_S512x128_0_256)) (View.ld x7 (Rect.unit ![256, 0] ![128, 1024] inb_S512x1024_S128x1024_256_0)))
        (k0_pay9 (k0_pay2 x5) (View.ld x2 (Rect.unit ![0, 384] ![512, 128] inb_S512x512_S512x128_0_384)) (View.ld x3 (Rect.unit ![0, 384] ![512, 128] inb_S512x512_S512x128_0_384)))
        (View.ld x4 (Rect.unit ![0, 384] ![512, 128] inb_S512x512_S512x128_0_384)) (k0_pay10 (View.ld x4 (Rect.unit ![0, 384] ![512, 128] inb_S512x512_S512x128_0_384))) k0_pay11
        (View.ld x7 (Rect.unit ![384, 0] ![128, 1024] inb_S512x1024_S128x1024_384_0)) x0 x8 x9

/-- What a point stores, from its blocks. -/
def stored (x0 : Vec Ideal S512x1024 .f32) (x1 : Vec Ideal S512x512 .bf16) (x2 x3 x4 : Vec Ideal S512x512 .f32) (x5 : Vec Ideal S1x128 .f32)
    (x6 x7 : Vec Ideal S512x1024 .bf16) (x8 x9 : Vec Ideal S1x1024 .f32) (x10 : Vec Ideal S1024x4096 .bf16)
    (x11 : Vec Ideal S4096x1024 .bf16) (x12 x13 : Vec Ideal S1x1024 .f32) : FVec Ideal S512x1024 .f32 :=
  k0_pay1 (first x0 x1 x2 x3 x4 x5 x6 x7 x8 x9) (k0_pay13 x10) (first x0 x1 x2 x3 x4 x5 x6 x7 x8 x9)
    (constant S512x4096 .f32 0x00000000#32) x11 x12 x13

theorem first_at (x0 : Vec Ideal S512x1024 .f32) (x1 : Vec Ideal S512x512 .bf16) (x2 x3 x4 : Vec Ideal S512x512 .f32) (x5 : Vec Ideal S1x128 .f32)
    (x6 x7 : Vec Ideal S512x1024 .bf16) (x8 x9 : Vec Ideal S1x1024 .f32) (r : Fin 512) (l : Fin 1024) :
    first x0 x1 x2 x3 x4 x5 x6 x7 x8 x9 (ix2 r l)
      = norm (residual (fun l => x0 (ix2 r l)) (fun l => mixed (fun k => x1 (ix2 k r)) (fun k => x6 (ix2 k l))
          (fun k => x2 (ix2 r k) + x3 (ix2 r k)) (fun k => x4 (ix2 r k)) (fun k => x7 (ix2 k l)) (fun k => x5 (ix2 0 k))))
          (fun l => x8 (ix2 0 l)) (fun l => x9 (ix2 0 l)) l := by
  unfold first
  rw [pay12_at]
  have c0 := fun (x : Vec Ideal S512x512 .f32) r k => cols0 x _ rfl r k
  have r0 := fun k l => rows0 x7 _ rfl k l
  have c1 := fun (x : Vec Ideal S512x512 .f32) r k => cols1 x _ rfl r k
  have r1 := fun k l => rows1 x7 _ rfl k l
  have c2 := fun (x : Vec Ideal S512x512 .f32) r k => cols2 x _ rfl r k
  have r2 := fun k l => rows2 x7 _ rfl k l
  have c3 := fun (x : Vec Ideal S512x512 .f32) r k => cols3 x _ rfl r k
  have r3 := fun k l => rows3 x7 _ rfl k l
  have hh := fun (v4 : Vec Ideal S1x128 .f32) (r : Fin 512) (k : Fin 128) => head_at v4
    (View.ld x2 (Rect.unit ![0, 384] ![512, 128] inb_S512x512_S512x128_0_384))
    (View.ld x3 (Rect.unit ![0, 384] ![512, 128] inb_S512x512_S512x128_0_384))
    (View.ld x4 (Rect.unit ![0, 384] ![512, 128] inb_S512x512_S512x128_0_384)) r k
  simp only [pay8_at, pay4_at, pay3_at, hh, mixed, added]
  simp only [c0 x2, c0 x3, c0 x4, c1 x2, c1 x3, c1 x4, c2 x2, c2 x3, c2 x4,
    c3 x2, c3 x3, c3 x4, r0, r1, r2, r3]

theorem stored_at (x0 : Vec Ideal S512x1024 .f32) (x1 : Vec Ideal S512x512 .bf16) (x2 x3 x4 : Vec Ideal S512x512 .f32) (x5 : Vec Ideal S1x128 .f32)
    (x6 x7 : Vec Ideal S512x1024 .bf16) (x8 x9 : Vec Ideal S1x1024 .f32) (x10 : Vec Ideal S1024x4096 .bf16)
    (x11 : Vec Ideal S4096x1024 .bf16) (x12 x13 : Vec Ideal S1x1024 .f32) (r : Fin 512) (l : Fin 1024) :
    stored x0 x1 x2 x3 x4 x5 x6 x7 x8 x9 x10 x11 x12 x13 (ix2 r l)
      = rest (fun l => x0 (ix2 r l)) (fun l => mixed (fun k => x1 (ix2 k r)) (fun k => x6 (ix2 k l))
          (fun k => x2 (ix2 r k) + x3 (ix2 r k)) (fun k => x4 (ix2 r k)) (fun k => x7 (ix2 k l)) (fun k => x5 (ix2 0 k)))
          (fun l => x8 (ix2 0 l)) (fun l => x9 (ix2 0 l)) (fun l => x12 (ix2 0 l)) (fun l => x13 (ix2 0 l))
          (fun k j => x10 (ix2 k j)) (fun j l => x11 (ix2 j l)) l := by
  unfold stored
  rw [pay1_at]
  simp only [first_at]
  rfl

variable (m : (ℓ : Loc nD τ sig) → Buf (Elt Ideal) ℓ)

/-! ## The blocks of a point -/

/-- Point `t` reads rows `512 t …` of the tokens and of the mixers' outputs, columns `512 t …` of the transposed output,
    rows `512 t …` and columns from 1536 on of the projection, and all the weights. -/
theorem index_maps : ∀ t : Fin cfg0.N, win0_0.index t = ![t.val, 0] ∧ win0_1.index t = ![0, t.val]
    ∧ win0_2.index t = ![t.val, 0] ∧ win0_3.index t = ![t.val, 0] ∧ win0_4.index t = ![t.val, 3]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![0, 0] ∧ win0_14.index t = ![t.val, 0] :=
  (by decide +kernel : ∀ t : Fin grid0.N, _)

section
variable (c : Dev nD) (t : Fin cfg0.N) (r : Fin 512) (R : Fin 16384) (hR : R.val = t.val * 512 + r.val)
include hR

theorem blk0 (l : Fin 1024) : (show FVec Ideal S512x1024 .f32 from iblk m c 0 t) (ix2 r l)
    = (show FVec Ideal S16384x1024 .f32 from m ((c : Thread nD τ).loc main_arg0)) (ix2 R l) := by
  blk_ext [iblk, V, index_maps t]

theorem blk1 (k : Fin 512) : (show FVec Ideal S512x512 .bf16 from iblk m c 1 t) (ix2 k r)
    = (show FVec Ideal S512x16384 .bf16 from m ((c : Thread nD τ).loc main_arg1)) (ix2 k R) := by
  blk_ext [iblk, V, index_maps t]

theorem blk2 (k : Fin 512) : (show FVec Ideal S512x512 .f32 from iblk m c 2 t) (ix2 r k)
    = (show FVec Ideal S16384x512 .f32 from m ((c : Thread nD τ).loc main_arg2)) (ix2 R k) := by
  blk_ext [iblk, V, index_maps t]

theorem blk3 (k : Fin 512) : (show FVec Ideal S512x512 .f32 from iblk m c 3 t) (ix2 r k)
    = (show FVec Ideal S16384x512 .f32 from m ((c : Thread nD τ).loc main_arg3)) (ix2 R k) := by
  blk_ext [iblk, V, index_maps t]

theorem blk4 (k : Fin 512) : (show FVec Ideal S512x512 .f32 from X0_4 m c t) (ix2 r k)
    = (show FVec Ideal S16384x2176 .f32 from m ((c : Thread nD τ).loc main_arg4)) (ix2 R ⟨1536 + k.val, by omega⟩) := by
  show X0_4 m c t (ix2 r k) = _
  unfold X0_4 Pipeline.Window.fill
  rw [dif_pos (moved0_4 t _)]
  blk_ext [iblk, V, index_maps t]

end

section
variable (c : Dev nD) (t : Fin cfg0.N)

theorem blk5 (k : Fin 128) : (show FVec Ideal S1x128 .f32 from iblk m c 5 t) (ix2 0 k)
    = (show FVec Ideal S128 .f32 from m ((c : Thread nD τ).loc main_arg5)) (ix1 k) := by
  have e : (show FVec Ideal S1x128 .f32 from iblk m c 5 t) (ix2 0 k)
      = (show FVec Ideal S1x128 .f32 from V m c main_v8) (ix2 0 k) := by
    blk_ext [iblk, index_maps t]
  rw [e]
  entry_read
  pointwise

theorem blk6 (k : Fin 512) (l : Fin 1024) : (show FVec Ideal S512x1024 .bf16 from iblk m c 6 t) (ix2 k l)
    = (show FVec Ideal S1024x1024 .f32 from m ((c : Thread nD τ).loc main_arg6)) (ix2 ⟨k.val, by omega⟩ l) := by
  have e : (show FVec Ideal S512x1024 .bf16 from iblk m c 6 t) (ix2 k l)
      = (show FVec Ideal S512x1024 .bf16 from V m c main_v10) (ix2 k l) := by
    blk_ext [iblk, index_maps t]
  rw [e]
  entry_read
  pointwise

theorem blk7 (k : Fin 512) (l : Fin 1024) : (show FVec Ideal S512x1024 .bf16 from iblk m c 7 t) (ix2 k l)
    = (show FVec Ideal S1024x1024 .f32 from m ((c : Thread nD τ).loc main_arg6)) (ix2 ⟨512 + k.val, by omega⟩ l) := by
  have e : (show FVec Ideal S512x1024 .bf16 from iblk m c 7 t) (ix2 k l)
      = (show FVec Ideal S512x1024 .bf16 from V m c main_v12) (ix2 k l) := by
    blk_ext [iblk, index_maps t]
  rw [e]
  entry_read
  pointwise

theorem blk8 (l : Fin 1024) : (show FVec Ideal S1x1024 .f32 from iblk m c 8 t) (ix2 0 l)
    = (show FVec Ideal S2x1024 .f32 from m ((c : Thread nD τ).loc main_arg7)) (ix2 0 l) := by
  have e : (show FVec Ideal S1x1024 .f32 from iblk m c 8 t) (ix2 0 l)
      = (show FVec Ideal S1x1024 .f32 from V m c main_v15) (ix2 0 l) := by
    blk_ext [iblk, index_maps t]
  rw [e]
  entry_read
  pointwise

theorem blk9 (l : Fin 1024) : (show FVec Ideal S1x1024 .f32 from iblk m c 9 t) (ix2 0 l)
    = (show FVec Ideal S2x1024 .f32 from m ((c : Thread nD τ).loc main_arg8)) (ix2 0 l) := by
  have e : (show FVec Ideal S1x1024 .f32 from iblk m c 9 t) (ix2 0 l)
      = (show FVec Ideal S1x1024 .f32 from V m c main_v18) (ix2 0 l) := by
    blk_ext [iblk, index_maps t]
  rw [e]
  entry_read
  pointwise

theorem blk10 (k : Fin 1024) (j : Fin 4096) : (show FVec Ideal S1024x4096 .bf16 from iblk m c 10 t) (ix2 k j)
    = (show FVec Ideal S1024x4096 .f32 from m ((c : Thread nD τ).loc main_arg9)) (ix2 k j) := by
  have e : (show FVec Ideal S1024x4096 .bf16 from iblk m c 10 t) (ix2 k j)
      = (show FVec Ideal S1024x4096 .bf16 from V m c main_v0) (ix2 k j) := by
    blk_ext [iblk, index_maps t]
  rw [e]
  entry_read
  pointwise

theorem blk11 (j : Fin 4096) (l : Fin 1024) : (show FVec Ideal S4096x1024 .bf16 from iblk m c 11 t) (ix2 j l)
    = (show FVec Ideal S4096x1024 .f32 from m ((c : Thread nD τ).loc main_arg10)) (ix2 j l) := by
  have e : (show FVec Ideal S4096x1024 .bf16 from iblk m c 11 t) (ix2 j l)
      = (show FVec Ideal S4096x1024 .bf16 from V m c main_v1) (ix2 j l) := by
    blk_ext [iblk, index_maps t]
  rw [e]
  entry_read
  pointwise

theorem blk12 (l : Fin 1024) : (show FVec Ideal S1x1024 .f32 from iblk m c 12 t) (ix2 0 l)
    = (show FVec Ideal S2x1024 .f32 from m ((c : Thread nD τ).loc main_arg7)) (ix2 1 l) := by
  have e : (show FVec Ideal S1x1024 .f32 from iblk m c 12 t) (ix2 0 l)
      = (show FVec Ideal S1x1024 .f32 from V m c main_v4) (ix2 0 l) := by
    blk_ext [iblk, index_maps t]
  rw [e]
  entry_read
  pointwise

theorem blk13 (l : Fin 1024) : (show FVec Ideal S1x1024 .f32 from iblk m c 13 t) (ix2 0 l)
    = (show FVec Ideal S2x1024 .f32 from m ((c : Thread nD τ).loc main_arg8)) (ix2 1 l) := by
  have e : (show FVec Ideal S1x1024 .f32 from iblk m c 13 t) (ix2 0 l)
      = (show FVec Ideal S1x1024 .f32 from V m c main_v7) (ix2 0 l) := by
    blk_ext [iblk, index_maps t]
  rw [e]
  entry_read
  pointwise

end

/-- What point `t` stores at row `r`, column `l` of its block. -/
theorem block_at (c : Dev nD) (t : Fin cfg0.N) (r : Fin 512) (l : Fin 1024) (R : Fin 16384) (hR : R.val = t.val * 512 + r.val) :
    stored (iblk m c 0 t) (iblk m c 1 t) (iblk m c 2 t) (iblk m c 3 t) (X0_4 m c t) (iblk m c 5 t) (iblk m c 6 t)
        (iblk m c 7 t) (iblk m c 8 t) (iblk m c 9 t) (iblk m c 10 t) (iblk m c 11 t) (iblk m c 12 t) (iblk m c 13 t)
        (ix2 r l)
      = RefEven.even (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) R l := by
  have h₀ := blk0 m c t r R hR
  have h₁ := blk1 m c t r R hR
  have h₂ := blk2 m c t r R hR
  have h₃ := blk3 m c t r R hR
  have h₄ := blk4 m c t r R hR
  have h₅ := blk5 m c t
  have h₆ := blk6 m c t
  have h₇ := blk7 m c t
  have h₈ := blk8 m c t
  have h₉ := blk9 m c t
  have h₁₀ := blk10 m c t
  have h₁₁ := blk11 m c t
  have h₁₂ := blk12 m c t
  have h₁₃ := blk13 m c t
  rw [stored_at]
  simp only [h₀, h₁, h₂, h₃, h₄, h₅, h₆, h₇, h₈, h₉, h₁₀, h₁₁, h₁₂, h₁₃]
  rfl

/-- So the result array ends at the layer's output. -/
theorem result (c : Dev nD) : (dats m 0 c).arrAt 14 (cfgs 0).N
    = fun i => RefEven.even (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0) (i 1) := by
  refine (dats m 0 c).arrAt_eq_of_covers 14 _ (by decide +kernel) fun t _ y => ?_
  blk_simp
  rw [after0_14]; unfold outsAt0; frame_out
  have ht : t.val < 32 := lt_of_lt_of_eq t.isLt N_0
  have hr : (y 0).val < 512 := (y 0).isLt
  obtain ⟨R, hR⟩ : ∃ R : Fin 16384, R.val = t.val * 512 + (y 0).val := ⟨⟨_, by omega⟩, rfl⟩
  have he : ((cfg0.win 14).blk t).view.emb y = ix2 R (y 1) := by
    blk_ext [index_maps t]
  rw [he]
  exact (congrArg _ (eq_ix2 y)).trans (block_at m c t (y 0) (y 1) R hR)

end Cert.Proof.OutEven

set_option maxHeartbeats 1600000 in
/-- The call that closes an even layer gives what its reference gives. -/
theorem Cert.Proof.OutEven.algebraic : Cert.algebraic_Kernel4Ideal_Reference4Ideal := by
  pair_intro
  · run_from Cert.Kernel4Ideal.Gen.run_main m g
  · run_from Cert.Reference4Ideal.Value.run m' g'
    obtain ⟨h0, h1, h2, h3, h4, h5, h6, h7, h8, h9, h10⟩ := hagree c
    rw [← h7, ← h8, Cert.Proof.OutEven.result m c]
    refine (show _ = Cert.Proof.RefEven.last (StableHlo.launchContents m' c) from rfl).trans ?_
    funext i
    refine (congrArg _ (eq_ix2 i)).trans ((Cert.Proof.RefEven.last_eq _ (i 0) (i 1)).trans ?_)
    rw [← h0, ← h1, ← h2, ← h3, ← h4, ← h5, ← h6, ← h7, ← h8, ← h9, ← h10]

end
-- ==== Proof.Groups.lean ====
/-
  The group norm of the RWKV-7 mixer, over the heads of 64 lanes each. The kernel sums a head's lanes by multiplying
  with the matrix of ones on the heads' diagonal blocks, takes the mean's operand in three parts (the value, what the
  value leaves, and what that leaves) and multiplies by 1/64; the reference sums the lanes and divides by 64. On finite
  lanes the later parts are zero. Where some lane of a head is infinite, both programs centre the head to infinities
  and scale by zero.
-/
module

public import proofs.«01_k».proof.Proof.Rows

@[expose] public section

noncomputable section

open Idealize.ShloMosaic

namespace Cert.Proof.Rows

/-- Lane `k` of the head of lane `j`. -/
def lane (j : Fin 512) (k : Fin 64) : Fin 512 := ⟨j.val / 64 * 64 + k.val, by omega⟩

/-- A sum over the head of lane `j`. -/
def headSum (f : Fin 512 → EReal) (j : Fin 512) : EReal := ∑ k, f (lane j k)

theorem lane_lane (j : Fin 512) (k l : Fin 64) : lane (lane j k) l = lane j l := by
  apply Fin.ext; simp only [lane]; omega

theorem headSum_lane (f : Fin 512 → EReal) (j : Fin 512) (k : Fin 64) : headSum f (lane j k) = headSum f j := by
  simp only [headSum, lane_lane]

theorem self_lane (j : Fin 512) : ∃ k, lane j k = j :=
  ⟨⟨j.val % 64, by omega⟩, by apply Fin.ext; simp only [lane]; omega⟩

/-- A product with the matrix of ones on the diagonal blocks is a sum over the head. -/
theorem sum_diagonal (f w : Fin 512 → EReal) (j : Fin 512)
    (hw : ∀ k : Fin 512, w k = if k.val / 64 = j.val / 64 then 1 else 0) : ∑ k, f k * w k = headSum f j := by
  have h : ∀ k, f k * w k = if k.val / 64 = j.val / 64 then f k else 0 := fun k => by
    rw [hw k]; split <;> simp
  rw [Finset.sum_congr rfl fun k _ => h k, ← Finset.sum_filter]
  refine (Finset.sum_nbij (fun k => lane j k) ?_ ?_ ?_ fun k _ => rfl).symm
  · intro k _
    rw [Finset.mem_filter]
    refine ⟨Finset.mem_univ _, ?_⟩
    simp only [lane]; omega
  · intro k _ l _ h
    have := congrArg Fin.val h
    simp only [lane] at this
    apply Fin.ext; omega
  · intro k hk
    have hk' := (Finset.mem_filter.mp hk).2
    refine ⟨⟨k.val % 64, by omega⟩, Finset.mem_coe.mpr (Finset.mem_univ _), ?_⟩
    apply Fin.ext; simp only [lane]; omega

/-- Plus or minus infinity. -/
def Infinite (x : EReal) : Prop := x = ⊤ ∨ x = ⊥

theorem sum_bot {ι : Type} [DecidableEq ι] (s : Finset ι) (f : ι → EReal) (i : ι) (hi : i ∈ s) (h : f i = ⊥) :
    ∑ k ∈ s, f k = ⊥ := by
  rw [← Finset.add_sum_erase s f hi, h, EReal.bot_add]

theorem sum_ne_bot {ι : Type} [DecidableEq ι] (s : Finset ι) (f : ι → EReal) (h : ∀ k ∈ s, f k ≠ ⊥) :
    ∑ k ∈ s, f k ≠ ⊥ := by
  induction s using Finset.induction_on with
  | empty => rw [Finset.sum_empty]; exact EReal.zero_ne_bot
  | insert a t ha ih =>
    rw [Finset.sum_insert ha]
    intro e
    rcases EReal.add_eq_bot_iff.mp e with e | e
    · exact h a (Finset.mem_insert_self _ _) e
    · exact ih (fun k hk => h k (Finset.mem_insert_of_mem hk)) e

theorem sum_top {ι : Type} [DecidableEq ι] (s : Finset ι) (f : ι → EReal) (i : ι) (hi : i ∈ s) (h : f i = ⊤)
    (hb : ∀ k ∈ s, f k ≠ ⊥) : ∑ k ∈ s, f k = ⊤ := by
  rw [← Finset.add_sum_erase s f hi, h]
  exact EReal.top_add_of_ne_bot (sum_ne_bot _ _ fun k hk => hb k (Finset.mem_of_mem_erase hk))

/-- A sum over a head with an infinite lane is infinite. -/
theorem headSum_infinite (f : Fin 512 → EReal) (j : Fin 512) (k : Fin 64) (h : Infinite (f (lane j k))) :
    Infinite (headSum f j) := by
  by_cases hb : ∃ l, f (lane j l) = ⊥
  · obtain ⟨l, hl⟩ := hb
    exact .inr (sum_bot _ _ l (Finset.mem_univ _) hl)
  · have hb' : ∀ l, f (lane j l) ≠ ⊥ := fun l hl => hb ⟨l, hl⟩
    rcases h with h | h
    · exact .inl (sum_top _ _ k (Finset.mem_univ _) h fun l _ => hb' l)
    · exact absurd h (hb' k)

theorem sub_infinite (x y : EReal) (h : Infinite y) : Infinite (x - y) := by
  rcases h with rfl | rfl
  · exact .inr (EReal.sub_top x)
  · by_cases hx : x = ⊥
    · subst hx; exact .inr (by simp [EReal.bot_sub])
    · exact .inl (by rw [sub_eq_add_neg, EReal.neg_bot]; exact EReal.add_top_of_ne_bot hx)

theorem sub_self_of_infinite (x : EReal) (h : Infinite x) : x - x = ⊥ := by
  rcases h with rfl | rfl
  · exact EReal.sub_top ⊤
  · exact EReal.bot_sub ⊥

theorem word_64 : word 0x42800000#32 = ((64 : ℝ) : EReal) := by
  simp [word, Ideal.ofBits, Ideal.ieee, -EReal.coe_mul]
  norm_num

theorem word_inv_64 : word 0x3C800000#32 = ((64⁻¹ : ℝ) : EReal) := by
  simp [word, Ideal.ofBits, Ideal.ieee, -EReal.coe_mul]
  norm_num

theorem div_64 (x : EReal) : Ideal.div x (word 0x42800000#32) = x * word 0x3C800000#32 := by
  rw [word_64, word_inv_64]
  have h : ((64 : ℝ) : EReal) ≠ 0 := by
    rw [← EReal.coe_zero]; exact fun e => by have := EReal.coe_injective e; norm_num at this
  rw [Ideal.div, if_neg h, EReal.coe_inv]

theorem word_eps : ∃ r : ℝ, word 0x3A27C5AC#32 = (r : EReal) := by
  simp only [word, Ideal.ofBits, Ideal.ieee]
  split_ifs <;> first | exact ⟨_, rfl⟩ | simp_all

/-- A lane less its head's mean. -/
def groupCentred (y : Fin 512 → EReal) (j : Fin 512) : EReal := y j - Ideal.div (headSum y j) (word 0x42800000#32)

/-- A centred lane, scaled to variance one over its head. -/
def groupScaled (c : Fin 512 → EReal) (j : Fin 512) : EReal :=
  c j * Ideal.rsqrt (Ideal.div (headSum (fun k => c k * c k) j) (word 0x42800000#32) + word 0x3A27C5AC#32)

/-- The kernel's centred lane: the mean from the operand's three parts. -/
def partsCentred (y : Fin 512 → EReal) (j : Fin 512) : EReal :=
  y j - (headSum y j + headSum (fun k => y k - y k) j + headSum (fun k => y k - y k - (y k - y k)) j)
    * word 0x3C800000#32

theorem mul_inv_64 (x : EReal) (h : Infinite x) : Infinite (x * word 0x3C800000#32) := by
  rw [word_inv_64]
  rcases h with rfl | rfl
  · exact .inl (EReal.top_mul_coe_of_pos (by norm_num))
  · exact .inr (EReal.bot_mul_coe_of_pos (by norm_num))

/-- A head of infinities is scaled by zero. -/
theorem scaled_infinite (c : Fin 512 → EReal) (j : Fin 512) (h : ∀ k, Infinite (c (lane j k))) :
    groupScaled c j = 0 := by
  have hs : ∀ k, c (lane j k) * c (lane j k) = ⊤ := fun k => by
    rcases h k with e | e <;> rw [e]
    · exact EReal.top_mul_top
    · exact EReal.bot_mul_bot
  have ht : headSum (fun k => c k * c k) j = ⊤ :=
    sum_top _ _ 0 (Finset.mem_univ _) (hs 0) fun k _ e => top_ne_bot ((hs k).symm.trans e)
  obtain ⟨r, hr⟩ := word_eps
  have hm : (⊤ : EReal) * word 0x3C800000#32 = ⊤ := by
    rw [word_inv_64]; exact EReal.top_mul_coe_of_pos (by norm_num)
  rw [groupScaled, ht, div_64, hm, hr, EReal.top_add_coe, Ideal.rsqrt_top, mul_zero]

/-- So the two centrings scale to the same. -/
theorem scaled_parts (y : Fin 512 → EReal) (j : Fin 512) :
    groupScaled (partsCentred y) j = groupScaled (groupCentred y) j := by
  by_cases hi : ∃ k, Infinite (y (lane j k))
  · obtain ⟨k, hk⟩ := hi
    rw [scaled_infinite (partsCentred y) j fun l => ?_, scaled_infinite (groupCentred y) j fun l => ?_]
    · refine sub_infinite _ _ ?_
      rw [div_64, headSum_lane]
      exact mul_inv_64 _ (headSum_infinite y j k hk)
    · refine sub_infinite _ _ (mul_inv_64 _ (.inr ?_))
      have hb : headSum (fun k => y k - y k) (lane j l) = ⊥ := by
        rw [headSum_lane]
        exact sum_bot _ _ k (Finset.mem_univ _) (sub_self_of_infinite _ hk)
      rw [hb, EReal.add_bot, EReal.bot_add]
  · have hz : ∀ k, y (lane j k) - y (lane j k) = 0 := fun k =>
      EReal.sub_self (fun e => hi ⟨k, .inl e⟩) (fun e => hi ⟨k, .inr e⟩)
    have h0 : headSum (fun k => y k - y k) j = 0 := Finset.sum_eq_zero fun k _ => hz k
    have h1 : headSum (fun k => y k - y k - (y k - y k)) j = 0 := Finset.sum_eq_zero fun k _ => by
      show y (lane j k) - y (lane j k) - (y (lane j k) - y (lane j k)) = 0
      rw [hz k, sub_zero]
    have hc : ∀ k, partsCentred y (lane j k) = groupCentred y (lane j k) := fun k => by
      rw [partsCentred, groupCentred, headSum_lane, headSum_lane, headSum_lane, h0, h1, add_zero, add_zero, div_64]
    have hj : partsCentred y j = groupCentred y j := by
      obtain ⟨k, hk⟩ := self_lane j
      rw [← hk]; exact hc k
    have hs : headSum (fun k => partsCentred y k * partsCentred y k) j
        = headSum (fun k => groupCentred y k * groupCentred y k) j :=
      Finset.sum_congr rfl fun k _ => by
        show partsCentred y (lane j k) * partsCentred y (lane j k) = _
        rw [hc k]
    rw [groupScaled, groupScaled, hj, hs]

/-- One lane of the RWKV-7 mixer's output: the group norm with weights `w` and shift `b`, plus the bonus of the head,
    times the gate. -/
def groupOut (y w b r k ρ v g : Fin 512 → EReal) (j : Fin 512) : EReal :=
  (groupScaled (groupCentred y) j * w j + b j + headSum (fun i => r i * k i * ρ i) j * v j) * g j

/-- Lane `k` of head `h`. -/
def part (h : Fin 8) (k : Fin 64) : Fin 512 := ⟨h.val * 64 + k.val, by omega⟩

theorem lane_part (h : Fin 8) (k l : Fin 64) : lane (part h k) l = part h l := by
  apply Fin.ext; simp only [lane, part]; omega

theorem part_split (j : Fin 512) (p q) : part ⟨j.val / 64, p⟩ ⟨j.val % 64, q⟩ = j := by
  apply Fin.ext; simp only [part]; omega

theorem headSum_part (f : Fin 512 → EReal) (h : Fin 8) (k : Fin 64) : headSum f (part h k) = ∑ l, f (part h l) := by
  simp only [headSum, lane_part]

theorem lane_div (j : Fin 512) (k : Fin 64) (p) :
    (⟨(lane j k).val / 64, p⟩ : Fin 8) = ⟨j.val / 64, by omega⟩ := by
  apply Fin.ext; simp only [lane]; omega

theorem lane_mod (j : Fin 512) (k : Fin 64) (p) : (⟨(lane j k).val % 64, p⟩ : Fin 64) = k := by
  apply Fin.ext; simp only [lane]; omega

/-- The two mixers' outputs times the output weights, at one column. -/
def mixedGroups (o z w : Fin 512 → EReal) (nw : Fin 128 → EReal) (d w' : Fin 512 → EReal) : EReal :=
  added o w z nw 0 + added o w z nw 1 + added o w z nw 2 + added o w z nw 3 + ∑ j, d j * w' j

end Cert.Proof.Rows

end
-- ==== Proof.RefOdd.lean ====
/-
  The reference of the call that closes an odd layer, at a row and a column: the row functions of `Rows` and `Groups` of
  that row of the arrays.
-/
module

public import proofs.«01_k».proof.Proof.Gen.Reference5Ideal.Run
public import proofs.«01_k».proof.Proof.Groups
public import Idealize.ShloMosaic.Lib.Pipeline.ValueKit

@[expose] public section

set_option maxRecDepth 16384

noncomputable section

open Idealize.ShloMosaic Idealize.ShloMosaic.TcCoe Idealize.SL.Sem
open Cert.Proof.Rows

namespace Cert.Proof.RefOdd

open Cert.Reference5Ideal Cert.Reference5Ideal.Gen Cert.Reference5Ideal.Value

/-- The row the first norm takes, from the arrays: the residual plus the two mixers' outputs times the output weights. -/
def joined (x : FVec Ideal S16384x1024 .f32) (o o' : FVec Ideal S16384x512 .f32) (z : FVec Ideal S16384x4352 .f32)
    (nw : FVec Ideal S128 .f32) (y y' : FVec Ideal S16384x512 .f32) (q k v g : FVec Ideal S16384x512 .bf16)
    (ρ : FVec Ideal S8x64 .f32) (s b : FVec Ideal S512 .f32) (w : FVec Ideal S1024x1024 .f32) (R : Fin 16384) :
    Fin 1024 → EReal :=
  residual (fun l => x (ix2 R l)) (fun l => mixedGroups
    (fun j => o (ix2 R j) + o' (ix2 R j)) (fun j => z (ix2 R ⟨2048 + j.val, by omega⟩))
    (fun j => w (ix2 ⟨j.val, by omega⟩ l)) (fun j => nw (ix1 j))
    (groupOut (fun j => y (ix2 R j) + y' (ix2 R j)) (fun j => s (ix1 j)) (fun j => b (ix1 j)) (fun j => q (ix2 R j))
      (fun j => k (ix2 R j)) (fun j => ρ (ix2 ⟨j.val / 64, by omega⟩ ⟨j.val % 64, by omega⟩)) (fun j => v (ix2 R j))
      (fun j => g (ix2 R j)))
    (fun j => w (ix2 ⟨512 + j.val, by omega⟩ l)))

/-- The layer's output at row `R`, from the arrays. -/
def odd (x : FVec Ideal S16384x1024 .f32) (o o' : FVec Ideal S16384x512 .f32) (z : FVec Ideal S16384x4352 .f32)
    (nw : FVec Ideal S128 .f32) (y y' : FVec Ideal S16384x512 .f32) (q k v g : FVec Ideal S16384x512 .bf16)
    (ρ : FVec Ideal S8x64 .f32) (s b : FVec Ideal S512 .f32) (w : FVec Ideal S1024x1024 .f32)
    (G B : FVec Ideal S2x1024 .f32) (W₁ : FVec Ideal S1024x4096 .f32) (W₂ : FVec Ideal S4096x1024 .f32)
    (R : Fin 16384) : Fin 1024 → EReal :=
  norm (residual (norm (joined x o o' z nw y y' q k v g ρ s b w R) (fun l => G (ix2 0 l)) (fun l => B (ix2 0 l)))
      (block (norm (joined x o o' z nw y y' q k v g ρ s b w R) (fun l => G (ix2 0 l)) (fun l => B (ix2 0 l)))
        (fun k j => W₁ (ix2 k j)) (fun j l => W₂ (ix2 j l))))
    (fun l => G (ix2 1 l)) (fun l => B (ix2 1 l))

variable (V0 : Valuation τ sig (Elt Ideal))

/-- The two directions' outputs added, head by head. -/
theorem v1_at (R : Fin 16384) (h : Fin 4) (k : Fin 128) :
    (show FVec Ideal S16384x4x128 .f32 from res_main_v1 V0) (ix3 R h k)
      = (show FVec Ideal S16384x512 .f32 from V0 (Proc.devRef .tc main_arg1)) (ix2 R (col h k)) + (show FVec Ideal S16384x512 .f32 from V0 (Proc.devRef .tc main_arg2)) (ix2 R (col h k)) := by
  pointwise [res_main_v1]
  rfl

/-- The gate's argument, head by head. -/
theorem v16_at (R : Fin 16384) (h : Fin 4) (k : Fin 128) :
    (show FVec Ideal S16384x4x128 .f32 from res_main_v16 V0) (ix3 R h k)
      = (show FVec Ideal S16384x4352 .f32 from V0 (Proc.devRef .tc main_arg3)) (ix2 R ⟨2048 + (col h k).val, by omega⟩) := by
  pointwise [res_main_v16]
  rfl

/-- The second mixer's two directions added, head by head. -/
theorem v32_at (R : Fin 16384) (h : Fin 8) (k : Fin 64) :
    (show FVec Ideal S16384x8x64 .f32 from res_main_v32 V0) (ix3 R h k)
      = (show FVec Ideal S16384x512 .f32 from V0 (Proc.devRef .tc main_arg5)) (ix2 R (part h k)) + (show FVec Ideal S16384x512 .f32 from V0 (Proc.devRef .tc main_arg6)) (ix2 R (part h k)) := by
  pointwise [res_main_v32]
  rfl

/-- The same, less the head's mean. -/
theorem v38_at (R : Fin 16384) (h : Fin 8) (k : Fin 64) :
    (show FVec Ideal S16384x8x64 .f32 from res_main_v38 V0) (ix3 R h k)
      = groupCentred (fun j => (show FVec Ideal S16384x512 .f32 from V0 (Proc.devRef .tc main_arg5)) (ix2 R j) + (show FVec Ideal S16384x512 .f32 from V0 (Proc.devRef .tc main_arg6)) (ix2 R j)) (part h k) := by
  have h₁ := v32_at V0 R
  pointwise [res_main_v38]
  simp only [h₁, groupCentred, headSum_part]

theorem v73_at (R : Fin 16384) (l : Fin 1024) :
    (show FVec Ideal S16384x1024 .f32 from res_main_v73 V0) (ix2 R l)
      = joined (V0 (Proc.devRef .tc main_arg0)) (V0 (Proc.devRef .tc main_arg1)) (V0 (Proc.devRef .tc main_arg2))
        (V0 (Proc.devRef .tc main_arg3)) (V0 (Proc.devRef .tc main_arg4)) (V0 (Proc.devRef .tc main_arg5))
        (V0 (Proc.devRef .tc main_arg6)) (V0 (Proc.devRef .tc main_arg7)) (V0 (Proc.devRef .tc main_arg8))
        (V0 (Proc.devRef .tc main_arg9)) (V0 (Proc.devRef .tc main_arg10)) (V0 (Proc.devRef .tc main_arg11))
        (V0 (Proc.devRef .tc main_arg12)) (V0 (Proc.devRef .tc main_arg13)) (V0 (Proc.devRef .tc main_arg14)) R l := by
  have h₁ := v1_at V0 R
  have h₂ := v16_at V0 R
  have h₃ := v38_at V0 R
  pointwise [res_main_v73]
  refine congrArg₂ HAdd.hAdd rfl (congrArg₂ HAdd.hAdd ((sum_heads _).trans ?_) (Finset.sum_congr rfl fun j _ => ?_))
  · simp only [col_div, col_mod, h₁, h₂]
    simp only [added, head, gate]
  · have hj : (⟨j.val / 64 * 64 + j.val % 64, by omega⟩ : Fin 512) = j := by
      apply Fin.ext; show j.val / 64 * 64 + j.val % 64 = j.val; omega
    have hp : part ⟨j.val / 64, by omega⟩ ⟨j.val % 64, by omega⟩ = j := hj
    simp only [h₃, hj, hp]
    simp only [groupOut, groupScaled, headSum, lane_div, lane_mod]
    rfl

theorem v83_at (R : Fin 16384) (l : Fin 1024) :
    (show FVec Ideal S16384x1024 .f32 from res_main_v83 V0) (ix2 R l)
      = centred (fun l => (show FVec Ideal S16384x1024 .f32 from res_main_v73 V0) (ix2 R l)) l := by
  pointwise [res_main_v83]
  rfl

theorem v99_at (R : Fin 16384) (l : Fin 1024) :
    (show FVec Ideal S16384x1024 .f32 from res_main_v99 V0) (ix2 R l)
      = norm (fun l => (show FVec Ideal S16384x1024 .f32 from res_main_v73 V0) (ix2 R l))
          (fun l => (show FVec Ideal S2x1024 .f32 from V0 (Proc.devRef .tc main_arg15)) (ix2 0 l))
          (fun l => (show FVec Ideal S2x1024 .f32 from V0 (Proc.devRef .tc main_arg16)) (ix2 0 l)) l := by
  have h := v83_at V0 R
  pointwise [res_main_v99]
  simp only [h]
  rfl

theorem v107_at (R : Fin 16384) (l : Fin 1024) :
    (show FVec Ideal S16384x1024 .f32 from res_main_v107 V0) (ix2 R l)
      = residual (fun l => (show FVec Ideal S16384x1024 .f32 from res_main_v99 V0) (ix2 R l))
          (block (fun l => (show FVec Ideal S16384x1024 .f32 from res_main_v99 V0) (ix2 R l))
            (fun k j => (show FVec Ideal S1024x4096 .f32 from V0 (Proc.devRef .tc main_arg17)) (ix2 k j)) (fun j l => (show FVec Ideal S4096x1024 .f32 from V0 (Proc.devRef .tc main_arg18)) (ix2 j l))) l := by
  pointwise [res_main_v107, res_main_v104]
  rfl

theorem v117_at (R : Fin 16384) (l : Fin 1024) :
    (show FVec Ideal S16384x1024 .f32 from res_main_v117 V0) (ix2 R l)
      = centred (fun l => (show FVec Ideal S16384x1024 .f32 from res_main_v107 V0) (ix2 R l)) l := by
  pointwise [res_main_v117]
  rfl

/-- The reference's result. -/
abbrev last : FVec Ideal S16384x1024 .f32 :=
  addf (mulf (mulf (res_main_v117 V0) (broadcastInDim S16384x1024 ![0, 1] bcast_S16384x1_S16384x1024_0_1 (Host.rsqrt (addf (Host.divf (broadcastInDim S16384x1 ![0] bcast_S16384_S16384x1_0 (Host.reduceAdd (mulf (res_main_v117 V0) (res_main_v117 V0)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 (shapeCast _ (extractStridedSlice S1x1024 ![1, 0] (V0 (Proc.devRef .tc main_arg15)) slices_S2x1024_S1x1024_1_0) shapeCasts_S1x1024_S1024)))) (broadcastInDim S16384x1024 ![0, 1] bcast_S1x1024_S16384x1024_0_1 (broadcastInDim S1x1024 ![1] bcast_S1024_S1x1024_1 (shapeCast _ (extractStridedSlice S1x1024 ![1, 0] (V0 (Proc.devRef .tc main_arg16)) slices_S2x1024_S1x1024_1_0) shapeCasts_S1x1024_S1024)))

theorem last_at (R : Fin 16384) (l : Fin 1024) :
    last V0 (ix2 R l)
      = norm (fun l => (show FVec Ideal S16384x1024 .f32 from res_main_v107 V0) (ix2 R l))
          (fun l => (show FVec Ideal S2x1024 .f32 from V0 (Proc.devRef .tc main_arg15)) (ix2 1 l))
          (fun l => (show FVec Ideal S2x1024 .f32 from V0 (Proc.devRef .tc main_arg16)) (ix2 1 l)) l := by
  have h := v117_at V0 R
  pointwise
  simp only [h]
  rfl

theorem last_eq (R : Fin 16384) (l : Fin 1024) :
    last V0 (ix2 R l) = odd (V0 (Proc.devRef .tc main_arg0)) (V0 (Proc.devRef .tc main_arg1)) (V0 (Proc.devRef .tc main_arg2))
        (V0 (Proc.devRef .tc main_arg3)) (V0 (Proc.devRef .tc main_arg4)) (V0 (Proc.devRef .tc main_arg5))
        (V0 (Proc.devRef .tc main_arg6)) (V0 (Proc.devRef .tc main_arg7)) (V0 (Proc.devRef .tc main_arg8))
        (V0 (Proc.devRef .tc main_arg9)) (V0 (Proc.devRef .tc main_arg10)) (V0 (Proc.devRef .tc main_arg11))
        (V0 (Proc.devRef .tc main_arg12)) (V0 (Proc.devRef .tc main_arg13)) (V0 (Proc.devRef .tc main_arg14))
        (V0 (Proc.devRef .tc main_arg15)) (V0 (Proc.devRef .tc main_arg16)) (V0 (Proc.devRef .tc main_arg17))
        (V0 (Proc.devRef .tc main_arg18)) R l := by
  have h₃ := funext (v73_at V0 R)
  have h₅ := funext (v99_at V0 R)
  have h₆ := funext (v107_at V0 R)
  rw [last_at, h₆, h₅, h₃]
  rfl

end Cert.Proof.RefOdd

end
-- ==== Proof.OutOdd.lean ====
/-
  The call that closes an odd layer, one block of 512 rows: what the body stores at a row and a column is the row
  function of `Rows` and `Groups` of that row of its blocks.
-/
module

public import proofs.«01_k».proof.Defs
public import proofs.«01_k».proof.Proof.OddFrame
public import proofs.«01_k».proof.Proof.Gen.Reference5Ideal.Run
public import proofs.«01_k».proof.Proof.Groups
public import proofs.«01_k».proof.Proof.RefOdd
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Proof.Rows

namespace Cert.Proof.OutOdd

open Cert.Kernel5Ideal Cert.Kernel5Ideal.Gen

/-! ## The kernel's payloads at an index -/

theorem pay3_at (v0 : Vec Ideal S1x128 .f32) (v2 v3 v17 : Vec Ideal S512x128 .f32) (v27 : Vec Ideal S128x1024 .bf16)
    (r : Fin 512) (l : Fin 1024) :
    k0_pay3 v0 v2 v3 v17 v27 (ix2 r l)
      = ∑ k : Fin 128, head (fun k => v2 (ix2 r k) + v3 (ix2 r k)) (fun k => v0 (ix2 0 k)) (fun k => v17 (ix2 r k)) k
            * v27 (ix2 k l) := by
  pointwise [k0_pay3, k0_pay2, head, gate, zero_sub]

theorem pay6_at (v0 : Vec Ideal S1x128 .f32) (v30 : FVec Ideal S512x1024 .f32) (v31 v32 v46 : Vec Ideal S512x128 .f32)
    (v56 : Vec Ideal S128x1024 .bf16) (r : Fin 512) (l : Fin 1024) :
    k0_pay6 (k0_pay2 v0) v30 (k0_pay4 v31 v32) (k0_pay5 v31 v32) v46 v56 (ix2 r l)
      = v30 (ix2 r l)
        + ∑ k : Fin 128, head (fun k => v31 (ix2 r k) + v32 (ix2 r k)) (fun k => v0 (ix2 0 k)) (fun k => v46 (ix2 r k)) k
            * v56 (ix2 k l) := by
  pointwise [k0_pay6, k0_pay5, k0_pay4, k0_pay2, head, gate, zero_sub]

theorem pay8_at (v0 : Vec Ideal S1x128 .f32) (v60 : FVec Ideal S512x1024 .f32) (v61 v62 v76 : Vec Ideal S512x128 .f32)
    (v86 : Vec Ideal S128x1024 .bf16) (r : Fin 512) (l : Fin 1024) :
    k0_pay8 v60 (k0_pay7 (k0_pay2 v0) v61 v62) v76 (FloatOps.ofBits FTy.f32 0#32) v86 (ix2 r l)
      = v60 (ix2 r l)
        + ∑ k : Fin 128, head (fun k => v61 (ix2 r k) + v62 (ix2 r k)) (fun k => v0 (ix2 0 k)) (fun k => v76 (ix2 r k)) k
            * v86 (ix2 k l) := by
  pointwise [k0_pay8, k0_pay7, k0_pay2, head, gate, zero_sub]

theorem pay11_at (v0 : Vec Ideal S1x128 .f32) (v90 : FVec Ideal S512x1024 .f32) (v91 v92 v106 : Vec Ideal S512x128 .f32)
    (v116 : Vec Ideal S128x1024 .bf16) (r : Fin 512) (l : Fin 1024) :
    k0_pay11 v90 (k0_pay9 (k0_pay2 v0) v91 v92 v106) (k0_pay10 v116) (ix2 r l)
      = v90 (ix2 r l)
        + ∑ k : Fin 128, head (fun k => v91 (ix2 r k) + v92 (ix2 r k)) (fun k => v0 (ix2 0 k)) (fun k => v106 (ix2 r k)) k
            * v116 (ix2 k l) := by
  pointwise [k0_pay11, k0_pay10, k0_pay9, k0_pay2, head, gate, zero_sub]

section
variable (v121 : Vec Ideal S512x512 .bf16)
  (hbd : ∀ k j : Fin 512, v121 (ix2 k j) = if k.val / 64 = j.val / 64 then 1 else 0)
include hbd

theorem diagonal (f : Fin 512 → EReal) (j : Fin 512) : ∑ k, f k * v121 (ix2 k j) = headSum f j :=
  sum_diagonal f (fun k => v121 (ix2 k j)) j fun k => hbd k j

theorem pay13_at (v123 v124 : Vec Ideal S512x512 .f32) (v150 v154 : Vec Ideal S1x512 .f32) (r j : Fin 512) :
    k0_pay13 v121 v123 v124 v150 v154 (ix2 r j)
      = groupScaled (groupCentred fun j => v123 (ix2 r j) + v124 (ix2 r j)) j * v150 (ix2 0 j) + v154 (ix2 0 j) := by
  have e := diagonal v121 hbd
  rw [← scaled_parts]
  pointwise [k0_pay13, k0_pay12]
  simp only [e, groupScaled, partsCentred, div_64]

theorem pay16_at (v120 : FVec Ideal S512x1024 .f32) (v157 : FVec Ideal S512x512 .f32)
    (v158 v160 : Vec Ideal S512x512 .bf16) (v163 : Vec Ideal S1x512 .f32) (v169 v173 : Vec Ideal S512x512 .bf16)
    (v176 : Vec Ideal S512x1024 .bf16) (v181 : Vec Ideal S512x1024 .f32) (r : Fin 512) (l : Fin 1024) :
    k0_pay16 v120 (k0_pay12 v121) v157 v158 v160 v163 v169 v173 v176 v181 (ix2 r l)
      = centred (residual (fun l => v181 (ix2 r l)) (fun l => v120 (ix2 r l) + ∑ j : Fin 512,
          (v157 (ix2 r j) + headSum (fun i => v158 (ix2 r i) * v160 (ix2 r i) * v163 (ix2 0 i)) j * v169 (ix2 r j))
            * v173 (ix2 r j) * v176 (ix2 j l))) l := by
  have e := diagonal v121 hbd
  pointwise [k0_pay16, k0_pay12]
  simp only [e]
  rfl

end

theorem pay20_at (v185 v187 : Vec Ideal S1x1024 .f32) (v194 v195 : FVec Ideal S512x1024 .f32)
    (v209 : Vec Ideal S1024x4096 .bf16) (v218 : Vec Ideal S4096x1024 .bf16)
    (h : ∀ r l, v195 (ix2 r l) = v194 (ix2 r l) * v194 (ix2 r l)) (r : Fin 512) (l : Fin 1024) :
    k0_pay20 (k0_pay14 v185) (k0_pay15 v187) v194 v195 v209 v218 (ix2 r l)
      = centred (residual (scaled (fun l => v194 (ix2 r l)) (fun l => v185 (ix2 0 l)) (fun l => v187 (ix2 0 l)))
          (block (scaled (fun l => v194 (ix2 r l)) (fun l => v185 (ix2 0 l)) (fun l => v187 (ix2 0 l)))
            (fun k j => v209 (ix2 k j)) (fun j l => v218 (ix2 j l)))) l := by
  pointwise [k0_pay20, k0_pay14, k0_pay15]
  simp only [h]
  rfl

theorem pay1_at (v185 v187 : FVec Ideal S1x1024 .f32) (v194 v195 : FVec Ideal S512x1024 .f32)
    (v209 : Vec Ideal S1024x4096 .bf16) (v218 : Vec Ideal S4096x1024 .bf16) (v223 v225 : Vec Ideal S1x1024 .f32)
    (r : Fin 512) (l : Fin 1024) :
    k0_pay1 (k0_pay18 v223) (k0_pay19 v225) (k0_pay20 v185 v187 v194 v195 v209 v218)
        (k0_pay21 v185 v187 v194 v195 v209 v218) (ix2 r l)
      = scaled (fun l => k0_pay20 v185 v187 v194 v195 v209 v218 (ix2 r l)) (fun l => v223 (ix2 0 l))
          (fun l => v225 (ix2 0 l)) l := by
  pointwise [k0_pay1, k0_pay18, k0_pay19, k0_pay21]
  rfl

/-! ## A slice of a block at an index -/

theorem cols0 (x : Vec Ideal S512x512 .f32) (v : Vec Ideal S512x128 .f32)
    (hv : v = View.ld x (Rect.unit ![0, 0] ![512, 128] inb_S512x512_S512x128_0_0)) (r : Fin 512) (k : Fin 128) :
    v (ix2 r k) = x (ix2 r (col 0 k)) := by
  subst hv
  pointwise
  blk_ext [col]

theorem rows0 (x : Vec Ideal S512x1024 .bf16) (v : Vec Ideal S128x1024 .bf16)
    (hv : v = View.ld x (Rect.unit ![0, 0] ![128, 1024] inb_S512x1024_S128x1024_0_0)) (k : Fin 128) (l : Fin 1024) :
    v (ix2 k l) = x (ix2 (col 0 k) l) := by
  subst hv
  pointwise
  blk_ext [col]

theorem cols1 (x : Vec Ideal S512x512 .f32) (v : Vec Ideal S512x128 .f32)
    (hv : v = View.ld x (Rect.unit ![0, 128] ![512, 128] inb_S512x512_S512x128_0_128)) (r : Fin 512) (k : Fin 128) :
    v (ix2 r k) = x (ix2 r (col 1 k)) := by
  subst hv
  pointwise
  blk_ext [col]

theorem rows1 (x : Vec Ideal S512x1024 .bf16) (v : Vec Ideal S128x1024 .bf16)
    (hv : v = View.ld x (Rect.unit ![128, 0] ![128, 1024] inb_S512x1024_S128x1024_128_0)) (k : Fin 128) (l : Fin 1024) :
    v (ix2 k l) = x (ix2 (col 1 k) l) := by
  subst hv
  pointwise
  blk_ext [col]

theorem cols2 (x : Vec Ideal S512x512 .f32) (v : Vec Ideal S512x128 .f32)
    (hv : v = View.ld x (Rect.unit ![0, 256] ![512, 128] inb_S512x512_S512x128_0_256)) (r : Fin 512) (k : Fin 128) :
    v (ix2 r k) = x (ix2 r (col 2 k)) := by
  subst hv
  pointwise
  blk_ext [col]

theorem rows2 (x : Vec Ideal S512x1024 .bf16) (v : Vec Ideal S128x1024 .bf16)
    (hv : v = View.ld x (Rect.unit ![256, 0] ![128, 1024] inb_S512x1024_S128x1024_256_0)) (k : Fin 128) (l : Fin 1024) :
    v (ix2 k l) = x (ix2 (col 2 k) l) := by
  subst hv
  pointwise
  blk_ext [col]

theorem cols3 (x : Vec Ideal S512x512 .f32) (v : Vec Ideal S512x128 .f32)
    (hv : v = View.ld x (Rect.unit ![0, 384] ![512, 128] inb_S512x512_S512x128_0_384)) (r : Fin 512) (k : Fin 128) :
    v (ix2 r k) = x (ix2 r (col 3 k)) := by
  subst hv
  pointwise
  blk_ext [col]

theorem rows3 (x : Vec Ideal S512x1024 .bf16) (v : Vec Ideal S128x1024 .bf16)
    (hv : v = View.ld x (Rect.unit ![384, 0] ![128, 1024] inb_S512x1024_S128x1024_384_0)) (k : Fin 128) (l : Fin 1024) :
    v (ix2 k l) = x (ix2 (col 3 k) l) := by
  subst hv
  pointwise
  blk_ext [col]

/-! ## What the body stores -/

/-- The first mixer's part of the output row, as the body computes it. -/
def four (x1 x2 x3 : Vec Ideal S512x512 .f32) (x4 : Vec Ideal S1x128 .f32) (x15 : Vec Ideal S512x1024 .bf16) :
    FVec Ideal S512x1024 .f32 :=
  k0_pay11
    (k0_pay8
      (k0_pay6 (k0_pay2 x4)
        (k0_pay3 x4 (View.ld x1 (Rect.unit ![0, 0] ![512, 128] inb_S512x512_S512x128_0_0)) (View.ld x2 (Rect.unit ![0, 0] ![512, 128] inb_S512x512_S512x128_0_0))
          (View.ld x3 (Rect.unit ![0, 0] ![512, 128] inb_S512x512_S512x128_0_0)) (View.ld x15 (Rect.unit ![0, 0] ![128, 1024] inb_S512x1024_S128x1024_0_0)))
        (k0_pay4 (View.ld x1 (Rect.unit ![0, 128] ![512, 128] inb_S512x512_S512x128_0_128)) (View.ld x2 (Rect.unit ![0, 128] ![512, 128] inb_S512x512_S512x128_0_128)))
        (k0_pay5 (View.ld x1 (Rect.unit ![0, 128] ![512, 128] inb_S512x512_S512x128_0_128)) (View.ld x2 (Rect.unit ![0, 128] ![512, 128] inb_S512x512_S512x128_0_128)))
        (View.ld x3 (Rect.unit ![0, 128] ![512, 128] inb_S512x512_S512x128_0_128)) (View.ld x15 (Rect.unit ![128, 0] ![128, 1024] inb_S512x1024_S128x1024_128_0)))
      (k0_pay7 (k0_pay2 x4) (View.ld x1 (Rect.unit ![0, 256] ![512, 128] inb_S512x512_S512x128_0_256)) (View.ld x2 (Rect.unit ![0, 256] ![512, 128] inb_S512x512_S512x128_0_256)))
      (View.ld x3 (Rect.unit ![0, 256] ![512, 128] inb_S512x512_S512x128_0_256)) (FloatOps.ofBits FTy.f32 0#32) (View.ld x15 (Rect.unit ![256, 0] ![128, 1024] inb_S512x1024_S128x1024_256_0)))
    (k0_pay9 (k0_pay2 x4) (View.ld x1 (Rect.unit ![0, 384] ![512, 128] inb_S512x512_S512x128_0_384)) (View.ld x2 (Rect.unit ![0, 384] ![512, 128] inb_S512x512_S512x128_0_384))
      (View.ld x3 (Rect.unit ![0, 384] ![512, 128] inb_S512x512_S512x128_0_384)))
    (k0_pay10 (View.ld x15 (Rect.unit ![384, 0] ![128, 1024] inb_S512x1024_S128x1024_384_0)))

theorem four_at (x1 x2 x3 : Vec Ideal S512x512 .f32) (x4 : Vec Ideal S1x128 .f32) (x15 : Vec Ideal S512x1024 .bf16)
    (r : Fin 512) (l : Fin 1024) :
    four x1 x2 x3 x4 x15 (ix2 r l)
      = added (fun k => x1 (ix2 r k) + x2 (ix2 r k)) (fun k => x15 (ix2 k l)) (fun k => x3 (ix2 r k)) (fun k => x4 (ix2 0 k)) 0
        + added (fun k => x1 (ix2 r k) + x2 (ix2 r k)) (fun k => x15 (ix2 k l)) (fun k => x3 (ix2 r k)) (fun k => x4 (ix2 0 k)) 1
        + added (fun k => x1 (ix2 r k) + x2 (ix2 r k)) (fun k => x15 (ix2 k l)) (fun k => x3 (ix2 r k)) (fun k => x4 (ix2 0 k)) 2
        + added (fun k => x1 (ix2 r k) + x2 (ix2 r k)) (fun k => x15 (ix2 k l)) (fun k => x3 (ix2 r k)) (fun k => x4 (ix2 0 k)) 3 := by
  unfold four
  have c0 := fun (x : Vec Ideal S512x512 .f32) r k => cols0 x _ rfl r k
  have r0 := fun k l => rows0 x15 _ rfl k l
  have c1 := fun (x : Vec Ideal S512x512 .f32) r k => cols1 x _ rfl r k
  have r1 := fun k l => rows1 x15 _ rfl k l
  have c2 := fun (x : Vec Ideal S512x512 .f32) r k => cols2 x _ rfl r k
  have r2 := fun k l => rows2 x15 _ rfl k l
  have c3 := fun (x : Vec Ideal S512x512 .f32) r k => cols3 x _ rfl r k
  have r3 := fun k l => rows3 x15 _ rfl k l
  simp only [pay11_at, pay8_at, pay6_at, pay3_at, added]
  simp only [c0 x1, c0 x2, c0 x3, c1 x1, c1 x2, c1 x3, c2 x1, c2 x2, c2 x3, c3 x1, c3 x2, c3 x3, r0, r1, r2, r3]

/-- The row before the first layer norm, as the body computes it, less its mean. -/
def middle (x0 : Vec Ideal S512x1024 .f32) (x1 x2 x3 : Vec Ideal S512x512 .f32) (x4 : Vec Ideal S1x128 .f32)
    (x5 x6 : Vec Ideal S512x512 .f32) (x7 x8 x9 x10 : Vec Ideal S512x512 .bf16) (x11 x12 x13 : Vec Ideal S1x512 .f32)
    (x14 : Vec Ideal S512x512 .bf16) (x15 x16 : Vec Ideal S512x1024 .bf16) : FVec Ideal S512x1024 .f32 :=
  k0_pay16 (four x1 x2 x3 x4 x15) (k0_pay12 x14) (k0_pay13 x14 x5 x6 x12 x13) x7 x8 x11 x9 x10 x16 x0

/-- Its square. -/
def square (x0 : Vec Ideal S512x1024 .f32) (x1 x2 x3 : Vec Ideal S512x512 .f32) (x4 : Vec Ideal S1x128 .f32)
    (x5 x6 : Vec Ideal S512x512 .f32) (x7 x8 x9 x10 : Vec Ideal S512x512 .bf16) (x11 x12 x13 : Vec Ideal S1x512 .f32)
    (x14 : Vec Ideal S512x512 .bf16) (x15 x16 : Vec Ideal S512x1024 .bf16) : FVec Ideal S512x1024 .f32 :=
  k0_pay17 (four x1 x2 x3 x4 x15) (k0_pay12 x14) (k0_pay13 x14 x5 x6 x12 x13) x7 x8 x11 x9 x10 x16 x0

/-- What a point stores, from its blocks. -/
def stored (x0 : Vec Ideal S512x1024 .f32) (x1 x2 x3 : Vec Ideal S512x512 .f32) (x4 : Vec Ideal S1x128 .f32)
    (x5 x6 : Vec Ideal S512x512 .f32) (x7 x8 x9 x10 : Vec Ideal S512x512 .bf16) (x11 x12 x13 : Vec Ideal S1x512 .f32)
    (x14 : Vec Ideal S512x512 .bf16) (x15 x16 : Vec Ideal S512x1024 .bf16) (x17 x18 : Vec Ideal S1x1024 .f32)
    (x19 : Vec Ideal S1024x4096 .bf16) (x20 : Vec Ideal S4096x1024 .bf16) (x21 x22 : Vec Ideal S1x1024 .f32) :
    FVec Ideal S512x1024 .f32 :=
  k0_pay1 (k0_pay18 x21) (k0_pay19 x22)
    (k0_pay20 (k0_pay14 x17) (k0_pay15 x18) (middle x0 x1 x2 x3 x4 x5 x6 x7 x8 x9 x10 x11 x12 x13 x14 x15 x16)
      (square x0 x1 x2 x3 x4 x5 x6 x7 x8 x9 x10 x11 x12 x13 x14 x15 x16) x19 x20)
    (k0_pay21 (k0_pay14 x17) (k0_pay15 x18) (middle x0 x1 x2 x3 x4 x5 x6 x7 x8 x9 x10 x11 x12 x13 x14 x15 x16)
      (square x0 x1 x2 x3 x4 x5 x6 x7 x8 x9 x10 x11 x12 x13 x14 x15 x16) x19 x20)

section
variable (x0 : Vec Ideal S512x1024 .f32) (x1 x2 x3 : Vec Ideal S512x512 .f32) (x4 : Vec Ideal S1x128 .f32)
  (x5 x6 : Vec Ideal S512x512 .f32) (x7 x8 x9 x10 : Vec Ideal S512x512 .bf16) (x11 x12 x13 : Vec Ideal S1x512 .f32)
  (x14 : Vec Ideal S512x512 .bf16) (x15 x16 : Vec Ideal S512x1024 .bf16) (x17 x18 : Vec Ideal S1x1024 .f32)
  (x19 : Vec Ideal S1024x4096 .bf16) (x20 : Vec Ideal S4096x1024 .bf16) (x21 x22 : Vec Ideal S1x1024 .f32)
  (hbd : ∀ k j : Fin 512, x14 (ix2 k j) = if k.val / 64 = j.val / 64 then 1 else 0)

/-- The row the first norm takes, from the blocks. -/
def joined (r : Fin 512) : Fin 1024 → EReal :=
  residual (fun l => x0 (ix2 r l)) (fun l => mixedGroups (fun k => x1 (ix2 r k) + x2 (ix2 r k)) (fun k => x3 (ix2 r k))
    (fun k => x15 (ix2 k l)) (fun k => x4 (ix2 0 k))
    (groupOut (fun j => x5 (ix2 r j) + x6 (ix2 r j)) (fun j => x12 (ix2 0 j)) (fun j => x13 (ix2 0 j)) (fun j => x7 (ix2 r j))
      (fun j => x8 (ix2 r j)) (fun j => x11 (ix2 0 j)) (fun j => x9 (ix2 r j)) (fun j => x10 (ix2 r j)))
    (fun j => x16 (ix2 j l)))

theorem square_at (r : Fin 512) (l : Fin 1024) :
    square x0 x1 x2 x3 x4 x5 x6 x7 x8 x9 x10 x11 x12 x13 x14 x15 x16 (ix2 r l)
      = middle x0 x1 x2 x3 x4 x5 x6 x7 x8 x9 x10 x11 x12 x13 x14 x15 x16 (ix2 r l)
        * middle x0 x1 x2 x3 x4 x5 x6 x7 x8 x9 x10 x11 x12 x13 x14 x15 x16 (ix2 r l) := rfl

include hbd

theorem middle_at (r : Fin 512) (l : Fin 1024) :
    middle x0 x1 x2 x3 x4 x5 x6 x7 x8 x9 x10 x11 x12 x13 x14 x15 x16 (ix2 r l)
      = centred (joined x0 x1 x2 x3 x4 x5 x6 x7 x8 x9 x10 x11 x12 x13 x15 x16 r) l := by
  unfold middle
  rw [pay16_at x14 hbd]
  simp only [four_at, pay13_at x14 hbd]
  rfl

theorem stored_at (r : Fin 512) (l : Fin 1024) :
    stored x0 x1 x2 x3 x4 x5 x6 x7 x8 x9 x10 x11 x12 x13 x14 x15 x16 x17 x18 x19 x20 x21 x22 (ix2 r l)
      = norm (residual (norm (joined x0 x1 x2 x3 x4 x5 x6 x7 x8 x9 x10 x11 x12 x13 x15 x16 r) (fun l => x17 (ix2 0 l))
            (fun l => x18 (ix2 0 l)))
          (block (norm (joined x0 x1 x2 x3 x4 x5 x6 x7 x8 x9 x10 x11 x12 x13 x15 x16 r) (fun l => x17 (ix2 0 l))
            (fun l => x18 (ix2 0 l))) (fun k j => x19 (ix2 k j)) (fun j l => x20 (ix2 j l))))
        (fun l => x21 (ix2 0 l)) (fun l => x22 (ix2 0 l)) l := by
  have e := funext (middle_at x0 x1 x2 x3 x4 x5 x6 x7 x8 x9 x10 x11 x12 x13 x14 x15 x16 hbd r)
  unfold stored
  rw [pay1_at]
  simp only [pay20_at _ _ _ _ _ _ (square_at x0 x1 x2 x3 x4 x5 x6 x7 x8 x9 x10 x11 x12 x13 x14 x15 x16)]
  rw [e]
  rfl

end

/-- A lane's head, by a shift. -/
theorem shift : ∀ k : Fin 512, IntOp.shrui ArithUnit.host (BitVec.ofNat 32 k.val) 6#32 = BitVec.ofNat 32 (k.val / 64) := by
  decide +kernel

variable (m : (ℓ : Loc nD τ sig) → Buf (Elt Ideal) ℓ)

/-! ## The blocks of a point -/

/-- Point `t` reads rows `512 t …` of the tokens and of the mixers' arrays, rows `512 t …` and columns from 2048 on of the
    projection, and all the weights. -/
theorem index_maps : ∀ t : Fin cfg0.N, win0_0.index t = ![t.val, 0]
    ∧ win0_1.index t = ![t.val, 0]
    ∧ win0_2.index t = ![t.val, 0]
    ∧ win0_3.index t = ![t.val, 4]
    ∧ win0_4.index t = ![0, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![0, 0]
    ∧ win0_20.index t = ![0, 0]
    ∧ win0_21.index t = ![0, 0]
    ∧ win0_22.index t = ![0, 0]
    ∧ win0_23.index t = ![t.val, 0] :=
  (by decide +kernel : ∀ t : Fin grid0.N, _)

section
variable (c : Dev nD) (t : Fin cfg0.N) (r : Fin 512) (R : Fin 16384) (hR : R.val = t.val * 512 + r.val)
include hR

theorem blk0 (k : Fin 1024) : (show FVec Ideal S512x1024 .f32 from iblk m c 0 t) (ix2 r k)
    = (show FVec Ideal S16384x1024 .f32 from m ((c : Thread nD τ).loc main_arg0)) (ix2 R k) := by
  blk_ext [iblk, V, index_maps t]

theorem blk1 (k : Fin 512) : (show FVec Ideal S512x512 .f32 from iblk m c 1 t) (ix2 r k)
    = (show FVec Ideal S16384x512 .f32 from m ((c : Thread nD τ).loc main_arg1)) (ix2 R k) := by
  blk_ext [iblk, V, index_maps t]

theorem blk2 (k : Fin 512) : (show FVec Ideal S512x512 .f32 from iblk m c 2 t) (ix2 r k)
    = (show FVec Ideal S16384x512 .f32 from m ((c : Thread nD τ).loc main_arg2)) (ix2 R k) := by
  blk_ext [iblk, V, index_maps t]

theorem blk3 (k : Fin 512) : (show FVec Ideal S512x512 .f32 from X0_3 m c t) (ix2 r k)
    = (show FVec Ideal S16384x4352 .f32 from m ((c : Thread nD τ).loc main_arg3)) (ix2 R ⟨2048 + k.val, by omega⟩) := by
  show X0_3 m c t (ix2 r k) = _
  unfold X0_3 Pipeline.Window.fill
  rw [dif_pos (moved0_3 t _)]
  blk_ext [iblk, V, index_maps t]

theorem blk5 (k : Fin 512) : (show FVec Ideal S512x512 .f32 from iblk m c 5 t) (ix2 r k)
    = (show FVec Ideal S16384x512 .f32 from m ((c : Thread nD τ).loc main_arg5)) (ix2 R k) := by
  blk_ext [iblk, V, index_maps t]

theorem blk6 (k : Fin 512) : (show FVec Ideal S512x512 .f32 from iblk m c 6 t) (ix2 r k)
    = (show FVec Ideal S16384x512 .f32 from m ((c : Thread nD τ).loc main_arg6)) (ix2 R k) := by
  blk_ext [iblk, V, index_maps t]

theorem blk7 (k : Fin 512) : (show FVec Ideal S512x512 .bf16 from iblk m c 7 t) (ix2 r k)
    = (show FVec Ideal S16384x512 .bf16 from m ((c : Thread nD τ).loc main_arg7)) (ix2 R k) := by
  blk_ext [iblk, V, index_maps t]

theorem blk8 (k : Fin 512) : (show FVec Ideal S512x512 .bf16 from iblk m c 8 t) (ix2 r k)
    = (show FVec Ideal S16384x512 .bf16 from m ((c : Thread nD τ).loc main_arg8)) (ix2 R k) := by
  blk_ext [iblk, V, index_maps t]

theorem blk9 (k : Fin 512) : (show FVec Ideal S512x512 .bf16 from iblk m c 9 t) (ix2 r k)
    = (show FVec Ideal S16384x512 .bf16 from m ((c : Thread nD τ).loc main_arg9)) (ix2 R k) := by
  blk_ext [iblk, V, index_maps t]

theorem blk10 (k : Fin 512) : (show FVec Ideal S512x512 .bf16 from iblk m c 10 t) (ix2 r k)
    = (show FVec Ideal S16384x512 .bf16 from m ((c : Thread nD τ).loc main_arg10)) (ix2 R k) := by
  blk_ext [iblk, V, index_maps t]

end

section
variable (c : Dev nD) (t : Fin cfg0.N)

theorem blk4 (k : Fin 128) : (show FVec Ideal S1x128 .f32 from iblk m c 4 t) (ix2 0 k)
    = (show FVec Ideal S128 .f32 from m ((c : Thread nD τ).loc main_arg4)) (ix1 k) := by
  have e : (show FVec Ideal S1x128 .f32 from iblk m c 4 t) (ix2 0 k)
      = (show FVec Ideal S1x128 .f32 from V m c main_v17) (ix2 0 k) := by
    blk_ext [iblk, index_maps t]
  rw [e]
  entry_read
  pointwise

theorem blk11 (k : Fin 512) : (show FVec Ideal S1x512 .f32 from iblk m c 11 t) (ix2 0 k)
    = (show FVec Ideal S8x64 .f32 from m ((c : Thread nD τ).loc main_arg11)) (ix2 ⟨k.val / 64, by omega⟩ ⟨k.val % 64, by omega⟩) := by
  have e : (show FVec Ideal S1x512 .f32 from iblk m c 11 t) (ix2 0 k)
      = (show FVec Ideal S1x512 .f32 from V m c main_v18) (ix2 0 k) := by
    blk_ext [iblk, index_maps t]
  rw [e]
  entry_read
  pointwise

theorem blk12 (k : Fin 512) : (show FVec Ideal S1x512 .f32 from iblk m c 12 t) (ix2 0 k)
    = (show FVec Ideal S512 .f32 from m ((c : Thread nD τ).loc main_arg12)) (ix1 k) := by
  have e : (show FVec Ideal S1x512 .f32 from iblk m c 12 t) (ix2 0 k)
      = (show FVec Ideal S1x512 .f32 from V m c main_v19) (ix2 0 k) := by
    blk_ext [iblk, index_maps t]
  rw [e]
  entry_read
  pointwise

theorem blk13 (k : Fin 512) : (show FVec Ideal S1x512 .f32 from iblk m c 13 t) (ix2 0 k)
    = (show FVec Ideal S512 .f32 from m ((c : Thread nD τ).loc main_arg13)) (ix1 k) := by
  have e : (show FVec Ideal S1x512 .f32 from iblk m c 13 t) (ix2 0 k)
      = (show FVec Ideal S1x512 .f32 from V m c main_v20) (ix2 0 k) := by
    blk_ext [iblk, index_maps t]
  rw [e]
  entry_read
  pointwise

theorem blk14 (k j : Fin 512) : (show FVec Ideal S512x512 .bf16 from iblk m c 14 t) (ix2 k j)
    = if k.val / 64 = j.val / 64 then 1 else 0 := by
  have e : (show FVec Ideal S512x512 .bf16 from iblk m c 14 t) (ix2 k j)
      = (show FVec Ideal S512x512 .bf16 from V m c main_v8) (ix2 k j) := by
    blk_ext [iblk, index_maps t]
  rw [e]
  entry_read
  pointwise
  rw [shift, shift]
  by_cases h : k.val / 64 = j.val / 64
  · rw [if_pos h, h]
    show (((IntOp.cmpi .eq _ _).toNat : ℝ) : EReal) = 1
    simp [IntOp.cmpi]
  · have hne : (BitVec.ofNat 32 (k.val / 64) == BitVec.ofNat 32 (j.val / 64)) = false := by
      rw [beq_eq_false_iff_ne]
      intro e
      have := congrArg BitVec.toNat e
      simp only [BitVec.toNat_ofNat] at this
      omega
    rw [if_neg h]
    show (((IntOp.cmpi .eq _ _).toNat : ℝ) : EReal) = 0
    simp [IntOp.cmpi, hne]

theorem blk15 (k : Fin 512) (l : Fin 1024) : (show FVec Ideal S512x1024 .bf16 from iblk m c 15 t) (ix2 k l)
    = (show FVec Ideal S1024x1024 .f32 from m ((c : Thread nD τ).loc main_arg14)) (ix2 ⟨k.val, by omega⟩ l) := by
  have e : (show FVec Ideal S512x1024 .bf16 from iblk m c 15 t) (ix2 k l)
      = (show FVec Ideal S512x1024 .bf16 from V m c main_v22) (ix2 k l) := by
    blk_ext [iblk, index_maps t]
  rw [e]
  entry_read
  pointwise

theorem blk16 (k : Fin 512) (l : Fin 1024) : (show FVec Ideal S512x1024 .bf16 from iblk m c 16 t) (ix2 k l)
    = (show FVec Ideal S1024x1024 .f32 from m ((c : Thread nD τ).loc main_arg14)) (ix2 ⟨512 + k.val, by omega⟩ l) := by
  have e : (show FVec Ideal S512x1024 .bf16 from iblk m c 16 t) (ix2 k l)
      = (show FVec Ideal S512x1024 .bf16 from V m c main_v24) (ix2 k l) := by
    blk_ext [iblk, index_maps t]
  rw [e]
  entry_read
  pointwise

theorem blk17 (l : Fin 1024) : (show FVec Ideal S1x1024 .f32 from iblk m c 17 t) (ix2 0 l)
    = (show FVec Ideal S2x1024 .f32 from m ((c : Thread nD τ).loc main_arg15)) (ix2 0 l) := by
  have e : (show FVec Ideal S1x1024 .f32 from iblk m c 17 t) (ix2 0 l)
      = (show FVec Ideal S1x1024 .f32 from V m c main_v27) (ix2 0 l) := by
    blk_ext [iblk, index_maps t]
  rw [e]
  entry_read
  pointwise

theorem blk18 (l : Fin 1024) : (show FVec Ideal S1x1024 .f32 from iblk m c 18 t) (ix2 0 l)
    = (show FVec Ideal S2x1024 .f32 from m ((c : Thread nD τ).loc main_arg16)) (ix2 0 l) := by
  have e : (show FVec Ideal S1x1024 .f32 from iblk m c 18 t) (ix2 0 l)
      = (show FVec Ideal S1x1024 .f32 from V m c main_v30) (ix2 0 l) := by
    blk_ext [iblk, index_maps t]
  rw [e]
  entry_read
  pointwise

theorem blk19 (k : Fin 1024) (j : Fin 4096) : (show FVec Ideal S1024x4096 .bf16 from iblk m c 19 t) (ix2 k j)
    = (show FVec Ideal S1024x4096 .f32 from m ((c : Thread nD τ).loc main_arg17)) (ix2 k j) := by
  have e : (show FVec Ideal S1024x4096 .bf16 from iblk m c 19 t) (ix2 k j)
      = (show FVec Ideal S1024x4096 .bf16 from V m c main_v9) (ix2 k j) := by
    blk_ext [iblk, index_maps t]
  rw [e]
  entry_read
  pointwise

theorem blk20 (j : Fin 4096) (l : Fin 1024) : (show FVec Ideal S4096x1024 .bf16 from iblk m c 20 t) (ix2 j l)
    = (show FVec Ideal S4096x1024 .f32 from m ((c : Thread nD τ).loc main_arg18)) (ix2 j l) := by
  have e : (show FVec Ideal S4096x1024 .bf16 from iblk m c 20 t) (ix2 j l)
      = (show FVec Ideal S4096x1024 .bf16 from V m c main_v10) (ix2 j l) := by
    blk_ext [iblk, index_maps t]
  rw [e]
  entry_read
  pointwise

theorem blk21 (l : Fin 1024) : (show FVec Ideal S1x1024 .f32 from iblk m c 21 t) (ix2 0 l)
    = (show FVec Ideal S2x1024 .f32 from m ((c : Thread nD τ).loc main_arg15)) (ix2 1 l) := by
  have e : (show FVec Ideal S1x1024 .f32 from iblk m c 21 t) (ix2 0 l)
      = (show FVec Ideal S1x1024 .f32 from V m c main_v13) (ix2 0 l) := by
    blk_ext [iblk, index_maps t]
  rw [e]
  entry_read
  pointwise

theorem blk22 (l : Fin 1024) : (show FVec Ideal S1x1024 .f32 from iblk m c 22 t) (ix2 0 l)
    = (show FVec Ideal S2x1024 .f32 from m ((c : Thread nD τ).loc main_arg16)) (ix2 1 l) := by
  have e : (show FVec Ideal S1x1024 .f32 from iblk m c 22 t) (ix2 0 l)
      = (show FVec Ideal S1x1024 .f32 from V m c main_v16) (ix2 0 l) := by
    blk_ext [iblk, index_maps t]
  rw [e]
  entry_read
  pointwise

end

/-- What point `t` stores at row `r`, column `l` of its block. -/
theorem block_at (c : Dev nD) (t : Fin cfg0.N) (r : Fin 512) (l : Fin 1024) (R : Fin 16384) (hR : R.val = t.val * 512 + r.val) :
    stored (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
        (ix2 r l)
      = RefOdd.odd (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9))
        (m ((c : Thread nD τ).loc main_arg10)) (m ((c : Thread nD τ).loc main_arg11))
        (m ((c : Thread nD τ).loc main_arg12)) (m ((c : Thread nD τ).loc main_arg13))
        (m ((c : Thread nD τ).loc main_arg14)) (m ((c : Thread nD τ).loc main_arg15))
        (m ((c : Thread nD τ).loc main_arg16)) (m ((c : Thread nD τ).loc main_arg17))
        (m ((c : Thread nD τ).loc main_arg18)) R l := by
  have h0 := blk0 m c t r R hR
  have h1 := blk1 m c t r R hR
  have h2 := blk2 m c t r R hR
  have h3 := blk3 m c t r R hR
  have h4 := blk4 m c t
  have h5 := blk5 m c t r R hR
  have h6 := blk6 m c t r R hR
  have h7 := blk7 m c t r R hR
  have h8 := blk8 m c t r R hR
  have h9 := blk9 m c t r R hR
  have h10 := blk10 m c t r R hR
  have h11 := blk11 m c t
  have h12 := blk12 m c t
  have h13 := blk13 m c t
  have h14 := blk14 m c t
  have h15 := blk15 m c t
  have h16 := blk16 m c t
  have h17 := blk17 m c t
  have h18 := blk18 m c t
  have h19 := blk19 m c t
  have h20 := blk20 m c t
  have h21 := blk21 m c t
  have h22 := blk22 m c t
  rw [stored_at _ _ _ _ _ _ _ _ _ _ _ _ _ _ _ _ _ _ _ _ _ _ _ h14]
  simp only [joined, h0, h1, h2, h3, h4, h5, h6, h7, h8, h9, h10, h11, h12, h13, h15, h16, h17, h18, h19, h20, h21, h22]
  rfl

/-- So the result array ends at the layer's output. -/
theorem result (c : Dev nD) : (dats m 0 c).arrAt 23 (cfgs 0).N
    = fun i => RefOdd.odd (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9))
        (m ((c : Thread nD τ).loc main_arg10)) (m ((c : Thread nD τ).loc main_arg11))
        (m ((c : Thread nD τ).loc main_arg12)) (m ((c : Thread nD τ).loc main_arg13))
        (m ((c : Thread nD τ).loc main_arg14)) (m ((c : Thread nD τ).loc main_arg15))
        (m ((c : Thread nD τ).loc main_arg16)) (m ((c : Thread nD τ).loc main_arg17))
        (m ((c : Thread nD τ).loc main_arg18)) (i 0) (i 1) := by
  refine (dats m 0 c).arrAt_eq_of_covers 23 _ (by decide +kernel) fun t _ y => ?_
  blk_simp
  rw [after0_23]; unfold outsAt0; frame_out
  have ht : t.val < 32 := lt_of_lt_of_eq t.isLt N_0
  have hr : (y 0).val < 512 := (y 0).isLt
  obtain ⟨R, hR⟩ : ∃ R : Fin 16384, R.val = t.val * 512 + (y 0).val := ⟨⟨_, by omega⟩, rfl⟩
  have he : ((cfg0.win 23).blk t).view.emb y = ix2 R (y 1) := by
    blk_ext [index_maps t]
  rw [he]
  exact (congrArg _ (eq_ix2 y)).trans (block_at m c t (y 0) (y 1) R hR)

end Cert.Proof.OutOdd

set_option maxHeartbeats 3200000 in
/-- The call that closes an odd layer gives what its reference gives. -/
theorem Cert.Proof.OutOdd.algebraic : Cert.algebraic_Kernel5Ideal_Reference5Ideal := by
  pair_intro
  · run_from Cert.Kernel5Ideal.Gen.run_main m g
    exact hc.1 23
  · run_from Cert.Reference5Ideal.Value.run m' g'
    obtain ⟨h0, h1, h2, h3, h4, h5, h6, h7, h8, h9, h10, h11, h12, h13, h14, h15, h16, h17, h18⟩ := hagree c
    rw [← h15, ← h16, Cert.Proof.OutOdd.result m c]
    refine (show _ = Cert.Proof.RefOdd.last (StableHlo.launchContents m' c) from rfl).trans ?_
    funext i
    refine (congrArg _ (eq_ix2 i)).trans ((Cert.Proof.RefOdd.last_eq _ (i 0) (i 1)).trans ?_)
    rw [← h0, ← h1, ← h2, ← h3, ← h4, ← h5, ← h6, ← h7, ← h8, ← h9, ← h10, ← h11, ← h12, ← h13, ← h14, ← h15, ← h16, ← h17, ← h18]

end
-- ==== Proof.lean ====
/-
  The certificate: the frames of the gated delta recurrence, of the projections and of the two calls that end the layers,
  and that each computes its reference's mathematics, the recurrence at finite arguments.
-/
module

public import proofs.«01_k».proof.Defs
public import proofs.«01_k».proof.Proof.Facts
public import proofs.«01_k».proof.Proof.Frames
public import proofs.«01_k».proof.Proof.GdnFrames
public import proofs.«01_k».proof.Proof.Gdn
public import proofs.«01_k».proof.Proof.Proj
public import proofs.«01_k».proof.Proof.ProjT
public import proofs.«01_k».proof.Proof.OutEven
public import proofs.«01_k».proof.Proof.OutOdd

@[expose] public section

noncomputable section

namespace Cert.Proof

theorem claim : Cert.Claim :=
  ⟨Cert.Kernel.Gen.facts, Cert.KernelIdeal.Gen.facts, Cert.ReferenceIdeal.Gen.facts,
    Facts.kernel2, Cert.Kernel2Ideal.Gen.facts, Cert.Reference2Ideal.Gen.facts,
    Facts.kernel3, Cert.Kernel3Ideal.Gen.facts, Cert.Reference3Ideal.Gen.facts,
    Facts.kernel4, Cert.Kernel4Ideal.Gen.facts, Cert.Reference4Ideal.Gen.facts,
    Facts.kernel5, Cert.Kernel5Ideal.Gen.facts, Cert.Reference5Ideal.Gen.facts,
    Gdn.preFinite,
    Gdn.kernel, Gdn.kernelIdeal, Gdn.kernelIdealFinite, Gdn.reference, Gdn.referenceFinite,
    Frames.kernel2, Frames.kernel2Ideal, Frames.reference2,
    Frames.kernel3, Frames.kernel3Ideal, Frames.reference3,
    Frames.kernel4, Frames.kernel4Ideal, Frames.reference4,
    Frames.kernel5, Frames.kernel5Ideal, Frames.reference5,
    trivial, trivial, trivial, trivial, trivial,
    Gdn.algebraic, Proj.algebraic, ProjT.algebraic, OutEven.algebraic, OutOdd.algebraic⟩

end Cert.Proof

end
